-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_scores [hPre_finite_scores : Cert.Pre_finite_scores.Facts] (m : (ℓ : Loc Cert.AttnIdeal.nD Cert.AttnIdeal.τ Cert.AttnIdeal.sig) → Buf (Elt Ideal) ℓ) : Prop :=
  ∀ c : Dev Cert.AttnIdeal.nD,
    (Cert.Pre_finite_scores.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_scores [hPre_finite_scores : Cert.Pre_finite_scores.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_scores.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5))) = (fun _ => 1#1)

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateRefIdeal (m : (ℓ : Loc Cert.GateRefIdeal.nD Cert.GateRefIdeal.τ Cert.GateRefIdeal.sig) → Buf (Elt Ideal) ℓ) : Prop :=
  True

def Pre_Dt (m : (ℓ : Loc Cert.Dt.nD Cert.Dt.τ Cert.Dt.sig) → Buf (Elt Bits) ℓ) : Prop :=
  True

def Pre_DtIdeal (m : (ℓ : Loc Cert.DtIdeal.nD Cert.DtIdeal.τ Cert.DtIdeal.sig) → Buf (Elt Ideal) ℓ) : Prop :=
  True

def Pre_DtRefIdeal (m : (ℓ : Loc Cert.DtRefIdeal.nD Cert.DtRefIdeal.τ Cert.DtRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_Swiglu (m : (ℓ : Loc Cert.Swiglu.nD Cert.Swiglu.τ Cert.Swiglu.sig) → Buf (Elt Bits) ℓ) : Prop :=
  True

def Pre_SwigluIdeal (m : (ℓ : Loc Cert.SwigluIdeal.nD Cert.SwigluIdeal.τ Cert.SwigluIdeal.sig) → Buf (Elt Ideal) ℓ) : Prop :=
  True

def Pre_SwigluRefIdeal (m : (ℓ : Loc Cert.SwigluRefIdeal.nD Cert.SwigluRefIdeal.τ Cert.SwigluRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_LnOut (m : (ℓ : Loc Cert.LnOut.nD Cert.LnOut.τ Cert.LnOut.sig) → Buf (Elt Bits) ℓ) : Prop :=
  True

def Pre_LnOutIdeal (m : (ℓ : Loc Cert.LnOutIdeal.nD Cert.LnOutIdeal.τ Cert.LnOutIdeal.sig) → Buf (Elt Ideal) ℓ) : Prop :=
  True

def Pre_LnOutRefIdeal (m : (ℓ : Loc Cert.LnOutRefIdeal.nD Cert.LnOutRefIdeal.τ Cert.LnOutRefIdeal.sig) → Buf (Elt Ideal) ℓ) : Prop :=
  True

def Pre_LnMod (m : (ℓ : Loc Cert.LnMod.nD Cert.LnMod.τ Cert.LnMod.sig) → Buf (Elt Bits) ℓ) : Prop :=
  True

def Pre_LnModIdeal (m : (ℓ : Loc Cert.LnModIdeal.nD Cert.LnModIdeal.τ Cert.LnModIdeal.sig) → Buf (Elt Ideal) ℓ) : Prop :=
  True

def Pre_LnModRefIdeal (m : (ℓ : Loc Cert.LnModRefIdeal.nD Cert.LnModRefIdeal.τ Cert.LnModRefIdeal.sig) → Buf (Elt Ideal) ℓ) : Prop :=
  True

def Pre_Modulate (m : (ℓ : Loc Cert.Modulate.nD Cert.Modulate.τ Cert.Modulate.sig) → Buf (Elt Bits) ℓ) : Prop :=
  True

def Pre_ModulateIdeal (m : (ℓ : Loc Cert.ModulateIdeal.nD Cert.ModulateIdeal.τ Cert.ModulateIdeal.sig) → Buf (Elt Ideal) ℓ) : Prop :=
  True

def Pre_ModulateRefIdeal (m : (ℓ : Loc Cert.ModulateRefIdeal.nD Cert.ModulateRefIdeal.τ Cert.ModulateRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def Pre_State (m : (ℓ : Loc Cert.State.nD Cert.State.τ Cert.State.sig) → Buf (Elt Bits) ℓ) : Prop :=
  True

def Pre_StateIdeal (m : (ℓ : Loc Cert.StateIdeal.nD Cert.StateIdeal.τ Cert.StateIdeal.sig) → Buf (Elt Ideal) ℓ) : Prop :=
  True

def Pre_StateIdeal_finite_steps [hPre_finite_steps : Cert.Pre_finite_steps.Facts] (m : (ℓ : Loc Cert.StateIdeal.nD Cert.StateIdeal.τ Cert.StateIdeal.sig) → Buf (Elt Ideal) ℓ) : Prop :=
  ∀ c : Dev Cert.StateIdeal.nD,
    (Cert.Pre_finite_steps.fn (F := Ideal) (m ((c.tc : Thread Cert.StateIdeal.nD Cert.StateIdeal.τ).loc Cert.StateIdeal.main_arg0)) (m ((c.tc : Thread Cert.StateIdeal.nD Cert.StateIdeal.τ).loc Cert.StateIdeal.main_arg1))) = (fun _ => 1#1)

def Pre_StateRefIdeal (m : (ℓ : Loc Cert.StateRefIdeal.nD Cert.StateRefIdeal.τ Cert.StateRefIdeal.sig) → Buf (Elt Ideal) ℓ) : Prop :=
  True

def Pre_StateRefIdeal_finite_steps [hPre_finite_steps : Cert.Pre_finite_steps.Facts] (m : (ℓ : Loc Cert.StateRefIdeal.nD Cert.StateRefIdeal.τ Cert.StateRefIdeal.sig) → Buf (Elt Ideal) ℓ) : Prop :=
  ∀ c : Dev Cert.StateRefIdeal.nD,
    (Cert.Pre_finite_steps.fn (F := Ideal) (m ((c.tc : Thread Cert.StateRefIdeal.nD Cert.StateRefIdeal.τ).loc Cert.StateRefIdeal.main_arg0)) (m ((c.tc : Thread Cert.StateRefIdeal.nD Cert.StateRefIdeal.τ).loc Cert.StateRefIdeal.main_arg1))) = (fun _ => 1#1)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5))
      ∧ r.2.sem = fun _ => 0)

def quiescent_AttnIdeal_pre_finite_scores [hAttnIdeal : Cert.AttnIdeal.Facts] [hPre_finite_scores : Cert.Pre_finite_scores.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_scores m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5))
      ∧ r.2.sem = fun _ => 0)

def quiescent_AttnRefIdeal_pre_finite_scores [hAttnRefIdeal : Cert.AttnRefIdeal.Facts] [hPre_finite_scores : Cert.Pre_finite_scores.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_scores m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1))
      ∧ r.2.sem = fun _ => 0)

def quiescent_Dt [hDt : Cert.Dt.Facts] : Prop :=
  ∀ (m : (ℓ : Loc Cert.Dt.nD Cert.Dt.τ Cert.Dt.sig) → Buf (Elt Bits) ℓ) (g : Dev Cert.Dt.nD → PrngReg), Pre_Dt m →
    θ_run (Cert.Dt.defs (F := Bits)) (onTc (τ := Cert.Dt.τ) (Cert.Dt.main (F := Bits))) ⟨m, fun _ => 0, g⟩ (fun r => (∀ c : Dev Cert.Dt.nD,
      r.2.mem ((c.tc : Thread Cert.Dt.nD Cert.Dt.τ).loc Cert.Dt.main_arg0) = m ((c.tc : Thread Cert.Dt.nD Cert.Dt.τ).loc Cert.Dt.main_arg0)
      ∧ r.2.mem ((c.tc : Thread Cert.Dt.nD Cert.Dt.τ).loc Cert.Dt.main_arg1) = m ((c.tc : Thread Cert.Dt.nD Cert.Dt.τ).loc Cert.Dt.main_arg1))
      ∧ r.2.sem = fun _ => 0)

def quiescent_DtIdeal [hDtIdeal : Cert.DtIdeal.Facts] : Prop :=
  ∀ (m : (ℓ : Loc Cert.DtIdeal.nD Cert.DtIdeal.τ Cert.DtIdeal.sig) → Buf (Elt Ideal) ℓ) (g : Dev Cert.DtIdeal.nD → PrngReg), Pre_DtIdeal m →
    θ_run (Cert.DtIdeal.defs (F := Ideal)) (onTc (τ := Cert.DtIdeal.τ) (Cert.DtIdeal.main (F := Ideal))) ⟨m, fun _ => 0, g⟩ (fun r => (∀ c : Dev Cert.DtIdeal.nD,
      r.2.mem ((c.tc : Thread Cert.DtIdeal.nD Cert.DtIdeal.τ).loc Cert.DtIdeal.main_arg0) = m ((c.tc : Thread Cert.DtIdeal.nD Cert.DtIdeal.τ).loc Cert.DtIdeal.main_arg0)
      ∧ r.2.mem ((c.tc : Thread Cert.DtIdeal.nD Cert.DtIdeal.τ).loc Cert.DtIdeal.main_arg1) = m ((c.tc : Thread Cert.DtIdeal.nD Cert.DtIdeal.τ).loc Cert.DtIdeal.main_arg1))
      ∧ r.2.sem = fun _ => 0)

def quiescent_DtRefIdeal [hDtRefIdeal : Cert.DtRefIdeal.Facts] : Prop :=
  ∀ (m : (ℓ : Loc Cert.DtRefIdeal.nD Cert.DtRefIdeal.τ Cert.DtRefIdeal.sig) → Buf (Elt Ideal) ℓ) (g : Dev Cert.DtRefIdeal.nD → PrngReg), Pre_DtRefIdeal m →
    θ_run (Cert.DtRefIdeal.defs (F := Ideal)) (onTc (τ := Cert.DtRefIdeal.τ) (Cert.DtRefIdeal.main (F := Ideal))) ⟨m, fun _ => 0, g⟩ (fun r => (∀ c : Dev Cert.DtRefIdeal.nD,
      r.2.mem ((c.tc : Thread Cert.DtRefIdeal.nD Cert.DtRefIdeal.τ).loc Cert.DtRefIdeal.main_arg0) = m ((c.tc : Thread Cert.DtRefIdeal.nD Cert.DtRefIdeal.τ).loc Cert.DtRefIdeal.main_arg0)
      ∧ r.2.mem ((c.tc : Thread Cert.DtRefIdeal.nD Cert.DtRefIdeal.τ).loc Cert.DtRefIdeal.main_arg1) = m ((c.tc : Thread Cert.DtRefIdeal.nD Cert.DtRefIdeal.τ).loc Cert.DtRefIdeal.main_arg1))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1))
      ∧ r.2.sem = fun _ => 0)

def quiescent_Swiglu [hSwiglu : Cert.Swiglu.Facts] : Prop :=
  ∀ (m : (ℓ : Loc Cert.Swiglu.nD Cert.Swiglu.τ Cert.Swiglu.sig) → Buf (Elt Bits) ℓ) (g : Dev Cert.Swiglu.nD → PrngReg), Pre_Swiglu m →
    θ_run (Cert.Swiglu.defs (F := Bits)) (onTc (τ := Cert.Swiglu.τ) (Cert.Swiglu.main (F := Bits))) ⟨m, fun _ => 0, g⟩ (fun r => (∀ c : Dev Cert.Swiglu.nD,
      r.2.mem ((c.tc : Thread Cert.Swiglu.nD Cert.Swiglu.τ).loc Cert.Swiglu.main_arg0) = m ((c.tc : Thread Cert.Swiglu.nD Cert.Swiglu.τ).loc Cert.Swiglu.main_arg0)
      ∧ r.2.mem ((c.tc : Thread Cert.Swiglu.nD Cert.Swiglu.τ).loc Cert.Swiglu.main_arg1) = m ((c.tc : Thread Cert.Swiglu.nD Cert.Swiglu.τ).loc Cert.Swiglu.main_arg1)
      ∧ r.2.mem ((c.tc : Thread Cert.Swiglu.nD Cert.Swiglu.τ).loc Cert.Swiglu.main_arg2) = m ((c.tc : Thread Cert.Swiglu.nD Cert.Swiglu.τ).loc Cert.Swiglu.main_arg2))
      ∧ r.2.sem = fun _ => 0)

def quiescent_SwigluIdeal [hSwigluIdeal : Cert.SwigluIdeal.Facts] : Prop :=
  ∀ (m : (ℓ : Loc Cert.SwigluIdeal.nD Cert.SwigluIdeal.τ Cert.SwigluIdeal.sig) → Buf (Elt Ideal) ℓ) (g : Dev Cert.SwigluIdeal.nD → PrngReg), Pre_SwigluIdeal m →
    θ_run (Cert.SwigluIdeal.defs (F := Ideal)) (onTc (τ := Cert.SwigluIdeal.τ) (Cert.SwigluIdeal.main (F := Ideal))) ⟨m, fun _ => 0, g⟩ (fun r => (∀ c : Dev Cert.SwigluIdeal.nD,
      r.2.mem ((c.tc : Thread Cert.SwigluIdeal.nD Cert.SwigluIdeal.τ).loc Cert.SwigluIdeal.main_arg0) = m ((c.tc : Thread Cert.SwigluIdeal.nD Cert.SwigluIdeal.τ).loc Cert.SwigluIdeal.main_arg0)
      ∧ r.2.mem ((c.tc : Thread Cert.SwigluIdeal.nD Cert.SwigluIdeal.τ).loc Cert.SwigluIdeal.main_arg1) = m ((c.tc : Thread Cert.SwigluIdeal.nD Cert.SwigluIdeal.τ).loc Cert.SwigluIdeal.main_arg1)
      ∧ r.2.mem ((c.tc : Thread Cert.SwigluIdeal.nD Cert.SwigluIdeal.τ).loc Cert.SwigluIdeal.main_arg2) = m ((c.tc : Thread Cert.SwigluIdeal.nD Cert.SwigluIdeal.τ).loc Cert.SwigluIdeal.main_arg2))
      ∧ r.2.sem = fun _ => 0)

def quiescent_SwigluRefIdeal [hSwigluRefIdeal : Cert.SwigluRefIdeal.Facts] : Prop :=
  ∀ (m : (ℓ : Loc Cert.SwigluRefIdeal.nD Cert.SwigluRefIdeal.τ Cert.SwigluRefIdeal.sig) → Buf (Elt Ideal) ℓ) (g : Dev Cert.SwigluRefIdeal.nD → PrngReg), Pre_SwigluRefIdeal m →
    θ_run (Cert.SwigluRefIdeal.defs (F := Ideal)) (onTc (τ := Cert.SwigluRefIdeal.τ) (Cert.SwigluRefIdeal.main (F := Ideal))) ⟨m, fun _ => 0, g⟩ (fun r => (∀ c : Dev Cert.SwigluRefIdeal.nD,
      r.2.mem ((c.tc : Thread Cert.SwigluRefIdeal.nD Cert.SwigluRefIdeal.τ).loc Cert.SwigluRefIdeal.main_arg0) = m ((c.tc : Thread Cert.SwigluRefIdeal.nD Cert.SwigluRefIdeal.τ).loc Cert.SwigluRefIdeal.main_arg0)
      ∧ r.2.mem ((c.tc : Thread Cert.SwigluRefIdeal.nD Cert.SwigluRefIdeal.τ).loc Cert.SwigluRefIdeal.main_arg1) = m ((c.tc : Thread Cert.SwigluRefIdeal.nD Cert.SwigluRefIdeal.τ).loc Cert.SwigluRefIdeal.main_arg1)
      ∧ r.2.mem ((c.tc : Thread Cert.SwigluRefIdeal.nD Cert.SwigluRefIdeal.τ).loc Cert.SwigluRefIdeal.main_arg2) = m ((c.tc : Thread Cert.SwigluRefIdeal.nD Cert.SwigluRefIdeal.τ).loc Cert.SwigluRefIdeal.main_arg2))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2))
      ∧ r.2.sem = fun _ => 0)

def quiescent_LnOut [hLnOut : Cert.LnOut.Facts] : Prop :=
  ∀ (m : (ℓ : Loc Cert.LnOut.nD Cert.LnOut.τ Cert.LnOut.sig) → Buf (Elt Bits) ℓ) (g : Dev Cert.LnOut.nD → PrngReg), Pre_LnOut m →
    θ_run (Cert.LnOut.defs (F := Bits)) (onTc (τ := Cert.LnOut.τ) (Cert.LnOut.main (F := Bits))) ⟨m, fun _ => 0, g⟩ (fun r => (∀ c : Dev Cert.LnOut.nD,
      r.2.mem ((c.tc : Thread Cert.LnOut.nD Cert.LnOut.τ).loc Cert.LnOut.main_arg0) = m ((c.tc : Thread Cert.LnOut.nD Cert.LnOut.τ).loc Cert.LnOut.main_arg0)
      ∧ r.2.mem ((c.tc : Thread Cert.LnOut.nD Cert.LnOut.τ).loc Cert.LnOut.main_arg1) = m ((c.tc : Thread Cert.LnOut.nD Cert.LnOut.τ).loc Cert.LnOut.main_arg1)
      ∧ r.2.mem ((c.tc : Thread Cert.LnOut.nD Cert.LnOut.τ).loc Cert.LnOut.main_arg2) = m ((c.tc : Thread Cert.LnOut.nD Cert.LnOut.τ).loc Cert.LnOut.main_arg2)
      ∧ r.2.mem ((c.tc : Thread Cert.LnOut.nD Cert.LnOut.τ).loc Cert.LnOut.main_arg3) = m ((c.tc : Thread Cert.LnOut.nD Cert.LnOut.τ).loc Cert.LnOut.main_arg3)
      ∧ r.2.mem ((c.tc : Thread Cert.LnOut.nD Cert.LnOut.τ).loc Cert.LnOut.main_arg4) = m ((c.tc : Thread Cert.LnOut.nD Cert.LnOut.τ).loc Cert.LnOut.main_arg4))
      ∧ r.2.sem = fun _ => 0)

def quiescent_LnOutIdeal [hLnOutIdeal : Cert.LnOutIdeal.Facts] : Prop :=
  ∀ (m : (ℓ : Loc Cert.LnOutIdeal.nD Cert.LnOutIdeal.τ Cert.LnOutIdeal.sig) → Buf (Elt Ideal) ℓ) (g : Dev Cert.LnOutIdeal.nD → PrngReg), Pre_LnOutIdeal m →
    θ_run (Cert.LnOutIdeal.defs (F := Ideal)) (onTc (τ := Cert.LnOutIdeal.τ) (Cert.LnOutIdeal.main (F := Ideal))) ⟨m, fun _ => 0, g⟩ (fun r => (∀ c : Dev Cert.LnOutIdeal.nD,
      r.2.mem ((c.tc : Thread Cert.LnOutIdeal.nD Cert.LnOutIdeal.τ).loc Cert.LnOutIdeal.main_arg0) = m ((c.tc : Thread Cert.LnOutIdeal.nD Cert.LnOutIdeal.τ).loc Cert.LnOutIdeal.main_arg0)
      ∧ r.2.mem ((c.tc : Thread Cert.LnOutIdeal.nD Cert.LnOutIdeal.τ).loc Cert.LnOutIdeal.main_arg1) = m ((c.tc : Thread Cert.LnOutIdeal.nD Cert.LnOutIdeal.τ).loc Cert.LnOutIdeal.main_arg1)
      ∧ r.2.mem ((c.tc : Thread Cert.LnOutIdeal.nD Cert.LnOutIdeal.τ).loc Cert.LnOutIdeal.main_arg2) = m ((c.tc : Thread Cert.LnOutIdeal.nD Cert.LnOutIdeal.τ).loc Cert.LnOutIdeal.main_arg2)
      ∧ r.2.mem ((c.tc : Thread Cert.LnOutIdeal.nD Cert.LnOutIdeal.τ).loc Cert.LnOutIdeal.main_arg3) = m ((c.tc : Thread Cert.LnOutIdeal.nD Cert.LnOutIdeal.τ).loc Cert.LnOutIdeal.main_arg3)
      ∧ r.2.mem ((c.tc : Thread Cert.LnOutIdeal.nD Cert.LnOutIdeal.τ).loc Cert.LnOutIdeal.main_arg4) = m ((c.tc : Thread Cert.LnOutIdeal.nD Cert.LnOutIdeal.τ).loc Cert.LnOutIdeal.main_arg4))
      ∧ r.2.sem = fun _ => 0)

def quiescent_LnOutRefIdeal [hLnOutRefIdeal : Cert.LnOutRefIdeal.Facts] : Prop :=
  ∀ (m : (ℓ : Loc Cert.LnOutRefIdeal.nD Cert.LnOutRefIdeal.τ Cert.LnOutRefIdeal.sig) → Buf (Elt Ideal) ℓ) (g : Dev Cert.LnOutRefIdeal.nD → PrngReg), Pre_LnOutRefIdeal m →
    θ_run (Cert.LnOutRefIdeal.defs (F := Ideal)) (onTc (τ := Cert.LnOutRefIdeal.τ) (Cert.LnOutRefIdeal.main (F := Ideal))) ⟨m, fun _ => 0, g⟩ (fun r => (∀ c : Dev Cert.LnOutRefIdeal.nD,
      r.2.mem ((c.tc : Thread Cert.LnOutRefIdeal.nD Cert.LnOutRefIdeal.τ).loc Cert.LnOutRefIdeal.main_arg0) = m ((c.tc : Thread Cert.LnOutRefIdeal.nD Cert.LnOutRefIdeal.τ).loc Cert.LnOutRefIdeal.main_arg0)
      ∧ r.2.mem ((c.tc : Thread Cert.LnOutRefIdeal.nD Cert.LnOutRefIdeal.τ).loc Cert.LnOutRefIdeal.main_arg1) = m ((c.tc : Thread Cert.LnOutRefIdeal.nD Cert.LnOutRefIdeal.τ).loc Cert.LnOutRefIdeal.main_arg1)
      ∧ r.2.mem ((c.tc : Thread Cert.LnOutRefIdeal.nD Cert.LnOutRefIdeal.τ).loc Cert.LnOutRefIdeal.main_arg2) = m ((c.tc : Thread Cert.LnOutRefIdeal.nD Cert.LnOutRefIdeal.τ).loc Cert.LnOutRefIdeal.main_arg2)
      ∧ r.2.mem ((c.tc : Thread Cert.LnOutRefIdeal.nD Cert.LnOutRefIdeal.τ).loc Cert.LnOutRefIdeal.main_arg3) = m ((c.tc : Thread Cert.LnOutRefIdeal.nD Cert.LnOutRefIdeal.τ).loc Cert.LnOutRefIdeal.main_arg3)
      ∧ r.2.mem ((c.tc : Thread Cert.LnOutRefIdeal.nD Cert.LnOutRefIdeal.τ).loc Cert.LnOutRefIdeal.main_arg4) = m ((c.tc : Thread Cert.LnOutRefIdeal.nD Cert.LnOutRefIdeal.τ).loc Cert.LnOutRefIdeal.main_arg4))
      ∧ r.2.sem = fun _ => 0)

def quiescent_LnMod [hLnMod : Cert.LnMod.Facts] : Prop :=
  ∀ (m : (ℓ : Loc Cert.LnMod.nD Cert.LnMod.τ Cert.LnMod.sig) → Buf (Elt Bits) ℓ) (g : Dev Cert.LnMod.nD → PrngReg), Pre_LnMod m →
    θ_run (Cert.LnMod.defs (F := Bits)) (onTc (τ := Cert.LnMod.τ) (Cert.LnMod.main (F := Bits))) ⟨m, fun _ => 0, g⟩ (fun r => (∀ c : Dev Cert.LnMod.nD,
      r.2.mem ((c.tc : Thread Cert.LnMod.nD Cert.LnMod.τ).loc Cert.LnMod.main_arg0) = m ((c.tc : Thread Cert.LnMod.nD Cert.LnMod.τ).loc Cert.LnMod.main_arg0)
      ∧ r.2.mem ((c.tc : Thread Cert.LnMod.nD Cert.LnMod.τ).loc Cert.LnMod.main_arg1) = m ((c.tc : Thread Cert.LnMod.nD Cert.LnMod.τ).loc Cert.LnMod.main_arg1)
      ∧ r.2.mem ((c.tc : Thread Cert.LnMod.nD Cert.LnMod.τ).loc Cert.LnMod.main_arg2) = m ((c.tc : Thread Cert.LnMod.nD Cert.LnMod.τ).loc Cert.LnMod.main_arg2)
      ∧ r.2.mem ((c.tc : Thread Cert.LnMod.nD Cert.LnMod.τ).loc Cert.LnMod.main_arg3) = m ((c.tc : Thread Cert.LnMod.nD Cert.LnMod.τ).loc Cert.LnMod.main_arg3)
      ∧ r.2.mem ((c.tc : Thread Cert.LnMod.nD Cert.LnMod.τ).loc Cert.LnMod.main_arg4) = m ((c.tc : Thread Cert.LnMod.nD Cert.LnMod.τ).loc Cert.LnMod.main_arg4))
      ∧ r.2.sem = fun _ => 0)

def quiescent_LnModIdeal [hLnModIdeal : Cert.LnModIdeal.Facts] : Prop :=
  ∀ (m : (ℓ : Loc Cert.LnModIdeal.nD Cert.LnModIdeal.τ Cert.LnModIdeal.sig) → Buf (Elt Ideal) ℓ) (g : Dev Cert.LnModIdeal.nD → PrngReg), Pre_LnModIdeal m →
    θ_run (Cert.LnModIdeal.defs (F := Ideal)) (onTc (τ := Cert.LnModIdeal.τ) (Cert.LnModIdeal.main (F := Ideal))) ⟨m, fun _ => 0, g⟩ (fun r => (∀ c : Dev Cert.LnModIdeal.nD,
      r.2.mem ((c.tc : Thread Cert.LnModIdeal.nD Cert.LnModIdeal.τ).loc Cert.LnModIdeal.main_arg0) = m ((c.tc : Thread Cert.LnModIdeal.nD Cert.LnModIdeal.τ).loc Cert.LnModIdeal.main_arg0)
      ∧ r.2.mem ((c.tc : Thread Cert.LnModIdeal.nD Cert.LnModIdeal.τ).loc Cert.LnModIdeal.main_arg1) = m ((c.tc : Thread Cert.LnModIdeal.nD Cert.LnModIdeal.τ).loc Cert.LnModIdeal.main_arg1)
      ∧ r.2.mem ((c.tc : Thread Cert.LnModIdeal.nD Cert.LnModIdeal.τ).loc Cert.LnModIdeal.main_arg2) = m ((c.tc : Thread Cert.LnModIdeal.nD Cert.LnModIdeal.τ).loc Cert.LnModIdeal.main_arg2)
      ∧ r.2.mem ((c.tc : Thread Cert.LnModIdeal.nD Cert.LnModIdeal.τ).loc Cert.LnModIdeal.main_arg3) = m ((c.tc : Thread Cert.LnModIdeal.nD Cert.LnModIdeal.τ).loc Cert.LnModIdeal.main_arg3)
      ∧ r.2.mem ((c.tc : Thread Cert.LnModIdeal.nD Cert.LnModIdeal.τ).loc Cert.LnModIdeal.main_arg4) = m ((c.tc : Thread Cert.LnModIdeal.nD Cert.LnModIdeal.τ).loc Cert.LnModIdeal.main_arg4))
      ∧ r.2.sem = fun _ => 0)

def quiescent_LnModRefIdeal [hLnModRefIdeal : Cert.LnModRefIdeal.Facts] : Prop :=
  ∀ (m : (ℓ : Loc Cert.LnModRefIdeal.nD Cert.LnModRefIdeal.τ Cert.LnModRefIdeal.sig) → Buf (Elt Ideal) ℓ) (g : Dev Cert.LnModRefIdeal.nD → PrngReg), Pre_LnModRefIdeal m →
    θ_run (Cert.LnModRefIdeal.defs (F := Ideal)) (onTc (τ := Cert.LnModRefIdeal.τ) (Cert.LnModRefIdeal.main (F := Ideal))) ⟨m, fun _ => 0, g⟩ (fun r => (∀ c : Dev Cert.LnModRefIdeal.nD,
      r.2.mem ((c.tc : Thread Cert.LnModRefIdeal.nD Cert.LnModRefIdeal.τ).loc Cert.LnModRefIdeal.main_arg0) = m ((c.tc : Thread Cert.LnModRefIdeal.nD Cert.LnModRefIdeal.τ).loc Cert.LnModRefIdeal.main_arg0)
      ∧ r.2.mem ((c.tc : Thread Cert.LnModRefIdeal.nD Cert.LnModRefIdeal.τ).loc Cert.LnModRefIdeal.main_arg1) = m ((c.tc : Thread Cert.LnModRefIdeal.nD Cert.LnModRefIdeal.τ).loc Cert.LnModRefIdeal.main_arg1)
      ∧ r.2.mem ((c.tc : Thread Cert.LnModRefIdeal.nD Cert.LnModRefIdeal.τ).loc Cert.LnModRefIdeal.main_arg2) = m ((c.tc : Thread Cert.LnModRefIdeal.nD Cert.LnModRefIdeal.τ).loc Cert.LnModRefIdeal.main_arg2)
      ∧ r.2.mem ((c.tc : Thread Cert.LnModRefIdeal.nD Cert.LnModRefIdeal.τ).loc Cert.LnModRefIdeal.main_arg3) = m ((c.tc : Thread Cert.LnModRefIdeal.nD Cert.LnModRefIdeal.τ).loc Cert.LnModRefIdeal.main_arg3)
      ∧ r.2.mem ((c.tc : Thread Cert.LnModRefIdeal.nD Cert.LnModRefIdeal.τ).loc Cert.LnModRefIdeal.main_arg4) = m ((c.tc : Thread Cert.LnModRefIdeal.nD Cert.LnModRefIdeal.τ).loc Cert.LnModRefIdeal.main_arg4))
      ∧ r.2.sem = fun _ => 0)

def quiescent_Modulate [hModulate : Cert.Modulate.Facts] : Prop :=
  ∀ (m : (ℓ : Loc Cert.Modulate.nD Cert.Modulate.τ Cert.Modulate.sig) → Buf (Elt Bits) ℓ) (g : Dev Cert.Modulate.nD → PrngReg), Pre_Modulate m →
    θ_run (Cert.Modulate.defs (F := Bits)) (onTc (τ := Cert.Modulate.τ) (Cert.Modulate.main (F := Bits))) ⟨m, fun _ => 0, g⟩ (fun r => (∀ c : Dev Cert.Modulate.nD,
      r.2.mem ((c.tc : Thread Cert.Modulate.nD Cert.Modulate.τ).loc Cert.Modulate.main_arg0) = m ((c.tc : Thread Cert.Modulate.nD Cert.Modulate.τ).loc Cert.Modulate.main_arg0)
      ∧ r.2.mem ((c.tc : Thread Cert.Modulate.nD Cert.Modulate.τ).loc Cert.Modulate.main_arg1) = m ((c.tc : Thread Cert.Modulate.nD Cert.Modulate.τ).loc Cert.Modulate.main_arg1))
      ∧ r.2.sem = fun _ => 0)

def quiescent_ModulateIdeal [hModulateIdeal : Cert.ModulateIdeal.Facts] : Prop :=
  ∀ (m : (ℓ : Loc Cert.ModulateIdeal.nD Cert.ModulateIdeal.τ Cert.ModulateIdeal.sig) → Buf (Elt Ideal) ℓ) (g : Dev Cert.ModulateIdeal.nD → PrngReg), Pre_ModulateIdeal m →
    θ_run (Cert.ModulateIdeal.defs (F := Ideal)) (onTc (τ := Cert.ModulateIdeal.τ) (Cert.ModulateIdeal.main (F := Ideal))) ⟨m, fun _ => 0, g⟩ (fun r => (∀ c : Dev Cert.ModulateIdeal.nD,
      r.2.mem ((c.tc : Thread Cert.ModulateIdeal.nD Cert.ModulateIdeal.τ).loc Cert.ModulateIdeal.main_arg0) = m ((c.tc : Thread Cert.ModulateIdeal.nD Cert.ModulateIdeal.τ).loc Cert.ModulateIdeal.main_arg0)
      ∧ r.2.mem ((c.tc : Thread Cert.ModulateIdeal.nD Cert.ModulateIdeal.τ).loc Cert.ModulateIdeal.main_arg1) = m ((c.tc : Thread Cert.ModulateIdeal.nD Cert.ModulateIdeal.τ).loc Cert.ModulateIdeal.main_arg1))
      ∧ r.2.sem = fun _ => 0)

def quiescent_ModulateRefIdeal [hModulateRefIdeal : Cert.ModulateRefIdeal.Facts] : Prop :=
  ∀ (m : (ℓ : Loc Cert.ModulateRefIdeal.nD Cert.ModulateRefIdeal.τ Cert.ModulateRefIdeal.sig) → Buf (Elt Ideal) ℓ) (g : Dev Cert.ModulateRefIdeal.nD → PrngReg), Pre_ModulateRefIdeal m →
    θ_run (Cert.ModulateRefIdeal.defs (F := Ideal)) (onTc (τ := Cert.ModulateRefIdeal.τ) (Cert.ModulateRefIdeal.main (F := Ideal))) ⟨m, fun _ => 0, g⟩ (fun r => (∀ c : Dev Cert.ModulateRefIdeal.nD,
      r.2.mem ((c.tc : Thread Cert.ModulateRefIdeal.nD Cert.ModulateRefIdeal.τ).loc Cert.ModulateRefIdeal.main_arg0) = m ((c.tc : Thread Cert.ModulateRefIdeal.nD Cert.ModulateRefIdeal.τ).loc Cert.ModulateRefIdeal.main_arg0)
      ∧ r.2.mem ((c.tc : Thread Cert.ModulateRefIdeal.nD Cert.ModulateRefIdeal.τ).loc Cert.ModulateRefIdeal.main_arg1) = m ((c.tc : Thread Cert.ModulateRefIdeal.nD Cert.ModulateRefIdeal.τ).loc Cert.ModulateRefIdeal.main_arg1))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2))
      ∧ r.2.sem = fun _ => 0)

def quiescent_State [hState : Cert.State.Facts] : Prop :=
  ∀ (m : (ℓ : Loc Cert.State.nD Cert.State.τ Cert.State.sig) → Buf (Elt Bits) ℓ) (g : Dev Cert.State.nD → PrngReg), Pre_State m →
    θ_run (Cert.State.defs (F := Bits)) (onTc (τ := Cert.State.τ) (Cert.State.main (F := Bits))) ⟨m, fun _ => 0, g⟩ (fun r => (∀ c : Dev Cert.State.nD,
      r.2.mem ((c.tc : Thread Cert.State.nD Cert.State.τ).loc Cert.State.main_arg0) = m ((c.tc : Thread Cert.State.nD Cert.State.τ).loc Cert.State.main_arg0)
      ∧ r.2.mem ((c.tc : Thread Cert.State.nD Cert.State.τ).loc Cert.State.main_arg1) = m ((c.tc : Thread Cert.State.nD Cert.State.τ).loc Cert.State.main_arg1))
      ∧ r.2.sem = fun _ => 0)

def quiescent_StateIdeal [hStateIdeal : Cert.StateIdeal.Facts] : Prop :=
  ∀ (m : (ℓ : Loc Cert.StateIdeal.nD Cert.StateIdeal.τ Cert.StateIdeal.sig) → Buf (Elt Ideal) ℓ) (g : Dev Cert.StateIdeal.nD → PrngReg), Pre_StateIdeal m →
    θ_run (Cert.StateIdeal.defs (F := Ideal)) (onTc (τ := Cert.StateIdeal.τ) (Cert.StateIdeal.main (F := Ideal))) ⟨m, fun _ => 0, g⟩ (fun r => (∀ c : Dev Cert.StateIdeal.nD,
      r.2.mem ((c.tc : Thread Cert.StateIdeal.nD Cert.StateIdeal.τ).loc Cert.StateIdeal.main_arg0) = m ((c.tc : Thread Cert.StateIdeal.nD Cert.StateIdeal.τ).loc Cert.StateIdeal.main_arg0)
      ∧ r.2.mem ((c.tc : Thread Cert.StateIdeal.nD Cert.StateIdeal.τ).loc Cert.StateIdeal.main_arg1) = m ((c.tc : Thread Cert.StateIdeal.nD Cert.StateIdeal.τ).loc Cert.StateIdeal.main_arg1))
      ∧ r.2.sem = fun _ => 0)

def quiescent_StateIdeal_pre_finite_steps [hStateIdeal : Cert.StateIdeal.Facts] [hPre_finite_steps : Cert.Pre_finite_steps.Facts] : Prop :=
  ∀ (m : (ℓ : Loc Cert.StateIdeal.nD Cert.StateIdeal.τ Cert.StateIdeal.sig) → Buf (Elt Ideal) ℓ) (g : Dev Cert.StateIdeal.nD → PrngReg), Pre_StateIdeal_finite_steps m →
    θ_run (Cert.StateIdeal.defs (F := Ideal)) (onTc (τ := Cert.StateIdeal.τ) (Cert.StateIdeal.main (F := Ideal))) ⟨m, fun _ => 0, g⟩ (fun r => (∀ c : Dev Cert.StateIdeal.nD,
      r.2.mem ((c.tc : Thread Cert.StateIdeal.nD Cert.StateIdeal.τ).loc Cert.StateIdeal.main_arg0) = m ((c.tc : Thread Cert.StateIdeal.nD Cert.StateIdeal.τ).loc Cert.StateIdeal.main_arg0)
      ∧ r.2.mem ((c.tc : Thread Cert.StateIdeal.nD Cert.StateIdeal.τ).loc Cert.StateIdeal.main_arg1) = m ((c.tc : Thread Cert.StateIdeal.nD Cert.StateIdeal.τ).loc Cert.StateIdeal.main_arg1))
      ∧ r.2.sem = fun _ => 0)

def quiescent_StateRefIdeal [hStateRefIdeal : Cert.StateRefIdeal.Facts] : Prop :=
  ∀ (m : (ℓ : Loc Cert.StateRefIdeal.nD Cert.StateRefIdeal.τ Cert.StateRefIdeal.sig) → Buf (Elt Ideal) ℓ) (g : Dev Cert.StateRefIdeal.nD → PrngReg), Pre_StateRefIdeal m →
    θ_run (Cert.StateRefIdeal.defs (F := Ideal)) (onTc (τ := Cert.StateRefIdeal.τ) (Cert.StateRefIdeal.main (F := Ideal))) ⟨m, fun _ => 0, g⟩ (fun r => (∀ c : Dev Cert.StateRefIdeal.nD,
      r.2.mem ((c.tc : Thread Cert.StateRefIdeal.nD Cert.StateRefIdeal.τ).loc Cert.StateRefIdeal.main_arg0) = m ((c.tc : Thread Cert.StateRefIdeal.nD Cert.StateRefIdeal.τ).loc Cert.StateRefIdeal.main_arg0)
      ∧ r.2.mem ((c.tc : Thread Cert.StateRefIdeal.nD Cert.StateRefIdeal.τ).loc Cert.StateRefIdeal.main_arg1) = m ((c.tc : Thread Cert.StateRefIdeal.nD Cert.StateRefIdeal.τ).loc Cert.StateRefIdeal.main_arg1))
      ∧ r.2.sem = fun _ => 0)

def quiescent_StateRefIdeal_pre_finite_steps [hStateRefIdeal : Cert.StateRefIdeal.Facts] [hPre_finite_steps : Cert.Pre_finite_steps.Facts] : Prop :=
  ∀ (m : (ℓ : Loc Cert.StateRefIdeal.nD Cert.StateRefIdeal.τ Cert.StateRefIdeal.sig) → Buf (Elt Ideal) ℓ) (g : Dev Cert.StateRefIdeal.nD → PrngReg), Pre_StateRefIdeal_finite_steps m →
    θ_run (Cert.StateRefIdeal.defs (F := Ideal)) (onTc (τ := Cert.StateRefIdeal.τ) (Cert.StateRefIdeal.main (F := Ideal))) ⟨m, fun _ => 0, g⟩ (fun r => (∀ c : Dev Cert.StateRefIdeal.nD,
      r.2.mem ((c.tc : Thread Cert.StateRefIdeal.nD Cert.StateRefIdeal.τ).loc Cert.StateRefIdeal.main_arg0) = m ((c.tc : Thread Cert.StateRefIdeal.nD Cert.StateRefIdeal.τ).loc Cert.StateRefIdeal.main_arg0)
      ∧ r.2.mem ((c.tc : Thread Cert.StateRefIdeal.nD Cert.StateRefIdeal.τ).loc Cert.StateRefIdeal.main_arg1) = m ((c.tc : Thread Cert.StateRefIdeal.nD Cert.StateRefIdeal.τ).loc Cert.StateRefIdeal.main_arg1))
      ∧ r.2.sem = fun _ => 0)

def preserves_Attn_AttnIdeal : Prop :=
  True

def algebraic_AttnIdeal_AttnRefIdeal_pre_finite_scores [hAttnIdeal : Cert.AttnIdeal.Facts] [hAttnRefIdeal : Cert.AttnRefIdeal.Facts] [hPre_finite_scores : Cert.Pre_finite_scores.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_scores m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)
      ∧ m' ((c.tc : Thread Cert.AttnRefIdeal.nD Cert.AttnRefIdeal.τ).loc Cert.AttnRefIdeal.main_arg5) = m ((c.tc : Thread Cert.AttnIdeal.nD Cert.AttnIdeal.τ).loc Cert.AttnIdeal.main_arg5)) →
    ∃ (v0 : (c : Dev Cert.AttnIdeal.nD) → Buf (Elt Ideal) ((c.tc : Thread Cert.AttnIdeal.nD Cert.AttnIdeal.τ).loc Cert.AttnIdeal.main_v10)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v10) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
          ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v29) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4)
          ∧ r.2.mem ((c.tc : Thread Cert.AttnRefIdeal.nD Cert.AttnRefIdeal.τ).loc Cert.AttnRefIdeal.main_arg5) = m' ((c.tc : Thread Cert.AttnRefIdeal.nD Cert.AttnRefIdeal.τ).loc Cert.AttnRefIdeal.main_arg5))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v2)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v2) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v4) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1))

def preserves_Gate_GateIdeal : Prop :=
  True

def algebraic_GateIdeal_GateRefIdeal [hGateIdeal : Cert.GateIdeal.Facts] [hGateRefIdeal : Cert.GateRefIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)) →
    ∃ (v0 : (c : Dev Cert.GateIdeal.nD) → Buf (Elt Ideal) ((c.tc : Thread Cert.GateIdeal.nD Cert.GateIdeal.τ).loc Cert.GateIdeal.main_v4)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v4) = v0 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v11) = v0 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1))

def preserves_Dt_DtIdeal : Prop :=
  True

def algebraic_DtIdeal_DtRefIdeal [hDtIdeal : Cert.DtIdeal.Facts] [hDtRefIdeal : Cert.DtRefIdeal.Facts] : Prop :=
  ∀ (m : (ℓ : Loc Cert.DtIdeal.nD Cert.DtIdeal.τ Cert.DtIdeal.sig) → Buf (Elt Ideal) ℓ) (g : Dev Cert.DtIdeal.nD → PrngReg)
    (m' : (ℓ : Loc Cert.DtRefIdeal.nD Cert.DtRefIdeal.τ Cert.DtRefIdeal.sig) → Buf (Elt Ideal) ℓ) (g' : Dev Cert.DtRefIdeal.nD → PrngReg), Pre_DtIdeal m →
    (∀ c : Dev Cert.DtIdeal.nD,
      m' ((c.tc : Thread Cert.DtRefIdeal.nD Cert.DtRefIdeal.τ).loc Cert.DtRefIdeal.main_arg0) = m ((c.tc : Thread Cert.DtIdeal.nD Cert.DtIdeal.τ).loc Cert.DtIdeal.main_arg0)
      ∧ m' ((c.tc : Thread Cert.DtRefIdeal.nD Cert.DtRefIdeal.τ).loc Cert.DtRefIdeal.main_arg1) = m ((c.tc : Thread Cert.DtIdeal.nD Cert.DtIdeal.τ).loc Cert.DtIdeal.main_arg1)) →
    ∃ (v0 : (c : Dev Cert.DtIdeal.nD) → Buf (Elt Ideal) ((c.tc : Thread Cert.DtIdeal.nD Cert.DtIdeal.τ).loc Cert.DtIdeal.main_v2)),
      θ_run (Cert.DtIdeal.defs (F := Ideal)) (onTc (τ := Cert.DtIdeal.τ) (Cert.DtIdeal.main (F := Ideal))) ⟨m, fun _ => 0, g⟩ (fun r => ∀ c : Dev Cert.DtIdeal.nD,
          r.2.mem ((c.tc : Thread Cert.DtIdeal.nD Cert.DtIdeal.τ).loc Cert.DtIdeal.main_v2) = v0 c
          ∧ r.2.mem ((c.tc : Thread Cert.DtIdeal.nD Cert.DtIdeal.τ).loc Cert.DtIdeal.main_arg0) = m ((c.tc : Thread Cert.DtIdeal.nD Cert.DtIdeal.τ).loc Cert.DtIdeal.main_arg0)
          ∧ r.2.mem ((c.tc : Thread Cert.DtIdeal.nD Cert.DtIdeal.τ).loc Cert.DtIdeal.main_arg1) = m ((c.tc : Thread Cert.DtIdeal.nD Cert.DtIdeal.τ).loc Cert.DtIdeal.main_arg1))
      ∧ θ_run (Cert.DtRefIdeal.defs (F := Ideal)) (onTc (τ := Cert.DtRefIdeal.τ) (Cert.DtRefIdeal.main (F := Ideal))) ⟨m', fun _ => 0, g'⟩ (fun r => ∀ c : Dev Cert.DtRefIdeal.nD,
          r.2.mem ((c.tc : Thread Cert.DtRefIdeal.nD Cert.DtRefIdeal.τ).loc Cert.DtRefIdeal.main_v4) = v0 c
          ∧ r.2.mem ((c.tc : Thread Cert.DtRefIdeal.nD Cert.DtRefIdeal.τ).loc Cert.DtRefIdeal.main_arg0) = m' ((c.tc : Thread Cert.DtRefIdeal.nD Cert.DtRefIdeal.τ).loc Cert.DtRefIdeal.main_arg0)
          ∧ r.2.mem ((c.tc : Thread Cert.DtRefIdeal.nD Cert.DtRefIdeal.τ).loc Cert.DtRefIdeal.main_arg1) = m' ((c.tc : Thread Cert.DtRefIdeal.nD Cert.DtRefIdeal.τ).loc Cert.DtRefIdeal.main_arg1))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)) →
    ∃ (v0 : (c : Dev Cert.MergeIdeal.nD) → Buf (Elt Ideal) ((c.tc : Thread Cert.MergeIdeal.nD Cert.MergeIdeal.τ).loc Cert.MergeIdeal.main_v3)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v3) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v19) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)) →
    ∃ (v0 : (c : Dev Cert.OutProjIdeal.nD) → Buf (Elt Ideal) ((c.tc : Thread Cert.OutProjIdeal.nD Cert.OutProjIdeal.τ).loc Cert.OutProjIdeal.main_v3)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v3) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v2) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1))

def preserves_Swiglu_SwigluIdeal : Prop :=
  True

def algebraic_SwigluIdeal_SwigluRefIdeal [hSwigluIdeal : Cert.SwigluIdeal.Facts] [hSwigluRefIdeal : Cert.SwigluRefIdeal.Facts] : Prop :=
  ∀ (m : (ℓ : Loc Cert.SwigluIdeal.nD Cert.SwigluIdeal.τ Cert.SwigluIdeal.sig) → Buf (Elt Ideal) ℓ) (g : Dev Cert.SwigluIdeal.nD → PrngReg)
    (m' : (ℓ : Loc Cert.SwigluRefIdeal.nD Cert.SwigluRefIdeal.τ Cert.SwigluRefIdeal.sig) → Buf (Elt Ideal) ℓ) (g' : Dev Cert.SwigluRefIdeal.nD → PrngReg), Pre_SwigluIdeal m →
    (∀ c : Dev Cert.SwigluIdeal.nD,
      m' ((c.tc : Thread Cert.SwigluRefIdeal.nD Cert.SwigluRefIdeal.τ).loc Cert.SwigluRefIdeal.main_arg0) = m ((c.tc : Thread Cert.SwigluIdeal.nD Cert.SwigluIdeal.τ).loc Cert.SwigluIdeal.main_arg0)
      ∧ m' ((c.tc : Thread Cert.SwigluRefIdeal.nD Cert.SwigluRefIdeal.τ).loc Cert.SwigluRefIdeal.main_arg1) = m ((c.tc : Thread Cert.SwigluIdeal.nD Cert.SwigluIdeal.τ).loc Cert.SwigluIdeal.main_arg1)
      ∧ m' ((c.tc : Thread Cert.SwigluRefIdeal.nD Cert.SwigluRefIdeal.τ).loc Cert.SwigluRefIdeal.main_arg2) = m ((c.tc : Thread Cert.SwigluIdeal.nD Cert.SwigluIdeal.τ).loc Cert.SwigluIdeal.main_arg2)) →
    ∃ (v0 : (c : Dev Cert.SwigluIdeal.nD) → Buf (Elt Ideal) ((c.tc : Thread Cert.SwigluIdeal.nD Cert.SwigluIdeal.τ).loc Cert.SwigluIdeal.main_v0)),
      θ_run (Cert.SwigluIdeal.defs (F := Ideal)) (onTc (τ := Cert.SwigluIdeal.τ) (Cert.SwigluIdeal.main (F := Ideal))) ⟨m, fun _ => 0, g⟩ (fun r => ∀ c : Dev Cert.SwigluIdeal.nD,
          r.2.mem ((c.tc : Thread Cert.SwigluIdeal.nD Cert.SwigluIdeal.τ).loc Cert.SwigluIdeal.main_v0) = v0 c
          ∧ r.2.mem ((c.tc : Thread Cert.SwigluIdeal.nD Cert.SwigluIdeal.τ).loc Cert.SwigluIdeal.main_arg0) = m ((c.tc : Thread Cert.SwigluIdeal.nD Cert.SwigluIdeal.τ).loc Cert.SwigluIdeal.main_arg0)
          ∧ r.2.mem ((c.tc : Thread Cert.SwigluIdeal.nD Cert.SwigluIdeal.τ).loc Cert.SwigluIdeal.main_arg1) = m ((c.tc : Thread Cert.SwigluIdeal.nD Cert.SwigluIdeal.τ).loc Cert.SwigluIdeal.main_arg1)
          ∧ r.2.mem ((c.tc : Thread Cert.SwigluIdeal.nD Cert.SwigluIdeal.τ).loc Cert.SwigluIdeal.main_arg2) = m ((c.tc : Thread Cert.SwigluIdeal.nD Cert.SwigluIdeal.τ).loc Cert.SwigluIdeal.main_arg2))
      ∧ θ_run (Cert.SwigluRefIdeal.defs (F := Ideal)) (onTc (τ := Cert.SwigluRefIdeal.τ) (Cert.SwigluRefIdeal.main (F := Ideal))) ⟨m', fun _ => 0, g'⟩ (fun r => ∀ c : Dev Cert.SwigluRefIdeal.nD,
          r.2.mem ((c.tc : Thread Cert.SwigluRefIdeal.nD Cert.SwigluRefIdeal.τ).loc Cert.SwigluRefIdeal.main_v9) = v0 c
          ∧ r.2.mem ((c.tc : Thread Cert.SwigluRefIdeal.nD Cert.SwigluRefIdeal.τ).loc Cert.SwigluRefIdeal.main_arg0) = m' ((c.tc : Thread Cert.SwigluRefIdeal.nD Cert.SwigluRefIdeal.τ).loc Cert.SwigluRefIdeal.main_arg0)
          ∧ r.2.mem ((c.tc : Thread Cert.SwigluRefIdeal.nD Cert.SwigluRefIdeal.τ).loc Cert.SwigluRefIdeal.main_arg1) = m' ((c.tc : Thread Cert.SwigluRefIdeal.nD Cert.SwigluRefIdeal.τ).loc Cert.SwigluRefIdeal.main_arg1)
          ∧ r.2.mem ((c.tc : Thread Cert.SwigluRefIdeal.nD Cert.SwigluRefIdeal.τ).loc Cert.SwigluRefIdeal.main_arg2) = m' ((c.tc : Thread Cert.SwigluRefIdeal.nD Cert.SwigluRefIdeal.τ).loc Cert.SwigluRefIdeal.main_arg2))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v1) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v6) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2))

def preserves_LnOut_LnOutIdeal : Prop :=
  True

def algebraic_LnOutIdeal_LnOutRefIdeal [hLnOutIdeal : Cert.LnOutIdeal.Facts] [hLnOutRefIdeal : Cert.LnOutRefIdeal.Facts] : Prop :=
  ∀ (m : (ℓ : Loc Cert.LnOutIdeal.nD Cert.LnOutIdeal.τ Cert.LnOutIdeal.sig) → Buf (Elt Ideal) ℓ) (g : Dev Cert.LnOutIdeal.nD → PrngReg)
    (m' : (ℓ : Loc Cert.LnOutRefIdeal.nD Cert.LnOutRefIdeal.τ Cert.LnOutRefIdeal.sig) → Buf (Elt Ideal) ℓ) (g' : Dev Cert.LnOutRefIdeal.nD → PrngReg), Pre_LnOutIdeal m →
    (∀ c : Dev Cert.LnOutIdeal.nD,
      m' ((c.tc : Thread Cert.LnOutRefIdeal.nD Cert.LnOutRefIdeal.τ).loc Cert.LnOutRefIdeal.main_arg0) = m ((c.tc : Thread Cert.LnOutIdeal.nD Cert.LnOutIdeal.τ).loc Cert.LnOutIdeal.main_arg0)
      ∧ m' ((c.tc : Thread Cert.LnOutRefIdeal.nD Cert.LnOutRefIdeal.τ).loc Cert.LnOutRefIdeal.main_arg1) = m ((c.tc : Thread Cert.LnOutIdeal.nD Cert.LnOutIdeal.τ).loc Cert.LnOutIdeal.main_arg1)
      ∧ m' ((c.tc : Thread Cert.LnOutRefIdeal.nD Cert.LnOutRefIdeal.τ).loc Cert.LnOutRefIdeal.main_arg2) = m ((c.tc : Thread Cert.LnOutIdeal.nD Cert.LnOutIdeal.τ).loc Cert.LnOutIdeal.main_arg2)
      ∧ m' ((c.tc : Thread Cert.LnOutRefIdeal.nD Cert.LnOutRefIdeal.τ).loc Cert.LnOutRefIdeal.main_arg3) = m ((c.tc : Thread Cert.LnOutIdeal.nD Cert.LnOutIdeal.τ).loc Cert.LnOutIdeal.main_arg3)
      ∧ m' ((c.tc : Thread Cert.LnOutRefIdeal.nD Cert.LnOutRefIdeal.τ).loc Cert.LnOutRefIdeal.main_arg4) = m ((c.tc : Thread Cert.LnOutIdeal.nD Cert.LnOutIdeal.τ).loc Cert.LnOutIdeal.main_arg4)) →
    ∃ (v0 : (c : Dev Cert.LnOutIdeal.nD) → Buf (Elt Ideal) ((c.tc : Thread Cert.LnOutIdeal.nD Cert.LnOutIdeal.τ).loc Cert.LnOutIdeal.main_v2)),
      θ_run (Cert.LnOutIdeal.defs (F := Ideal)) (onTc (τ := Cert.LnOutIdeal.τ) (Cert.LnOutIdeal.main (F := Ideal))) ⟨m, fun _ => 0, g⟩ (fun r => ∀ c : Dev Cert.LnOutIdeal.nD,
          r.2.mem ((c.tc : Thread Cert.LnOutIdeal.nD Cert.LnOutIdeal.τ).loc Cert.LnOutIdeal.main_v2) = v0 c
          ∧ r.2.mem ((c.tc : Thread Cert.LnOutIdeal.nD Cert.LnOutIdeal.τ).loc Cert.LnOutIdeal.main_arg0) = m ((c.tc : Thread Cert.LnOutIdeal.nD Cert.LnOutIdeal.τ).loc Cert.LnOutIdeal.main_arg0)
          ∧ r.2.mem ((c.tc : Thread Cert.LnOutIdeal.nD Cert.LnOutIdeal.τ).loc Cert.LnOutIdeal.main_arg1) = m ((c.tc : Thread Cert.LnOutIdeal.nD Cert.LnOutIdeal.τ).loc Cert.LnOutIdeal.main_arg1)
          ∧ r.2.mem ((c.tc : Thread Cert.LnOutIdeal.nD Cert.LnOutIdeal.τ).loc Cert.LnOutIdeal.main_arg2) = m ((c.tc : Thread Cert.LnOutIdeal.nD Cert.LnOutIdeal.τ).loc Cert.LnOutIdeal.main_arg2)
          ∧ r.2.mem ((c.tc : Thread Cert.LnOutIdeal.nD Cert.LnOutIdeal.τ).loc Cert.LnOutIdeal.main_arg3) = m ((c.tc : Thread Cert.LnOutIdeal.nD Cert.LnOutIdeal.τ).loc Cert.LnOutIdeal.main_arg3)
          ∧ r.2.mem ((c.tc : Thread Cert.LnOutIdeal.nD Cert.LnOutIdeal.τ).loc Cert.LnOutIdeal.main_arg4) = m ((c.tc : Thread Cert.LnOutIdeal.nD Cert.LnOutIdeal.τ).loc Cert.LnOutIdeal.main_arg4))
      ∧ θ_run (Cert.LnOutRefIdeal.defs (F := Ideal)) (onTc (τ := Cert.LnOutRefIdeal.τ) (Cert.LnOutRefIdeal.main (F := Ideal))) ⟨m', fun _ => 0, g'⟩ (fun r => ∀ c : Dev Cert.LnOutRefIdeal.nD,
          r.2.mem ((c.tc : Thread Cert.LnOutRefIdeal.nD Cert.LnOutRefIdeal.τ).loc Cert.LnOutRefIdeal.main_v74) = v0 c
          ∧ r.2.mem ((c.tc : Thread Cert.LnOutRefIdeal.nD Cert.LnOutRefIdeal.τ).loc Cert.LnOutRefIdeal.main_arg0) = m' ((c.tc : Thread Cert.LnOutRefIdeal.nD Cert.LnOutRefIdeal.τ).loc Cert.LnOutRefIdeal.main_arg0)
          ∧ r.2.mem ((c.tc : Thread Cert.LnOutRefIdeal.nD Cert.LnOutRefIdeal.τ).loc Cert.LnOutRefIdeal.main_arg1) = m' ((c.tc : Thread Cert.LnOutRefIdeal.nD Cert.LnOutRefIdeal.τ).loc Cert.LnOutRefIdeal.main_arg1)
          ∧ r.2.mem ((c.tc : Thread Cert.LnOutRefIdeal.nD Cert.LnOutRefIdeal.τ).loc Cert.LnOutRefIdeal.main_arg2) = m' ((c.tc : Thread Cert.LnOutRefIdeal.nD Cert.LnOutRefIdeal.τ).loc Cert.LnOutRefIdeal.main_arg2)
          ∧ r.2.mem ((c.tc : Thread Cert.LnOutRefIdeal.nD Cert.LnOutRefIdeal.τ).loc Cert.LnOutRefIdeal.main_arg3) = m' ((c.tc : Thread Cert.LnOutRefIdeal.nD Cert.LnOutRefIdeal.τ).loc Cert.LnOutRefIdeal.main_arg3)
          ∧ r.2.mem ((c.tc : Thread Cert.LnOutRefIdeal.nD Cert.LnOutRefIdeal.τ).loc Cert.LnOutRefIdeal.main_arg4) = m' ((c.tc : Thread Cert.LnOutRefIdeal.nD Cert.LnOutRefIdeal.τ).loc Cert.LnOutRefIdeal.main_arg4))

def preserves_LnMod_LnModIdeal : Prop :=
  True

def algebraic_LnModIdeal_LnModRefIdeal [hLnModIdeal : Cert.LnModIdeal.Facts] [hLnModRefIdeal : Cert.LnModRefIdeal.Facts] : Prop :=
  ∀ (m : (ℓ : Loc Cert.LnModIdeal.nD Cert.LnModIdeal.τ Cert.LnModIdeal.sig) → Buf (Elt Ideal) ℓ) (g : Dev Cert.LnModIdeal.nD → PrngReg)
    (m' : (ℓ : Loc Cert.LnModRefIdeal.nD Cert.LnModRefIdeal.τ Cert.LnModRefIdeal.sig) → Buf (Elt Ideal) ℓ) (g' : Dev Cert.LnModRefIdeal.nD → PrngReg), Pre_LnModIdeal m →
    (∀ c : Dev Cert.LnModIdeal.nD,
      m' ((c.tc : Thread Cert.LnModRefIdeal.nD Cert.LnModRefIdeal.τ).loc Cert.LnModRefIdeal.main_arg0) = m ((c.tc : Thread Cert.LnModIdeal.nD Cert.LnModIdeal.τ).loc Cert.LnModIdeal.main_arg0)
      ∧ m' ((c.tc : Thread Cert.LnModRefIdeal.nD Cert.LnModRefIdeal.τ).loc Cert.LnModRefIdeal.main_arg1) = m ((c.tc : Thread Cert.LnModIdeal.nD Cert.LnModIdeal.τ).loc Cert.LnModIdeal.main_arg1)
      ∧ m' ((c.tc : Thread Cert.LnModRefIdeal.nD Cert.LnModRefIdeal.τ).loc Cert.LnModRefIdeal.main_arg2) = m ((c.tc : Thread Cert.LnModIdeal.nD Cert.LnModIdeal.τ).loc Cert.LnModIdeal.main_arg2)
      ∧ m' ((c.tc : Thread Cert.LnModRefIdeal.nD Cert.LnModRefIdeal.τ).loc Cert.LnModRefIdeal.main_arg3) = m ((c.tc : Thread Cert.LnModIdeal.nD Cert.LnModIdeal.τ).loc Cert.LnModIdeal.main_arg3)
      ∧ m' ((c.tc : Thread Cert.LnModRefIdeal.nD Cert.LnModRefIdeal.τ).loc Cert.LnModRefIdeal.main_arg4) = m ((c.tc : Thread Cert.LnModIdeal.nD Cert.LnModIdeal.τ).loc Cert.LnModIdeal.main_arg4)) →
    ∃ (v0 : (c : Dev Cert.LnModIdeal.nD) → Buf (Elt Ideal) ((c.tc : Thread Cert.LnModIdeal.nD Cert.LnModIdeal.τ).loc Cert.LnModIdeal.main_v2_0)) (v1 : (c : Dev Cert.LnModIdeal.nD) → Buf (Elt Ideal) ((c.tc : Thread Cert.LnModIdeal.nD Cert.LnModIdeal.τ).loc Cert.LnModIdeal.main_v2_1)),
      θ_run (Cert.LnModIdeal.defs (F := Ideal)) (onTc (τ := Cert.LnModIdeal.τ) (Cert.LnModIdeal.main (F := Ideal))) ⟨m, fun _ => 0, g⟩ (fun r => ∀ c : Dev Cert.LnModIdeal.nD,
          r.2.mem ((c.tc : Thread Cert.LnModIdeal.nD Cert.LnModIdeal.τ).loc Cert.LnModIdeal.main_v2_0) = v0 c
          ∧ r.2.mem ((c.tc : Thread Cert.LnModIdeal.nD Cert.LnModIdeal.τ).loc Cert.LnModIdeal.main_v2_1) = v1 c
          ∧ r.2.mem ((c.tc : Thread Cert.LnModIdeal.nD Cert.LnModIdeal.τ).loc Cert.LnModIdeal.main_arg0) = m ((c.tc : Thread Cert.LnModIdeal.nD Cert.LnModIdeal.τ).loc Cert.LnModIdeal.main_arg0)
          ∧ r.2.mem ((c.tc : Thread Cert.LnModIdeal.nD Cert.LnModIdeal.τ).loc Cert.LnModIdeal.main_arg1) = m ((c.tc : Thread Cert.LnModIdeal.nD Cert.LnModIdeal.τ).loc Cert.LnModIdeal.main_arg1)
          ∧ r.2.mem ((c.tc : Thread Cert.LnModIdeal.nD Cert.LnModIdeal.τ).loc Cert.LnModIdeal.main_arg2) = m ((c.tc : Thread Cert.LnModIdeal.nD Cert.LnModIdeal.τ).loc Cert.LnModIdeal.main_arg2)
          ∧ r.2.mem ((c.tc : Thread Cert.LnModIdeal.nD Cert.LnModIdeal.τ).loc Cert.LnModIdeal.main_arg3) = m ((c.tc : Thread Cert.LnModIdeal.nD Cert.LnModIdeal.τ).loc Cert.LnModIdeal.main_arg3)
          ∧ r.2.mem ((c.tc : Thread Cert.LnModIdeal.nD Cert.LnModIdeal.τ).loc Cert.LnModIdeal.main_arg4) = m ((c.tc : Thread Cert.LnModIdeal.nD Cert.LnModIdeal.τ).loc Cert.LnModIdeal.main_arg4))
      ∧ θ_run (Cert.LnModRefIdeal.defs (F := Ideal)) (onTc (τ := Cert.LnModRefIdeal.τ) (Cert.LnModRefIdeal.main (F := Ideal))) ⟨m', fun _ => 0, g'⟩ (fun r => ∀ c : Dev Cert.LnModRefIdeal.nD,
          r.2.mem ((c.tc : Thread Cert.LnModRefIdeal.nD Cert.LnModRefIdeal.τ).loc Cert.LnModRefIdeal.main_v92) = v0 c
          ∧ r.2.mem ((c.tc : Thread Cert.LnModRefIdeal.nD Cert.LnModRefIdeal.τ).loc Cert.LnModRefIdeal.main_v95) = v1 c
          ∧ r.2.mem ((c.tc : Thread Cert.LnModRefIdeal.nD Cert.LnModRefIdeal.τ).loc Cert.LnModRefIdeal.main_arg0) = m' ((c.tc : Thread Cert.LnModRefIdeal.nD Cert.LnModRefIdeal.τ).loc Cert.LnModRefIdeal.main_arg0)
          ∧ r.2.mem ((c.tc : Thread Cert.LnModRefIdeal.nD Cert.LnModRefIdeal.τ).loc Cert.LnModRefIdeal.main_arg1) = m' ((c.tc : Thread Cert.LnModRefIdeal.nD Cert.LnModRefIdeal.τ).loc Cert.LnModRefIdeal.main_arg1)
          ∧ r.2.mem ((c.tc : Thread Cert.LnModRefIdeal.nD Cert.LnModRefIdeal.τ).loc Cert.LnModRefIdeal.main_arg2) = m' ((c.tc : Thread Cert.LnModRefIdeal.nD Cert.LnModRefIdeal.τ).loc Cert.LnModRefIdeal.main_arg2)
          ∧ r.2.mem ((c.tc : Thread Cert.LnModRefIdeal.nD Cert.LnModRefIdeal.τ).loc Cert.LnModRefIdeal.main_arg3) = m' ((c.tc : Thread Cert.LnModRefIdeal.nD Cert.LnModRefIdeal.τ).loc Cert.LnModRefIdeal.main_arg3)
          ∧ r.2.mem ((c.tc : Thread Cert.LnModRefIdeal.nD Cert.LnModRefIdeal.τ).loc Cert.LnModRefIdeal.main_arg4) = m' ((c.tc : Thread Cert.LnModRefIdeal.nD Cert.LnModRefIdeal.τ).loc Cert.LnModRefIdeal.main_arg4))

def preserves_Modulate_ModulateIdeal : Prop :=
  True

def algebraic_ModulateIdeal_ModulateRefIdeal [hModulateIdeal : Cert.ModulateIdeal.Facts] [hModulateRefIdeal : Cert.ModulateRefIdeal.Facts] : Prop :=
  ∀ (m : (ℓ : Loc Cert.ModulateIdeal.nD Cert.ModulateIdeal.τ Cert.ModulateIdeal.sig) → Buf (Elt Ideal) ℓ) (g : Dev Cert.ModulateIdeal.nD → PrngReg)
    (m' : (ℓ : Loc Cert.ModulateRefIdeal.nD Cert.ModulateRefIdeal.τ Cert.ModulateRefIdeal.sig) → Buf (Elt Ideal) ℓ) (g' : Dev Cert.ModulateRefIdeal.nD → PrngReg), Pre_ModulateIdeal m →
    (∀ c : Dev Cert.ModulateIdeal.nD,
      m' ((c.tc : Thread Cert.ModulateRefIdeal.nD Cert.ModulateRefIdeal.τ).loc Cert.ModulateRefIdeal.main_arg0) = m ((c.tc : Thread Cert.ModulateIdeal.nD Cert.ModulateIdeal.τ).loc Cert.ModulateIdeal.main_arg0)
      ∧ m' ((c.tc : Thread Cert.ModulateRefIdeal.nD Cert.ModulateRefIdeal.τ).loc Cert.ModulateRefIdeal.main_arg1) = m ((c.tc : Thread Cert.ModulateIdeal.nD Cert.ModulateIdeal.τ).loc Cert.ModulateIdeal.main_arg1)) →
    ∃ (v0 : (c : Dev Cert.ModulateIdeal.nD) → Buf (Elt Ideal) ((c.tc : Thread Cert.ModulateIdeal.nD Cert.ModulateIdeal.τ).loc Cert.ModulateIdeal.main_v0)),
      θ_run (Cert.ModulateIdeal.defs (F := Ideal)) (onTc (τ := Cert.ModulateIdeal.τ) (Cert.ModulateIdeal.main (F := Ideal))) ⟨m, fun _ => 0, g⟩ (fun r => ∀ c : Dev Cert.ModulateIdeal.nD,
          r.2.mem ((c.tc : Thread Cert.ModulateIdeal.nD Cert.ModulateIdeal.τ).loc Cert.ModulateIdeal.main_v0) = v0 c
          ∧ r.2.mem ((c.tc : Thread Cert.ModulateIdeal.nD Cert.ModulateIdeal.τ).loc Cert.ModulateIdeal.main_arg0) = m ((c.tc : Thread Cert.ModulateIdeal.nD Cert.ModulateIdeal.τ).loc Cert.ModulateIdeal.main_arg0)
          ∧ r.2.mem ((c.tc : Thread Cert.ModulateIdeal.nD Cert.ModulateIdeal.τ).loc Cert.ModulateIdeal.main_arg1) = m ((c.tc : Thread Cert.ModulateIdeal.nD Cert.ModulateIdeal.τ).loc Cert.ModulateIdeal.main_arg1))
      ∧ θ_run (Cert.ModulateRefIdeal.defs (F := Ideal)) (onTc (τ := Cert.ModulateRefIdeal.τ) (Cert.ModulateRefIdeal.main (F := Ideal))) ⟨m', fun _ => 0, g'⟩ (fun r => ∀ c : Dev Cert.ModulateRefIdeal.nD,
          r.2.mem ((c.tc : Thread Cert.ModulateRefIdeal.nD Cert.ModulateRefIdeal.τ).loc Cert.ModulateRefIdeal.main_v29) = v0 c
          ∧ r.2.mem ((c.tc : Thread Cert.ModulateRefIdeal.nD Cert.ModulateRefIdeal.τ).loc Cert.ModulateRefIdeal.main_arg0) = m' ((c.tc : Thread Cert.ModulateRefIdeal.nD Cert.ModulateRefIdeal.τ).loc Cert.ModulateRefIdeal.main_arg0)
          ∧ r.2.mem ((c.tc : Thread Cert.ModulateRefIdeal.nD Cert.ModulateRefIdeal.τ).loc Cert.ModulateRefIdeal.main_arg1) = m' ((c.tc : Thread Cert.ModulateRefIdeal.nD Cert.ModulateRefIdeal.τ).loc Cert.ModulateRefIdeal.main_arg1))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)) →
    ∃ (v0 : (c : Dev Cert.QkvIdeal.nD) → Buf (Elt Ideal) ((c.tc : Thread Cert.QkvIdeal.nD Cert.QkvIdeal.τ).loc Cert.QkvIdeal.main_v39_0)) (v1 : (c : Dev Cert.QkvIdeal.nD) → Buf (Elt Ideal) ((c.tc : Thread Cert.QkvIdeal.nD Cert.QkvIdeal.τ).loc Cert.QkvIdeal.main_v39_1)) (v2 : (c : Dev Cert.QkvIdeal.nD) → Buf (Elt Ideal) ((c.tc : Thread Cert.QkvIdeal.nD Cert.QkvIdeal.τ).loc Cert.QkvIdeal.main_v39_2)) (v3 : (c : Dev Cert.QkvIdeal.nD) → Buf (Elt Ideal) ((c.tc : Thread Cert.QkvIdeal.nD Cert.QkvIdeal.τ).loc Cert.QkvIdeal.main_v39_3)) (v4 : (c : Dev Cert.QkvIdeal.nD) → Buf (Elt Ideal) ((c.tc : Thread Cert.QkvIdeal.nD Cert.QkvIdeal.τ).loc Cert.QkvIdeal.main_v39_4)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v39_0) = v0 c
          ∧ r.2.mem ((c.tc : Thread Cert.QkvIdeal.nD Cert.QkvIdeal.τ).loc Cert.QkvIdeal.main_v39_1) = v1 c
          ∧ r.2.mem ((c.tc : Thread Cert.QkvIdeal.nD Cert.QkvIdeal.τ).loc Cert.QkvIdeal.main_v39_2) = v2 c
          ∧ r.2.mem ((c.tc : Thread Cert.QkvIdeal.nD Cert.QkvIdeal.τ).loc Cert.QkvIdeal.main_v39_3) = v3 c
          ∧ r.2.mem ((c.tc : Thread Cert.QkvIdeal.nD Cert.QkvIdeal.τ).loc Cert.QkvIdeal.main_v39_4) = v4 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v112) = v0 c
          ∧ r.2.mem ((c.tc : Thread Cert.QkvRefIdeal.nD Cert.QkvRefIdeal.τ).loc Cert.QkvRefIdeal.main_v114) = v1 c
          ∧ r.2.mem ((c.tc : Thread Cert.QkvRefIdeal.nD Cert.QkvRefIdeal.τ).loc Cert.QkvRefIdeal.main_v115) = v2 c
          ∧ r.2.mem ((c.tc : Thread Cert.QkvRefIdeal.nD Cert.QkvRefIdeal.τ).loc Cert.QkvRefIdeal.main_v116) = v3 c
          ∧ r.2.mem ((c.tc : Thread Cert.QkvRefIdeal.nD Cert.QkvRefIdeal.τ).loc Cert.QkvRefIdeal.main_v30) = v4 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2))

def preserves_State_StateIdeal : Prop :=
  True

def algebraic_StateIdeal_StateRefIdeal_pre_finite_steps [hStateIdeal : Cert.StateIdeal.Facts] [hStateRefIdeal : Cert.StateRefIdeal.Facts] [hPre_finite_steps : Cert.Pre_finite_steps.Facts] : Prop :=
  ∀ (m : (ℓ : Loc Cert.StateIdeal.nD Cert.StateIdeal.τ Cert.StateIdeal.sig) → Buf (Elt Ideal) ℓ) (g : Dev Cert.StateIdeal.nD → PrngReg)
    (m' : (ℓ : Loc Cert.StateRefIdeal.nD Cert.StateRefIdeal.τ Cert.StateRefIdeal.sig) → Buf (Elt Ideal) ℓ) (g' : Dev Cert.StateRefIdeal.nD → PrngReg), Pre_StateIdeal_finite_steps m →
    (∀ c : Dev Cert.StateIdeal.nD,
      m' ((c.tc : Thread Cert.StateRefIdeal.nD Cert.StateRefIdeal.τ).loc Cert.StateRefIdeal.main_arg0) = m ((c.tc : Thread Cert.StateIdeal.nD Cert.StateIdeal.τ).loc Cert.StateIdeal.main_arg0)
      ∧ m' ((c.tc : Thread Cert.StateRefIdeal.nD Cert.StateRefIdeal.τ).loc Cert.StateRefIdeal.main_arg1) = m ((c.tc : Thread Cert.StateIdeal.nD Cert.StateIdeal.τ).loc Cert.StateIdeal.main_arg1)) →
    ∃ (v0 : (c : Dev Cert.StateIdeal.nD) → Buf (Elt Ideal) ((c.tc : Thread Cert.StateIdeal.nD Cert.StateIdeal.τ).loc Cert.StateIdeal.main_v4_1)),
      θ_run (Cert.StateIdeal.defs (F := Ideal)) (onTc (τ := Cert.StateIdeal.τ) (Cert.StateIdeal.main (F := Ideal))) ⟨m, fun _ => 0, g⟩ (fun r => ∀ c : Dev Cert.StateIdeal.nD,
          r.2.mem ((c.tc : Thread Cert.StateIdeal.nD Cert.StateIdeal.τ).loc Cert.StateIdeal.main_v4_1) = v0 c
          ∧ r.2.mem ((c.tc : Thread Cert.StateIdeal.nD Cert.StateIdeal.τ).loc Cert.StateIdeal.main_arg0) = m ((c.tc : Thread Cert.StateIdeal.nD Cert.StateIdeal.τ).loc Cert.StateIdeal.main_arg0)
          ∧ r.2.mem ((c.tc : Thread Cert.StateIdeal.nD Cert.StateIdeal.τ).loc Cert.StateIdeal.main_arg1) = m ((c.tc : Thread Cert.StateIdeal.nD Cert.StateIdeal.τ).loc Cert.StateIdeal.main_arg1))
      ∧ θ_run (Cert.StateRefIdeal.defs (F := Ideal)) (onTc (τ := Cert.StateRefIdeal.τ) (Cert.StateRefIdeal.main (F := Ideal))) ⟨m', fun _ => 0, g'⟩ (fun r => ∀ c : Dev Cert.StateRefIdeal.nD,
          r.2.mem ((c.tc : Thread Cert.StateRefIdeal.nD Cert.StateRefIdeal.τ).loc Cert.StateRefIdeal.main_v95) = v0 c
          ∧ r.2.mem ((c.tc : Thread Cert.StateRefIdeal.nD Cert.StateRefIdeal.τ).loc Cert.StateRefIdeal.main_arg0) = m' ((c.tc : Thread Cert.StateRefIdeal.nD Cert.StateRefIdeal.τ).loc Cert.StateRefIdeal.main_arg0)
          ∧ r.2.mem ((c.tc : Thread Cert.StateRefIdeal.nD Cert.StateRefIdeal.τ).loc Cert.StateRefIdeal.main_arg1) = m' ((c.tc : Thread Cert.StateRefIdeal.nD Cert.StateRefIdeal.τ).loc Cert.StateRefIdeal.main_arg1))

def Claim : Prop :=
  ∃ (hAttn : Cert.Attn.Facts) (hAttnIdeal : Cert.AttnIdeal.Facts) (hAttnRefIdeal : Cert.AttnRefIdeal.Facts) (hProj : Cert.Proj.Facts) (hProjIdeal : Cert.ProjIdeal.Facts) (hProjRefIdeal : Cert.ProjRefIdeal.Facts) (hGate : Cert.Gate.Facts) (hGateIdeal : Cert.GateIdeal.Facts) (hGateRefIdeal : Cert.GateRefIdeal.Facts) (hDt : Cert.Dt.Facts) (hDtIdeal : Cert.DtIdeal.Facts) (hDtRefIdeal : Cert.DtRefIdeal.Facts) (hMerge : Cert.Merge.Facts) (hMergeIdeal : Cert.MergeIdeal.Facts) (hMergeRefIdeal : Cert.MergeRefIdeal.Facts) (hOutProj : Cert.OutProj.Facts) (hOutProjIdeal : Cert.OutProjIdeal.Facts) (hOutProjRefIdeal : Cert.OutProjRefIdeal.Facts) (hSwiglu : Cert.Swiglu.Facts) (hSwigluIdeal : Cert.SwigluIdeal.Facts) (hSwigluRefIdeal : Cert.SwigluRefIdeal.Facts) (hDown : Cert.Down.Facts) (hDownIdeal : Cert.DownIdeal.Facts) (hDownRefIdeal : Cert.DownRefIdeal.Facts) (hLnOut : Cert.LnOut.Facts) (hLnOutIdeal : Cert.LnOutIdeal.Facts) (hLnOutRefIdeal : Cert.LnOutRefIdeal.Facts) (hLnMod : Cert.LnMod.Facts) (hLnModIdeal : Cert.LnModIdeal.Facts) (hLnModRefIdeal : Cert.LnModRefIdeal.Facts) (hModulate : Cert.Modulate.Facts) (hModulateIdeal : Cert.ModulateIdeal.Facts) (hModulateRefIdeal : Cert.ModulateRefIdeal.Facts) (hQkv : Cert.Qkv.Facts) (hQkvIdeal : Cert.QkvIdeal.Facts) (hQkvRefIdeal : Cert.QkvRefIdeal.Facts) (hState : Cert.State.Facts) (hStateIdeal : Cert.StateIdeal.Facts) (hStateRefIdeal : Cert.StateRefIdeal.Facts) (hPre_finite_scores : Cert.Pre_finite_scores.Facts) (hPre_finite_steps : Cert.Pre_finite_steps.Facts),
    quiescent_Attn (hAttn := hAttn)
    ∧ quiescent_AttnIdeal (hAttnIdeal := hAttnIdeal)
    ∧ quiescent_AttnIdeal_pre_finite_scores (hAttnIdeal := hAttnIdeal) (hPre_finite_scores := hPre_finite_scores)
    ∧ quiescent_AttnRefIdeal (hAttnRefIdeal := hAttnRefIdeal)
    ∧ quiescent_AttnRefIdeal_pre_finite_scores (hAttnRefIdeal := hAttnRefIdeal) (hPre_finite_scores := hPre_finite_scores)
    ∧ quiescent_Proj (hProj := hProj)
    ∧ quiescent_ProjIdeal (hProjIdeal := hProjIdeal)
    ∧ quiescent_ProjRefIdeal (hProjRefIdeal := hProjRefIdeal)
    ∧ quiescent_Gate (hGate := hGate)
    ∧ quiescent_GateIdeal (hGateIdeal := hGateIdeal)
    ∧ quiescent_GateRefIdeal (hGateRefIdeal := hGateRefIdeal)
    ∧ quiescent_Dt (hDt := hDt)
    ∧ quiescent_DtIdeal (hDtIdeal := hDtIdeal)
    ∧ quiescent_DtRefIdeal (hDtRefIdeal := hDtRefIdeal)
    ∧ quiescent_Merge (hMerge := hMerge)
    ∧ quiescent_MergeIdeal (hMergeIdeal := hMergeIdeal)
    ∧ quiescent_MergeRefIdeal (hMergeRefIdeal := hMergeRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_Swiglu (hSwiglu := hSwiglu)
    ∧ quiescent_SwigluIdeal (hSwigluIdeal := hSwigluIdeal)
    ∧ quiescent_SwigluRefIdeal (hSwigluRefIdeal := hSwigluRefIdeal)
    ∧ quiescent_Down (hDown := hDown)
    ∧ quiescent_DownIdeal (hDownIdeal := hDownIdeal)
    ∧ quiescent_DownRefIdeal (hDownRefIdeal := hDownRefIdeal)
    ∧ quiescent_LnOut (hLnOut := hLnOut)
    ∧ quiescent_LnOutIdeal (hLnOutIdeal := hLnOutIdeal)
    ∧ quiescent_LnOutRefIdeal (hLnOutRefIdeal := hLnOutRefIdeal)
    ∧ quiescent_LnMod (hLnMod := hLnMod)
    ∧ quiescent_LnModIdeal (hLnModIdeal := hLnModIdeal)
    ∧ quiescent_LnModRefIdeal (hLnModRefIdeal := hLnModRefIdeal)
    ∧ quiescent_Modulate (hModulate := hModulate)
    ∧ quiescent_ModulateIdeal (hModulateIdeal := hModulateIdeal)
    ∧ quiescent_ModulateRefIdeal (hModulateRefIdeal := hModulateRefIdeal)
    ∧ quiescent_Qkv (hQkv := hQkv)
    ∧ quiescent_QkvIdeal (hQkvIdeal := hQkvIdeal)
    ∧ quiescent_QkvRefIdeal (hQkvRefIdeal := hQkvRefIdeal)
    ∧ quiescent_State (hState := hState)
    ∧ quiescent_StateIdeal (hStateIdeal := hStateIdeal)
    ∧ quiescent_StateIdeal_pre_finite_steps (hStateIdeal := hStateIdeal) (hPre_finite_steps := hPre_finite_steps)
    ∧ quiescent_StateRefIdeal (hStateRefIdeal := hStateRefIdeal)
    ∧ quiescent_StateRefIdeal_pre_finite_steps (hStateRefIdeal := hStateRefIdeal) (hPre_finite_steps := hPre_finite_steps)
    ∧ preserves_Attn_AttnIdeal
    ∧ algebraic_AttnIdeal_AttnRefIdeal_pre_finite_scores (hAttnIdeal := hAttnIdeal) (hAttnRefIdeal := hAttnRefIdeal) (hPre_finite_scores := hPre_finite_scores)
    ∧ preserves_Proj_ProjIdeal
    ∧ algebraic_ProjIdeal_ProjRefIdeal (hProjIdeal := hProjIdeal) (hProjRefIdeal := hProjRefIdeal)
    ∧ preserves_Gate_GateIdeal
    ∧ algebraic_GateIdeal_GateRefIdeal (hGateIdeal := hGateIdeal) (hGateRefIdeal := hGateRefIdeal)
    ∧ preserves_Dt_DtIdeal
    ∧ algebraic_DtIdeal_DtRefIdeal (hDtIdeal := hDtIdeal) (hDtRefIdeal := hDtRefIdeal)
    ∧ preserves_Merge_MergeIdeal
    ∧ algebraic_MergeIdeal_MergeRefIdeal (hMergeIdeal := hMergeIdeal) (hMergeRefIdeal := hMergeRefIdeal)
    ∧ preserves_OutProj_OutProjIdeal
    ∧ algebraic_OutProjIdeal_OutProjRefIdeal (hOutProjIdeal := hOutProjIdeal) (hOutProjRefIdeal := hOutProjRefIdeal)
    ∧ preserves_Swiglu_SwigluIdeal
    ∧ algebraic_SwigluIdeal_SwigluRefIdeal (hSwigluIdeal := hSwigluIdeal) (hSwigluRefIdeal := hSwigluRefIdeal)
    ∧ preserves_Down_DownIdeal
    ∧ algebraic_DownIdeal_DownRefIdeal (hDownIdeal := hDownIdeal) (hDownRefIdeal := hDownRefIdeal)
    ∧ preserves_LnOut_LnOutIdeal
    ∧ algebraic_LnOutIdeal_LnOutRefIdeal (hLnOutIdeal := hLnOutIdeal) (hLnOutRefIdeal := hLnOutRefIdeal)
    ∧ preserves_LnMod_LnModIdeal
    ∧ algebraic_LnModIdeal_LnModRefIdeal (hLnModIdeal := hLnModIdeal) (hLnModRefIdeal := hLnModRefIdeal)
    ∧ preserves_Modulate_ModulateIdeal
    ∧ algebraic_ModulateIdeal_ModulateRefIdeal (hModulateIdeal := hModulateIdeal) (hModulateRefIdeal := hModulateRefIdeal)
    ∧ preserves_Qkv_QkvIdeal
    ∧ algebraic_QkvIdeal_QkvRefIdeal (hQkvIdeal := hQkvIdeal) (hQkvRefIdeal := hQkvRefIdeal)
    ∧ preserves_State_StateIdeal
    ∧ algebraic_StateIdeal_StateRefIdeal_pre_finite_steps (hStateIdeal := hStateIdeal) (hStateRefIdeal := hStateRefIdeal) (hPre_finite_steps := hPre_finite_steps)
-- ==== Pre_finite_scores.lean ====
abbrev S12288x2048 : Shape := ⟨2, ![12288, 2048]⟩
abbrev S12288x512 : Shape := ⟨2, ![12288, 512]⟩
abbrev S2x512x4x128 : Shape := ⟨4, ![2, 512, 4, 128]⟩
abbrev S_ : Shape := ⟨0, ![]⟩
abbrev S25165824 : Shape := ⟨1, ![25165824]⟩
abbrev S6291456 : Shape := ⟨1, ![6291456]⟩
abbrev S524288 : Shape := ⟨1, ![524288]⟩
abbrev S31981568 : Shape := ⟨1, ![31981568]⟩

class Facts : Prop where
  bcast_S_S12288x2048 : S_.BroadcastsInDim S12288x2048 (![] : Fin 0 → Fin S12288x2048.rank)
  shapeCasts_S12288x2048_S25165824 : S12288x2048.ShapeCasts S25165824
  bcast_S_S12288x512 : S_.BroadcastsInDim S12288x512 (![] : Fin 0 → Fin S12288x512.rank)
  shapeCasts_S12288x512_S6291456 : S12288x512.ShapeCasts S6291456
  bcast_S_S2x512x4x128 : S_.BroadcastsInDim S2x512x4x128 (![] : Fin 0 → Fin S2x512x4x128.rank)
  shapeCasts_S2x512x4x128_S524288 : S2x512x4x128.ShapeCasts S524288
  concatenates_S25165824_S6291456_S524288_S31981568_d0 : Shape.Concatenates [S25165824, S6291456, S524288] S31981568 0

variable [Facts]

def fn {F : FTy → Type} [FloatOps F] (main_arg0 : FVec F S12288x2048 .bf16) (main_arg1 : FVec F S12288x512 .bf16) (main_arg2 : FVec F S12288x512 .bf16) (main_arg3 : FVec F S2x512x4x128 .f32) (main_arg4 : FVec F S2x512x4x128 .f32) (main_arg5 : FVec F S12288x2048 .bf16) : IVec S31981568 1 :=
  let main_v0 : FVec F S12288x2048 .bf16 := Host.absf main_arg0
  let main_cst : FVec F S_ .bf16 := constant S_ .bf16 0x7F80#16
  let main_v1 : FVec F S12288x2048 .bf16 := broadcastInDim S12288x2048 ![] bcast_S_S12288x2048 main_cst
  let main_v2 : IVec S12288x2048 1 := cmpf .olt main_v0 main_v1
  let main_v3 : IVec S25165824 1 := shapeCast S25165824 main_v2 shapeCasts_S12288x2048_S25165824
  let main_v4 : FVec F S12288x512 .bf16 := Host.absf main_arg1
  let main_cst_0 : FVec F S_ .bf16 := constant S_ .bf16 0x7F80#16
  let main_v5 : FVec F S12288x512 .bf16 := broadcastInDim S12288x512 ![] bcast_S_S12288x512 main_cst_0
  let main_v6 : IVec S12288x512 1 := cmpf .olt main_v4 main_v5
  let main_v7 : IVec S6291456 1 := shapeCast S6291456 main_v6 shapeCasts_S12288x512_S6291456
  let main_v8 : FVec F S2x512x4x128 .f32 := Host.absf main_arg3
  let main_cst_1 : FVec F S_ .f32 := constant S_ .f32 0x7F800000#32
  let main_v9 : FVec F S2x512x4x128 .f32 := broadcastInDim S2x512x4x128 ![] bcast_S_S2x512x4x128 main_cst_1
  let main_v10 : IVec S2x512x4x128 1 := cmpf .olt main_v8 main_v9
  let main_v11 : IVec S524288 1 := shapeCast S524288 main_v10 shapeCasts_S2x512x4x128_S524288
  let main_v12 : IVec S31981568 1 := concatenate S31981568 0 [⟨S25165824, main_v3⟩, ⟨S6291456, main_v7⟩, ⟨S524288, main_v11⟩] concatenates_S25165824_S6291456_S524288_S31981568_d0
  main_v12
-- ==== Pre_finite_steps.lean ====
abbrev S12288x4096 : Shape := ⟨2, ![12288, 4096]⟩
abbrev S12288x128 : Shape := ⟨2, ![12288, 128]⟩
abbrev S4096x32 : Shape := ⟨2, ![4096, 32]⟩
abbrev S_ : Shape := ⟨0, ![]⟩

class Facts : Prop where
  slices_S12288x128_S4096x32_0_96 : S12288x128.Slices ![0, 96] S4096x32
  bcast_S_S4096x32 : S_.BroadcastsInDim S4096x32 (![] : Fin 0 → Fin S4096x32.rank)

variable [Facts]

def fn {F : FTy → Type} [FloatOps F] (main_arg0 : FVec F S12288x4096 .f32) (main_arg1 : FVec F S12288x128 .f32) : IVec S4096x32 1 :=
  let main_v0 : FVec F S4096x32 .f32 := (extractStridedSlice S4096x32 ![0, 96] · slices_S12288x128_S4096x32_0_96) main_arg1
  let main_v1 : FVec F S4096x32 .f32 := Host.absf main_v0
  let main_cst : FVec F S_ .f32 := constant S_ .f32 0x7F800000#32
  let main_v2 : FVec F S4096x32 .f32 := broadcastInDim S4096x32 ![] bcast_S_S4096x32 main_cst
  let main_v3 : IVec S4096x32 1 := cmpf .olt main_v1 main_v2
  main_v3
-- ==== Attn.lean ====
abbrev S12288x2048 : Shape := ⟨2, ![12288, 2048]⟩
abbrev S12288x512 : Shape := ⟨2, ![12288, 512]⟩
abbrev S2x512x4x128 : Shape := ⟨4, ![2, 512, 4, 128]⟩
abbrev S2x512x512 : Shape := ⟨3, ![2, 512, 512]⟩
abbrev S8192x512 : Shape := ⟨2, ![8192, 512]⟩
abbrev S2x4096x512 : Shape := ⟨3, ![2, 4096, 512]⟩
abbrev S2x4608x512 : Shape := ⟨3, ![2, 4608, 512]⟩
abbrev S256x512 : Shape := ⟨2, ![256, 512]⟩
abbrev S1x4608x128 : Shape := ⟨3, ![1, 4608, 128]⟩
abbrev S4608x128 : Shape := ⟨2, ![4608, 128]⟩
abbrev S256x128 : Shape := ⟨2, ![256, 128]⟩
abbrev S256x4608 : Shape := ⟨2, ![256, 4608]⟩
abbrev S256 : Shape := ⟨1, ![256]⟩
abbrev S256x1 : Shape := ⟨2, ![256, 1]⟩

abbrev nBuf : Space → Nat
  | .hbm => 17
  | .vmem => 8
  | .smem => 0
  | _ => 0

abbrev bufTy : (tb : Table) → Fin (tcTables nBuf tb) → BufTy
  | .hbm, ⟨0, _⟩ => ⟨S12288x2048, .bf16⟩
  | .hbm, ⟨1, _⟩ => ⟨S12288x512, .bf16⟩
  | .hbm, ⟨2, _⟩ => ⟨S12288x512, .bf16⟩
  | .hbm, ⟨3, _⟩ => ⟨S2x512x4x128, .f32⟩
  | .hbm, ⟨4, _⟩ => ⟨S2x512x4x128, .f32⟩
  | .hbm, ⟨5, _⟩ => ⟨S12288x2048, .bf16⟩
  | .hbm, ⟨6, _⟩ => ⟨S2x512x512, .f32⟩
  | .hbm, ⟨7, _⟩ => ⟨S2x512x512, .bf16⟩
  | .hbm, ⟨8, _⟩ => ⟨S8192x512, .bf16⟩
  | .hbm, ⟨9, _⟩ => ⟨S2x4096x512, .bf16⟩
  | .hbm, ⟨10, _⟩ => ⟨S2x4608x512, .bf16⟩
  | .hbm, ⟨11, _⟩ => ⟨S2x512x512, .f32⟩
  | .hbm, ⟨12, _⟩ => ⟨S2x512x512, .bf16⟩
  | .hbm, ⟨13, _⟩ => ⟨S8192x512, .bf16⟩
  | .hbm, ⟨14, _⟩ => ⟨S2x4096x512, .bf16⟩
  | .hbm, ⟨15, _⟩ => ⟨S2x4608x512, .bf16⟩
  | .hbm, ⟨16, _⟩ => ⟨S12288x2048, .bf16⟩
  | .local _ .vmem, ⟨0, _⟩ => ⟨S256x512, .bf16⟩
  | .local _ .vmem, ⟨1, _⟩ => ⟨S256x512, .bf16⟩
  | .local _ .vmem, ⟨2, _⟩ => ⟨S1x4608x128, .bf16⟩
  | .local _ .vmem, ⟨3, _⟩ => ⟨S1x4608x128, .bf16⟩
  | .local _ .vmem, ⟨4, _⟩ => ⟨S1x4608x128, .bf16⟩
  | .local _ .vmem, ⟨5, _⟩ => ⟨S1x4608x128, .bf16⟩
  | .local _ .vmem, ⟨6, _⟩ => ⟨S256x512, .bf16⟩
  | .local _ .vmem, ⟨7, _⟩ => ⟨S256x512, .bf16⟩
  | _, _ => ⟨S12288x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let c16_i32_0 : BitVec 32 := 16#32
  let v1 : BitVec 32 := Scalar.addi c16_i32_0 v0
  let v2 : BitVec 32 := Scalar.addi v1 arg2
  let c0_i32 : BitVec 32 := 0#32
  ![v2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let c16_i32_0 : BitVec 32 := 16#32
  let v1 : BitVec 32 := Scalar.addi c16_i32_0 v0
  let v2 : BitVec 32 := Scalar.addi v1 arg2
  let c0_i32 : BitVec 32 := 0#32
  ![v2.toNat, arg1.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4608x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4608x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== AttnRefIdeal.lean ====
abbrev S12288x2048 : Shape := ⟨2, ![12288, 2048]⟩
abbrev S12288x512 : Shape := ⟨2, ![12288, 512]⟩
abbrev S2x512x4x128 : Shape := ⟨4, ![2, 512, 4, 128]⟩
abbrev S8192x2048 : Shape := ⟨2, ![8192, 2048]⟩
abbrev S2x4096x4x4x128 : Shape := ⟨5, ![2, 4096, 4, 4, 128]⟩
abbrev S8192x512 : Shape := ⟨2, ![8192, 512]⟩
abbrev S2x4096x4x128 : Shape := ⟨4, ![2, 4096, 4, 128]⟩
abbrev S2x4608x4x128 : Shape := ⟨4, ![2, 4608, 4, 128]⟩
abbrev S2x4x4608x4096x4 : Shape := ⟨5, ![2, 4, 4608, 4096, 4]⟩
abbrev S2x4x4x4096x4608 : Shape := ⟨5, ![2, 4, 4, 4096, 4608]⟩
abbrev S_ : Shape := ⟨0, ![]⟩
abbrev S2x4x4x4096 : Shape := ⟨4, ![2, 4, 4, 4096]⟩
abbrev S2x4x4x4096x1 : Shape := ⟨5, ![2, 4, 4, 4096, 1]⟩
abbrev S2x4x128x4x4096 : Shape := ⟨5, ![2, 4, 128, 4, 4096]⟩
abbrev S4096x2048 : Shape := ⟨2, ![4096, 2048]⟩

abbrev nBuf : Space → Nat
  | .hbm => 39
  | .vmem => 0
  | .smem => 0
  | _ => 0

abbrev bufTy : (tb : Table) → Fin (tcTables nBuf tb) → BufTy
  | .hbm, ⟨0, _⟩ => ⟨S12288x2048, .bf16⟩
  | .hbm, ⟨1, _⟩ => ⟨S12288x512, .bf16⟩
  | .hbm, ⟨2, _⟩ => ⟨S12288x512, .bf16⟩
  | .hbm, ⟨3, _⟩ => ⟨S2x512x4x128, .f32⟩
  | .hbm, ⟨4, _⟩ => ⟨S2x512x4x128, .f32⟩
  | .hbm, ⟨5, _⟩ => ⟨S12288x2048, .bf16⟩
  | .hbm, ⟨6, _⟩ => ⟨S8192x2048, .bf16⟩
  | .hbm, ⟨7, _⟩ => ⟨S8192x2048, .f32⟩
  | .hbm, ⟨8, _⟩ => ⟨S2x4096x4x4x128, .f32⟩
  | .hbm, ⟨9, _⟩ => ⟨S8192x512, .bf16⟩
  | .hbm, ⟨10, _⟩ => ⟨S8192x512, .f32⟩
  | .hbm, ⟨11, _⟩ => ⟨S2x4096x4x128, .f32⟩
  | .hbm, ⟨12, _⟩ => ⟨S2x4608x4x128, .f32⟩
  | .hbm, ⟨13, _⟩ => ⟨S8192x512, .bf16⟩
  | .hbm, ⟨14, _⟩ => ⟨S8192x512, .f32⟩
  | .hbm, ⟨15, _⟩ => ⟨S2x4096x4x128, .f32⟩
  | .hbm, ⟨16, _⟩ => ⟨S2x4608x4x128, .f32⟩
  | .hbm, ⟨17, _⟩ => ⟨S2x4x4608x4096x4, .f32⟩
  | .hbm, ⟨18, _⟩ => ⟨S2x4x4x4096x4608, .f32⟩
  | .hbm, ⟨19, _⟩ => ⟨S_, .f32⟩
  | .hbm, ⟨20, _⟩ => ⟨S2x4x4x4096, .f32⟩
  | .hbm, ⟨21, _⟩ => ⟨S_, .f32⟩
  | .hbm, ⟨22, _⟩ => ⟨S2x4x4x4096, .f32⟩
  | .hbm, ⟨23, _⟩ => ⟨S2x4x4x4096, .f32⟩
  | .hbm, ⟨24, _⟩ => ⟨S2x4x4x4096x1, .f32⟩
  | .hbm, ⟨25, _⟩ => ⟨S2x4x4x4096x4608, .f32⟩
  | .hbm, ⟨26, _⟩ => ⟨S2x4x4x4096x4608, .f32⟩
  | .hbm, ⟨27, _⟩ => ⟨S2x4x4x4096x4608, .f32⟩
  | .hbm, ⟨28, _⟩ => ⟨S_, .f32⟩
  | .hbm, ⟨29, _⟩ => ⟨S2x4x4x4096, .f32⟩
  | .hbm, ⟨30, _⟩ => ⟨S2x4x4x4096x1, .f32⟩
  | .hbm, ⟨31, _⟩ => ⟨S2x4x4x4096x4608, .f32⟩
  | .hbm, ⟨32, _⟩ => ⟨S2x4x4x4096x4608, .f32⟩
  | .hbm, ⟨33, _⟩ => ⟨S2x4x128x4x4096, .f32⟩
  | .hbm, ⟨34, _⟩ => ⟨S2x4096x4x4x128, .f32⟩
  | .hbm, ⟨35, _⟩ => ⟨S4096x2048, .bf16⟩
  | .hbm, ⟨36, _⟩ => ⟨S8192x2048, .f32⟩
  | .hbm, ⟨37, _⟩ => ⟨S8192x2048, .bf16⟩
  | .hbm, ⟨38, _⟩ => ⟨S12288x2048, .bf16⟩
  | _, _ => ⟨S12288x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_1 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩

abbrev nD : Nat := 1
abbrev τ : Topo := Topo.v7x

variable {F : FTy → Type} [FloatOps F]
-- ==== Proj.lean ====
abbrev S12288x4096 : Shape := ⟨2, ![12288, 4096]⟩
abbrev S2x4096x27712 : Shape := ⟨3, ![2, 4096, 27712]⟩
abbrev S2x27712x4096 : Shape := ⟨3, ![2, 27712, 4096]⟩
abbrev S12288x15360 : Shape := ⟨2, ![12288, 15360]⟩
abbrev S1024x4096 : Shape := ⟨2, ![1024, 4096]⟩
abbrev S1x512x4096 : Shape := ⟨3, ![1, 512, 4096]⟩
abbrev S1024x512 : Shape := ⟨2, ![1024, 512]⟩
abbrev S512x4096 : Shape := ⟨2, ![512, 4096]⟩

abbrev nBuf : Space → Nat
  | .hbm => 5
  | .vmem => 6
  | .smem => 0
  | _ => 0

abbrev bufTy : (tb : Table) → Fin (tcTables nBuf tb) → BufTy
  | .hbm, ⟨0, _⟩ => ⟨S12288x4096, .bf16⟩
  | .hbm, ⟨1, _⟩ => ⟨S2x4096x27712, .f32⟩
  | .hbm, ⟨2, _⟩ => ⟨S2x27712x4096, .f32⟩
  | .hbm, ⟨3, _⟩ => ⟨S2x27712x4096, .bf16⟩
  | .hbm, ⟨4, _⟩ => ⟨S12288x15360, .f32⟩
  | .local _ .vmem, ⟨0, _⟩ => ⟨S1024x4096, .bf16⟩
  | .local _ .vmem, ⟨1, _⟩ => ⟨S1024x4096, .bf16⟩
  | .local _ .vmem, ⟨2, _⟩ => ⟨S1x512x4096, .bf16⟩
  | .local _ .vmem, ⟨3, _⟩ => ⟨S1x512x4096, .bf16⟩
  | .local _ .vmem, ⟨4, _⟩ => ⟨S1024x512, .f32⟩
  | .local _ .vmem, ⟨5, _⟩ => ⟨S1024x512, .f32⟩
  | _, _ => ⟨S12288x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![12, 30], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![c0_i32_0.toNat, v0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjRefIdeal.lean ====
abbrev S12288x4096 : Shape := ⟨2, ![12288, 4096]⟩
abbrev S2x4096x27712 : Shape := ⟨3, ![2, 4096, 27712]⟩
abbrev S1x4096x27712 : Shape := ⟨3, ![1, 4096, 27712]⟩
abbrev S4096x27712 : Shape := ⟨2, ![4096, 27712]⟩
abbrev S12288x27712 : Shape := ⟨2, ![12288, 27712]⟩
abbrev S12288x15360 : Shape := ⟨2, ![12288, 15360]⟩

abbrev nBuf : Space → Nat
  | .hbm => 7
  | .vmem => 0
  | .smem => 0
  | _ => 0

abbrev bufTy : (tb : Table) → Fin (tcTables nBuf tb) → BufTy
  | .hbm, ⟨0, _⟩ => ⟨S12288x4096, .bf16⟩
  | .hbm, ⟨1, _⟩ => ⟨S2x4096x27712, .f32⟩
  | .hbm, ⟨2, _⟩ => ⟨S12288x4096, .f32⟩
  | .hbm, ⟨3, _⟩ => ⟨S1x4096x27712, .f32⟩
  | .hbm, ⟨4, _⟩ => ⟨S4096x27712, .f32⟩
  | .hbm, ⟨5, _⟩ => ⟨S12288x27712, .f32⟩
  | .hbm, ⟨6, _⟩ => ⟨S12288x15360, .f32⟩
  | _, _ => ⟨S12288x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Gate.lean ====
abbrev S12288x4096 : Shape := ⟨2, ![12288, 4096]⟩
abbrev S2x4096x27712 : Shape := ⟨3, ![2, 4096, 27712]⟩
abbrev S2x27712x4096 : Shape := ⟨3, ![2, 27712, 4096]⟩
abbrev S1x12288x4096 : Shape := ⟨3, ![1, 12288, 4096]⟩
abbrev S12288x12288 : Shape := ⟨2, ![12288, 12288]⟩
abbrev S1024x4096 : Shape := ⟨2, ![1024, 4096]⟩
abbrev S512x4096 : Shape := ⟨2, ![512, 4096]⟩
abbrev S1024x512 : Shape := ⟨2, ![1024, 512]⟩

abbrev nBuf : Space → Nat
  | .hbm => 7
  | .vmem => 6
  | .smem => 0
  | _ => 0

abbrev bufTy : (tb : Table) → Fin (tcTables nBuf tb) → BufTy
  | .hbm, ⟨0, _⟩ => ⟨S12288x4096, .bf16⟩
  | .hbm, ⟨1, _⟩ => ⟨S2x4096x27712, .f32⟩
  | .hbm, ⟨2, _⟩ => ⟨S2x27712x4096, .f32⟩
  | .hbm, ⟨3, _⟩ => ⟨S2x27712x4096, .bf16⟩
  | .hbm, ⟨4, _⟩ => ⟨S1x12288x4096, .bf16⟩
  | .hbm, ⟨5, _⟩ => ⟨S12288x4096, .bf16⟩
  | .hbm, ⟨6, _⟩ => ⟨S12288x12288, .bf16⟩
  | .local _ .vmem, ⟨0, _⟩ => ⟨S1024x4096, .bf16⟩
  | .local _ .vmem, ⟨1, _⟩ => ⟨S1024x4096, .bf16⟩
  | .local _ .vmem, ⟨2, _⟩ => ⟨S512x4096, .bf16⟩
  | .local _ .vmem, ⟨3, _⟩ => ⟨S512x4096, .bf16⟩
  | .local _ .vmem, ⟨4, _⟩ => ⟨S1024x512, .bf16⟩
  | .local _ .vmem, ⟨5, _⟩ => ⟨S1024x512, .bf16⟩
  | _, _ => ⟨S12288x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![12, 24], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GateRefIdeal.lean ====
abbrev S12288x4096 : Shape := ⟨2, ![12288, 4096]⟩
abbrev S2x4096x27712 : Shape := ⟨3, ![2, 4096, 27712]⟩
abbrev S1x4096x27712 : Shape := ⟨3, ![1, 4096, 27712]⟩
abbrev S4096x27712 : Shape := ⟨2, ![4096, 27712]⟩
abbrev S12288x27712 : Shape := ⟨2, ![12288, 27712]⟩
abbrev S12288x12288 : Shape := ⟨2, ![12288, 12288]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S12288x4096, .bf16⟩
  | .hbm, ⟨1, _⟩ => ⟨S2x4096x27712, .f32⟩
  | .hbm, ⟨2, _⟩ => ⟨S12288x4096, .f32⟩
  | .hbm, ⟨3, _⟩ => ⟨S1x4096x27712, .f32⟩
  | .hbm, ⟨4, _⟩ => ⟨S4096x27712, .f32⟩
  | .hbm, ⟨5, _⟩ => ⟨S12288x27712, .f32⟩
  | .hbm, ⟨6, _⟩ => ⟨S12288x12288, .f32⟩
  | .hbm, ⟨7, _⟩ => ⟨S12288x12288, .f32⟩
  | .hbm, ⟨8, _⟩ => ⟨S12288x12288, .f32⟩
  | .hbm, ⟨9, _⟩ => ⟨S_, .f32⟩
  | .hbm, ⟨10, _⟩ => ⟨S12288x12288, .f32⟩
  | .hbm, ⟨11, _⟩ => ⟨S12288x12288, .f32⟩
  | .hbm, ⟨12, _⟩ => ⟨S_, .f32⟩
  | .hbm, ⟨13, _⟩ => ⟨S12288x12288, .f32⟩
  | .hbm, ⟨14, _⟩ => ⟨S12288x12288, .f32⟩
  | .hbm, ⟨15, _⟩ => ⟨S12288x12288, .bf16⟩
  | _, _ => ⟨S12288x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== Dt.lean ====
abbrev S12288x4096 : Shape := ⟨2, ![12288, 4096]⟩
abbrev S2x4096x27712 : Shape := ⟨3, ![2, 4096, 27712]⟩
abbrev S2x27712x4096 : Shape := ⟨3, ![2, 27712, 4096]⟩
abbrev S12288x128 : Shape := ⟨2, ![12288, 128]⟩
abbrev S2048x4096 : Shape := ⟨2, ![2048, 4096]⟩
abbrev S1x128x4096 : Shape := ⟨3, ![1, 128, 4096]⟩
abbrev S2048x128 : Shape := ⟨2, ![2048, 128]⟩
abbrev S128x4096 : Shape := ⟨2, ![128, 4096]⟩

abbrev nBuf : Space → Nat
  | .hbm => 5
  | .vmem => 5
  | .smem => 0
  | _ => 0

abbrev bufTy : (tb : Table) → Fin (tcTables nBuf tb) → BufTy
  | .hbm, ⟨0, _⟩ => ⟨S12288x4096, .bf16⟩
  | .hbm, ⟨1, _⟩ => ⟨S2x4096x27712, .f32⟩
  | .hbm, ⟨2, _⟩ => ⟨S2x27712x4096, .f32⟩
  | .hbm, ⟨3, _⟩ => ⟨S2x27712x4096, .bf16⟩
  | .hbm, ⟨4, _⟩ => ⟨S12288x128, .f32⟩
  | .local _ .vmem, ⟨0, _⟩ => ⟨S2048x4096, .bf16⟩
  | .local _ .vmem, ⟨1, _⟩ => ⟨S2048x4096, .bf16⟩
  | .local _ .vmem, ⟨2, _⟩ => ⟨S1x128x4096, .bf16⟩
  | .local _ .vmem, ⟨3, _⟩ => ⟨S2048x128, .f32⟩
  | .local _ .vmem, ⟨4, _⟩ => ⟨S2048x128, .f32⟩
  | _, _ => ⟨S12288x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![6, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c120_i32 : BitVec 32 := 120#32
  let v0 : BitVec 32 := Scalar.addi c120_i32 arg1
  let c0_i32 : BitVec 32 := 0#32
  let c0_i32_0 : BitVec 32 := 0#32
  let c0_i32_1 : BitVec 32 := 0#32
  ![c0_i32.toNat, v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x128x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DtRefIdeal.lean ====
abbrev S12288x4096 : Shape := ⟨2, ![12288, 4096]⟩
abbrev S2x4096x27712 : Shape := ⟨3, ![2, 4096, 27712]⟩
abbrev S1x4096x27712 : Shape := ⟨3, ![1, 4096, 27712]⟩
abbrev S4096x27712 : Shape := ⟨2, ![4096, 27712]⟩
abbrev S12288x27712 : Shape := ⟨2, ![12288, 27712]⟩
abbrev S12288x128 : Shape := ⟨2, ![12288, 128]⟩

abbrev nBuf : Space → Nat
  | .hbm => 7
  | .vmem => 0
  | .smem => 0
  | _ => 0

abbrev bufTy : (tb : Table) → Fin (tcTables nBuf tb) → BufTy
  | .hbm, ⟨0, _⟩ => ⟨S12288x4096, .bf16⟩
  | .hbm, ⟨1, _⟩ => ⟨S2x4096x27712, .f32⟩
  | .hbm, ⟨2, _⟩ => ⟨S12288x4096, .f32⟩
  | .hbm, ⟨3, _⟩ => ⟨S1x4096x27712, .f32⟩
  | .hbm, ⟨4, _⟩ => ⟨S4096x27712, .f32⟩
  | .hbm, ⟨5, _⟩ => ⟨S12288x27712, .f32⟩
  | .hbm, ⟨6, _⟩ => ⟨S12288x128, .f32⟩
  | _, _ => ⟨S12288x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Merge.lean ====
abbrev S12288x2048 : Shape := ⟨2, ![12288, 2048]⟩
abbrev S2048x4096 : Shape := ⟨2, ![2048, 4096]⟩
abbrev S12288x12288 : Shape := ⟨2, ![12288, 12288]⟩
abbrev S12288x4096 : Shape := ⟨2, ![12288, 4096]⟩
abbrev S512x2048 : Shape := ⟨2, ![512, 2048]⟩
abbrev S2048x512 : Shape := ⟨2, ![2048, 512]⟩
abbrev S512x512 : Shape := ⟨2, ![512, 512]⟩

abbrev nBuf : Space → Nat
  | .hbm => 11
  | .vmem => 20
  | .smem => 0
  | _ => 0

abbrev bufTy : (tb : Table) → Fin (tcTables nBuf tb) → BufTy
  | .hbm, ⟨0, _⟩ => ⟨S12288x2048, .bf16⟩
  | .hbm, ⟨1, _⟩ => ⟨S12288x2048, .bf16⟩
  | .hbm, ⟨2, _⟩ => ⟨S12288x2048, .bf16⟩
  | .hbm, ⟨3, _⟩ => ⟨S2048x4096, .f32⟩
  | .hbm, ⟨4, _⟩ => ⟨S2048x4096, .f32⟩
  | .hbm, ⟨5, _⟩ => ⟨S2048x4096, .f32⟩
  | .hbm, ⟨6, _⟩ => ⟨S12288x12288, .bf16⟩
  | .hbm, ⟨7, _⟩ => ⟨S2048x4096, .bf16⟩
  | .hbm, ⟨8, _⟩ => ⟨S2048x4096, .bf16⟩
  | .hbm, ⟨9, _⟩ => ⟨S2048x4096, .bf16⟩
  | .hbm, ⟨10, _⟩ => ⟨S12288x4096, .bf16⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S2048x512, .bf16⟩
  | .local _ .vmem, ⟨10, _⟩ => ⟨S2048x512, .bf16⟩
  | .local _ .vmem, ⟨11, _⟩ => ⟨S2048x512, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S512x512, .bf16⟩
  | _, _ => ⟨S12288x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![8, 24], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![arg1.toNat, v0.toNat]

def cc0_transform_8 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  ![arg1.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== MergeRefIdeal.lean ====
abbrev S12288x2048 : Shape := ⟨2, ![12288, 2048]⟩
abbrev S2048x4096 : Shape := ⟨2, ![2048, 4096]⟩
abbrev S12288x12288 : Shape := ⟨2, ![12288, 12288]⟩
abbrev S12288x3x4096 : Shape := ⟨3, ![12288, 3, 4096]⟩
abbrev S12288x1x4096 : Shape := ⟨3, ![12288, 1, 4096]⟩
abbrev S12288x4096 : Shape := ⟨2, ![12288, 4096]⟩

abbrev nBuf : Space → Nat
  | .hbm => 27
  | .vmem => 0
  | .smem => 0
  | _ => 0

abbrev bufTy : (tb : Table) → Fin (tcTables nBuf tb) → BufTy
  | .hbm, ⟨0, _⟩ => ⟨S12288x2048, .bf16⟩
  | .hbm, ⟨1, _⟩ => ⟨S12288x2048, .bf16⟩
  | .hbm, ⟨2, _⟩ => ⟨S12288x2048, .bf16⟩
  | .hbm, ⟨3, _⟩ => ⟨S2048x4096, .f32⟩
  | .hbm, ⟨4, _⟩ => ⟨S2048x4096, .f32⟩
  | .hbm, ⟨5, _⟩ => ⟨S2048x4096, .f32⟩
  | .hbm, ⟨6, _⟩ => ⟨S12288x12288, .bf16⟩
  | .hbm, ⟨7, _⟩ => ⟨S12288x12288, .f32⟩
  | .hbm, ⟨8, _⟩ => ⟨S12288x3x4096, .f32⟩
  | .hbm, ⟨9, _⟩ => ⟨S12288x1x4096, .f32⟩
  | .hbm, ⟨10, _⟩ => ⟨S12288x4096, .f32⟩
  | .hbm, ⟨11, _⟩ => ⟨S12288x2048, .f32⟩
  | .hbm, ⟨12, _⟩ => ⟨S12288x4096, .f32⟩
  | .hbm, ⟨13, _⟩ => ⟨S12288x4096, .f32⟩
  | .hbm, ⟨14, _⟩ => ⟨S12288x1x4096, .f32⟩
  | .hbm, ⟨15, _⟩ => ⟨S12288x4096, .f32⟩
  | .hbm, ⟨16, _⟩ => ⟨S12288x2048, .f32⟩
  | .hbm, ⟨17, _⟩ => ⟨S12288x4096, .f32⟩
  | .hbm, ⟨18, _⟩ => ⟨S12288x4096, .f32⟩
  | .hbm, ⟨19, _⟩ => ⟨S12288x4096, .f32⟩
  | .hbm, ⟨20, _⟩ => ⟨S12288x1x4096, .f32⟩
  | .hbm, ⟨21, _⟩ => ⟨S12288x4096, .f32⟩
  | .hbm, ⟨22, _⟩ => ⟨S12288x2048, .f32⟩
  | .hbm, ⟨23, _⟩ => ⟨S12288x4096, .f32⟩
  | .hbm, ⟨24, _⟩ => ⟨S12288x4096, .f32⟩
  | .hbm, ⟨25, _⟩ => ⟨S12288x4096, .f32⟩
  | .hbm, ⟨26, _⟩ => ⟨S12288x4096, .bf16⟩
  | _, _ => ⟨S12288x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== OutProj.lean ====
abbrev S12288x4096 : Shape := ⟨2, ![12288, 4096]⟩
abbrev S4096x4096 : Shape := ⟨2, ![4096, 4096]⟩
abbrev S1x12288x4096 : Shape := ⟨3, ![1, 12288, 4096]⟩
abbrev S1x4096x4096 : Shape := ⟨3, ![1, 4096, 4096]⟩
abbrev S1x1024x4096 : Shape := ⟨3, ![1, 1024, 4096]⟩
abbrev S1x4096x512 : Shape := ⟨3, ![1, 4096, 512]⟩
abbrev S1x1024x512 : Shape := ⟨3, ![1, 1024, 512]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 6
  | .vmem => 6
  | .smem => 0
  | _ => 0

abbrev bufTy : (tb : Table) → Fin (tcTables nBuf tb) → BufTy
  | .hbm, ⟨0, _⟩ => ⟨S12288x4096, .bf16⟩
  | .hbm, ⟨1, _⟩ => ⟨S4096x4096, .f32⟩
  | .hbm, ⟨2, _⟩ => ⟨S1x12288x4096, .bf16⟩
  | .hbm, ⟨3, _⟩ => ⟨S4096x4096, .bf16⟩
  | .hbm, ⟨4, _⟩ => ⟨S1x4096x4096, .bf16⟩
  | .hbm, ⟨5, _⟩ => ⟨S1x12288x4096, .f32⟩
  | .local _ .vmem, ⟨0, _⟩ => ⟨S1x1024x4096, .bf16⟩
  | .local _ .vmem, ⟨1, _⟩ => ⟨S1x1024x4096, .bf16⟩
  | .local _ .vmem, ⟨2, _⟩ => ⟨S1x4096x512, .bf16⟩
  | .local _ .vmem, ⟨3, _⟩ => ⟨S1x4096x512, .bf16⟩
  | .local _ .vmem, ⟨4, _⟩ => ⟨S1x1024x512, .f32⟩
  | .local _ .vmem, ⟨5, _⟩ => ⟨S1x1024x512, .f32⟩
  | _, _ => ⟨S12288x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 12, 8], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]
-- ==== OutProjRefIdeal.lean ====
abbrev S12288x4096 : Shape := ⟨2, ![12288, 4096]⟩
abbrev S4096x4096 : Shape := ⟨2, ![4096, 4096]⟩
abbrev S1x12288x4096 : Shape := ⟨3, ![1, 12288, 4096]⟩

abbrev nBuf : Space → Nat
  | .hbm => 5
  | .vmem => 0
  | .smem => 0
  | _ => 0

abbrev bufTy : (tb : Table) → Fin (tcTables nBuf tb) → BufTy
  | .hbm, ⟨0, _⟩ => ⟨S12288x4096, .bf16⟩
  | .hbm, ⟨1, _⟩ => ⟨S4096x4096, .f32⟩
  | .hbm, ⟨2, _⟩ => ⟨S12288x4096, .f32⟩
  | .hbm, ⟨3, _⟩ => ⟨S12288x4096, .f32⟩
  | .hbm, ⟨4, _⟩ => ⟨S1x12288x4096, .f32⟩
  | _, _ => ⟨S12288x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Swiglu.lean ====
abbrev S16x1536x4096 : Shape := ⟨3, ![16, 1536, 4096]⟩
abbrev S2x16x4096x2048 : Shape := ⟨4, ![2, 16, 4096, 2048]⟩
abbrev S16x1536x2048 : Shape := ⟨3, ![16, 1536, 2048]⟩
abbrev S1x1536x4096 : Shape := ⟨3, ![1, 1536, 4096]⟩
abbrev S1x1x4096x256 : Shape := ⟨4, ![1, 1, 4096, 256]⟩
abbrev S1x1536x256 : Shape := ⟨3, ![1, 1536, 256]⟩
abbrev S1536x4096 : Shape := ⟨2, ![1536, 4096]⟩
abbrev S4096x256 : Shape := ⟨2, ![4096, 256]⟩
abbrev S1536x256 : Shape := ⟨2, ![1536, 256]⟩

abbrev nBuf : Space → Nat
  | .hbm => 4
  | .vmem => 8
  | .smem => 0
  | _ => 0

abbrev bufTy : (tb : Table) → Fin (tcTables nBuf tb) → BufTy
  | .hbm, ⟨0, _⟩ => ⟨S16x1536x4096, .bf16⟩
  | .hbm, ⟨1, _⟩ => ⟨S2x16x4096x2048, .f32⟩
  | .hbm, ⟨2, _⟩ => ⟨S2x16x4096x2048, .f32⟩
  | .hbm, ⟨3, _⟩ => ⟨S16x1536x2048, .bf16⟩
  | .local _ .vmem, ⟨0, _⟩ => ⟨S1x1536x4096, .bf16⟩
  | .local _ .vmem, ⟨1, _⟩ => ⟨S1x1536x4096, .bf16⟩
  | .local _ .vmem, ⟨2, _⟩ => ⟨S1x1x4096x256, .f32⟩
  | .local _ .vmem, ⟨3, _⟩ => ⟨S1x1x4096x256, .f32⟩
  | .local _ .vmem, ⟨4, _⟩ => ⟨S1x1x4096x256, .f32⟩
  | .local _ .vmem, ⟨5, _⟩ => ⟨S1x1x4096x256, .f32⟩
  | .local _ .vmem, ⟨6, _⟩ => ⟨S1x1536x256, .bf16⟩
  | .local _ .vmem, ⟨7, _⟩ => ⟨S1x1536x256, .bf16⟩
  | _, _ => ⟨S16x1536x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat, arg1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1536x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1536x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== SwigluRefIdeal.lean ====
abbrev S16x1536x4096 : Shape := ⟨3, ![16, 1536, 4096]⟩
abbrev S2x16x4096x2048 : Shape := ⟨4, ![2, 16, 4096, 2048]⟩
abbrev S1x16x4096x2048 : Shape := ⟨4, ![1, 16, 4096, 2048]⟩
abbrev S16x4096x2048 : Shape := ⟨3, ![16, 4096, 2048]⟩
abbrev S16x1536x2048 : Shape := ⟨3, ![16, 1536, 2048]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S16x1536x4096, .bf16⟩
  | .hbm, ⟨1, _⟩ => ⟨S2x16x4096x2048, .f32⟩
  | .hbm, ⟨2, _⟩ => ⟨S2x16x4096x2048, .f32⟩
  | .hbm, ⟨3, _⟩ => ⟨S16x1536x4096, .f32⟩
  | .hbm, ⟨4, _⟩ => ⟨S1x16x4096x2048, .f32⟩
  | .hbm, ⟨5, _⟩ => ⟨S16x4096x2048, .f32⟩
  | .hbm, ⟨6, _⟩ => ⟨S16x1536x2048, .f32⟩
  | .hbm, ⟨7, _⟩ => ⟨S16x1536x2048, .f32⟩
  | .hbm, ⟨8, _⟩ => ⟨S16x1536x2048, .f32⟩
  | .hbm, ⟨9, _⟩ => ⟨S_, .f32⟩
  | .hbm, ⟨10, _⟩ => ⟨S16x1536x2048, .f32⟩
  | .hbm, ⟨11, _⟩ => ⟨S16x1536x2048, .f32⟩
  | .hbm, ⟨12, _⟩ => ⟨S_, .f32⟩
  | .hbm, ⟨13, _⟩ => ⟨S16x1536x2048, .f32⟩
  | .hbm, ⟨14, _⟩ => ⟨S16x1536x2048, .f32⟩
  | .hbm, ⟨15, _⟩ => ⟨S16x1536x2048, .f32⟩
  | .hbm, ⟨16, _⟩ => ⟨S1x16x4096x2048, .f32⟩
  | .hbm, ⟨17, _⟩ => ⟨S16x4096x2048, .f32⟩
  | .hbm, ⟨18, _⟩ => ⟨S16x1536x2048, .f32⟩
  | .hbm, ⟨19, _⟩ => ⟨S16x1536x2048, .f32⟩
  | .hbm, ⟨20, _⟩ => ⟨S16x1536x2048, .bf16⟩
  | _, _ => ⟨S16x1536x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩

abbrev nD : Nat := 1
abbrev τ : Topo := Topo.v7x

variable {F : FTy → Type} [FloatOps F]
-- ==== Down.lean ====
abbrev S16x1536x2048 : Shape := ⟨3, ![16, 1536, 2048]⟩
abbrev S2x16x2048x4096 : Shape := ⟨4, ![2, 16, 2048, 4096]⟩
abbrev S16x1536 : Shape := ⟨2, ![16, 1536]⟩
abbrev S16x1536x1 : Shape := ⟨3, ![16, 1536, 1]⟩
abbrev S16x1536x4096 : Shape := ⟨3, ![16, 1536, 4096]⟩
abbrev S1x1536x2048 : Shape := ⟨3, ![1, 1536, 2048]⟩
abbrev S1x1x2048x512 : Shape := ⟨4, ![1, 1, 2048, 512]⟩
abbrev S1x1536x1 : Shape := ⟨3, ![1, 1536, 1]⟩
abbrev S1x1536x512 : Shape := ⟨3, ![1, 1536, 512]⟩
abbrev S1536x2048 : Shape := ⟨2, ![1536, 2048]⟩
abbrev S2048x512 : Shape := ⟨2, ![2048, 512]⟩
abbrev S1536x512 : Shape := ⟨2, ![1536, 512]⟩
abbrev S1536x1 : Shape := ⟨2, ![1536, 1]⟩

abbrev nBuf : Space → Nat
  | .hbm => 5
  | .vmem => 8
  | .smem => 0
  | _ => 0

abbrev bufTy : (tb : Table) → Fin (tcTables nBuf tb) → BufTy
  | .hbm, ⟨0, _⟩ => ⟨S16x1536x2048, .bf16⟩
  | .hbm, ⟨1, _⟩ => ⟨S2x16x2048x4096, .f32⟩
  | .hbm, ⟨2, _⟩ => ⟨S16x1536, .f32⟩
  | .hbm, ⟨3, _⟩ => ⟨S16x1536x1, .f32⟩
  | .hbm, ⟨4, _⟩ => ⟨S16x1536x4096, .f32⟩
  | .local _ .vmem, ⟨0, _⟩ => ⟨S1x1536x2048, .bf16⟩
  | .local _ .vmem, ⟨1, _⟩ => ⟨S1x1536x2048, .bf16⟩
  | .local _ .vmem, ⟨2, _⟩ => ⟨S1x1x2048x512, .f32⟩
  | .local _ .vmem, ⟨3, _⟩ => ⟨S1x1x2048x512, .f32⟩
  | .local _ .vmem, ⟨4, _⟩ => ⟨S1x1536x1, .f32⟩
  | .local _ .vmem, ⟨5, _⟩ => ⟨S1x1536x1, .f32⟩
  | .local _ .vmem, ⟨6, _⟩ => ⟨S1x1536x512, .f32⟩
  | .local _ .vmem, ⟨7, _⟩ => ⟨S1x1536x512, .f32⟩
  | _, _ => ⟨S16x1536x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1536x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1536x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1536x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== DownRefIdeal.lean ====
abbrev S16x1536x2048 : Shape := ⟨3, ![16, 1536, 2048]⟩
abbrev S2x16x2048x4096 : Shape := ⟨4, ![2, 16, 2048, 4096]⟩
abbrev S16x1536 : Shape := ⟨2, ![16, 1536]⟩
abbrev S1x16x2048x4096 : Shape := ⟨4, ![1, 16, 2048, 4096]⟩
abbrev S16x2048x4096 : Shape := ⟨3, ![16, 2048, 4096]⟩
abbrev S16x1536x4096 : Shape := ⟨3, ![16, 1536, 4096]⟩
abbrev S16x1536x1 : Shape := ⟨3, ![16, 1536, 1]⟩

abbrev nBuf : Space → Nat
  | .hbm => 10
  | .vmem => 0
  | .smem => 0
  | _ => 0

abbrev bufTy : (tb : Table) → Fin (tcTables nBuf tb) → BufTy
  | .hbm, ⟨0, _⟩ => ⟨S16x1536x2048, .bf16⟩
  | .hbm, ⟨1, _⟩ => ⟨S2x16x2048x4096, .f32⟩
  | .hbm, ⟨2, _⟩ => ⟨S16x1536, .f32⟩
  | .hbm, ⟨3, _⟩ => ⟨S16x1536x2048, .f32⟩
  | .hbm, ⟨4, _⟩ => ⟨S1x16x2048x4096, .f32⟩
  | .hbm, ⟨5, _⟩ => ⟨S16x2048x4096, .f32⟩
  | .hbm, ⟨6, _⟩ => ⟨S16x1536x4096, .f32⟩
  | .hbm, ⟨7, _⟩ => ⟨S16x1536x1, .f32⟩
  | .hbm, ⟨8, _⟩ => ⟨S16x1536x4096, .f32⟩
  | .hbm, ⟨9, _⟩ => ⟨S16x1536x4096, .f32⟩
  | _, _ => ⟨S16x1536x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== LnOut.lean ====
abbrev S12288x4096 : Shape := ⟨2, ![12288, 4096]⟩
abbrev S8x1x24576 : Shape := ⟨3, ![8, 1, 24576]⟩
abbrev S4096 : Shape := ⟨1, ![4096]⟩
abbrev S1x4096 : Shape := ⟨2, ![1, 4096]⟩
abbrev S128x4096 : Shape := ⟨2, ![128, 4096]⟩
abbrev S1x1x4096 : Shape := ⟨3, ![1, 1, 4096]⟩
abbrev S128 : Shape := ⟨1, ![128]⟩
abbrev S128x1 : Shape := ⟨2, ![128, 1]⟩

abbrev nBuf : Space → Nat
  | .hbm => 8
  | .vmem => 10
  | .smem => 0
  | _ => 0

abbrev bufTy : (tb : Table) → Fin (tcTables nBuf tb) → BufTy
  | .hbm, ⟨0, _⟩ => ⟨S12288x4096, .f32⟩
  | .hbm, ⟨1, _⟩ => ⟨S12288x4096, .f32⟩
  | .hbm, ⟨2, _⟩ => ⟨S8x1x24576, .f32⟩
  | .hbm, ⟨3, _⟩ => ⟨S4096, .f32⟩
  | .hbm, ⟨4, _⟩ => ⟨S4096, .f32⟩
  | .hbm, ⟨5, _⟩ => ⟨S1x4096, .f32⟩
  | .hbm, ⟨6, _⟩ => ⟨S1x4096, .f32⟩
  | .hbm, ⟨7, _⟩ => ⟨S12288x4096, .f32⟩
  | .local _ .vmem, ⟨0, _⟩ => ⟨S128x4096, .f32⟩
  | .local _ .vmem, ⟨1, _⟩ => ⟨S128x4096, .f32⟩
  | .local _ .vmem, ⟨2, _⟩ => ⟨S128x4096, .f32⟩
  | .local _ .vmem, ⟨3, _⟩ => ⟨S128x4096, .f32⟩
  | .local _ .vmem, ⟨4, _⟩ => ⟨S1x1x4096, .f32⟩
  | .local _ .vmem, ⟨5, _⟩ => ⟨S1x1x4096, .f32⟩
  | .local _ .vmem, ⟨6, _⟩ => ⟨S1x4096, .f32⟩
  | .local _ .vmem, ⟨7, _⟩ => ⟨S1x4096, .f32⟩
  | .local _ .vmem, ⟨8, _⟩ => ⟨S128x4096, .f32⟩
  | .local _ .vmem, ⟨9, _⟩ => ⟨S128x4096, .f32⟩
  | _, _ => ⟨S12288x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![96], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c32_i32 : BitVec 32 := 32#32
  let v0 : BitVec 1 := Scalar.cmpi .slt arg0 c32_i32
  let c32_i32_0 : BitVec 32 := 32#32
  let v1 : BitVec 32 := Scalar.subi arg0 c32_i32_0
  let c32_i32_1 : BitVec 32 := 32#32
  let v2 : BitVec 32 := Scalar.divsi v1 c32_i32_1
  let c0_i32 : BitVec 32 := 0#32
  let v3 : BitVec 1 := Scalar.cmpi .sgt v1 c0_i32
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c0_i32_3 : BitVec 32 := 0#32
  let v8 : BitVec 1 := Scalar.cmpi .sgt c32_i32_1 c0_i32_3
  let v9 : BitVec 32 := Scalar.extui v8
  let c0_i32_4 : BitVec 32 := 0#32
  let v10 : BitVec 1 := Scalar.cmpi .slt c32_i32_1 c0_i32_4
  let v11 : BitVec 32 := Scalar.extui v10
  let v12 : BitVec 32 := Scalar.subi v9 v11
  let v13 : BitVec 1 := Scalar.cmpi .ne v7 v12
  let v14 : BitVec 32 := Scalar.remsi v1 c32_i32_1
  let c0_i32_5 : BitVec 32 := 0#32
  let v15 : BitVec 1 := Scalar.cmpi .ne v14 c0_i32_5
  let v16 : BitVec 1 := Scalar.andi v13 v15
  let c1_i32 : BitVec 32 := 1#32
  let v17 : BitVec 32 := Scalar.subi v2 c1_i32
  let v18 : BitVec 32 := Scalar.select v16 v17 v2
  let c1_i32_6 : BitVec 32 := 1#32
  let v19 : BitVec 32 := Scalar.addi c1_i32_6 v18
  let c0_i32_7 : BitVec 32 := 0#32
  let v20 : BitVec 32 := Scalar.select v0 c0_i32_7 v19
  let c0_i32_8 : BitVec 32 := 0#32
  let c5_i32 : BitVec 32 := 5#32
  let c0_i32_9 : BitVec 32 := 0#32
  ![v20.toNat, c0_i32_8.toNat, c5_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== LnOutRefIdeal.lean ====
abbrev S12288x4096 : Shape := ⟨2, ![12288, 4096]⟩
abbrev S8x1x24576 : Shape := ⟨3, ![8, 1, 24576]⟩
abbrev S4096 : Shape := ⟨1, ![4096]⟩
abbrev S8x1x4096 : Shape := ⟨3, ![8, 1, 4096]⟩
abbrev S4096x4096 : Shape := ⟨2, ![4096, 4096]⟩
abbrev S_ : Shape := ⟨0, ![]⟩
abbrev S1x1x4096 : Shape := ⟨3, ![1, 1, 4096]⟩
abbrev S1x4096 : Shape := ⟨2, ![1, 4096]⟩
abbrev S4096x1 : Shape := ⟨2, ![4096, 1]⟩
abbrev S8192x4096 : Shape := ⟨2, ![8192, 4096]⟩
abbrev S2x4096x4096 : Shape := ⟨3, ![2, 4096, 4096]⟩
abbrev S2x1x4096 : Shape := ⟨3, ![2, 1, 4096]⟩
abbrev S2x4096 : Shape := ⟨2, ![2, 4096]⟩
abbrev S2x4096x1 : Shape := ⟨3, ![2, 4096, 1]⟩

abbrev nBuf : Space → Nat
  | .hbm => 92
  | .vmem => 0
  | .smem => 0
  | _ => 0

abbrev bufTy : (tb : Table) → Fin (tcTables nBuf tb) → BufTy
  | .hbm, ⟨0, _⟩ => ⟨S12288x4096, .f32⟩
  | .hbm, ⟨1, _⟩ => ⟨S12288x4096, .f32⟩
  | .hbm, ⟨2, _⟩ => ⟨S8x1x24576, .f32⟩
  | .hbm, ⟨3, _⟩ => ⟨S4096, .f32⟩
  | .hbm, ⟨4, _⟩ => ⟨S4096, .f32⟩
  | .hbm, ⟨5, _⟩ => ⟨S8x1x4096, .f32⟩
  | .hbm, ⟨6, _⟩ => ⟨S8x1x4096, .f32⟩
  | .hbm, ⟨7, _⟩ => ⟨S8x1x4096, .f32⟩
  | .hbm, ⟨8, _⟩ => ⟨S8x1x4096, .f32⟩
  | .hbm, ⟨9, _⟩ => ⟨S8x1x4096, .f32⟩
  | .hbm, ⟨10, _⟩ => ⟨S8x1x4096, .f32⟩
  | .hbm, ⟨11, _⟩ => ⟨S4096x4096, .f32⟩
  | .hbm, ⟨12, _⟩ => ⟨S_, .f32⟩
  | .hbm, ⟨13, _⟩ => ⟨S4096x4096, .f32⟩
  | .hbm, ⟨14, _⟩ => ⟨S4096x4096, .f32⟩
  | .hbm, ⟨15, _⟩ => ⟨S1x1x4096, .f32⟩
  | .hbm, ⟨16, _⟩ => ⟨S1x4096, .f32⟩
  | .hbm, ⟨17, _⟩ => ⟨S4096x4096, .f32⟩
  | .hbm, ⟨18, _⟩ => ⟨S4096x4096, .f32⟩
  | .hbm, ⟨19, _⟩ => ⟨S4096x4096, .f32⟩
  | .hbm, ⟨20, _⟩ => ⟨S4096x4096, .f32⟩
  | .hbm, ⟨21, _⟩ => ⟨S_, .f32⟩
  | .hbm, ⟨22, _⟩ => ⟨S4096, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096x4096, .f32⟩
  | .hbm, ⟨28, _⟩ => ⟨S4096x4096, .f32⟩
  | .hbm, ⟨29, _⟩ => ⟨S4096x4096, .f32⟩
  | .hbm, ⟨30, _⟩ => ⟨S_, .f32⟩
  | .hbm, ⟨31, _⟩ => ⟨S4096, .f32⟩
  | .hbm, ⟨32, _⟩ => ⟨S4096x1, .f32⟩
  | .hbm, ⟨33, _⟩ => ⟨S_, .f32⟩
  | .hbm, ⟨34, _⟩ => ⟨S4096x1, .f32⟩
  | .hbm, ⟨35, _⟩ => ⟨S4096x1, .f32⟩
  | .hbm, ⟨36, _⟩ => ⟨S4096x4096, .f32⟩
  | .hbm, ⟨37, _⟩ => ⟨S4096x4096, .f32⟩
  | .hbm, ⟨38, _⟩ => ⟨S_, .f32⟩
  | .hbm, ⟨39, _⟩ => ⟨S4096x1, .f32⟩
  | .hbm, ⟨40, _⟩ => ⟨S4096x1, .f32⟩
  | .hbm, ⟨41, _⟩ => ⟨S4096x1, .f32⟩
  | .hbm, ⟨42, _⟩ => ⟨S4096x4096, .f32⟩
  | .hbm, ⟨43, _⟩ => ⟨S4096x4096, .f32⟩
  | .hbm, ⟨44, _⟩ => ⟨S1x4096, .f32⟩
  | .hbm, ⟨45, _⟩ => ⟨S4096x4096, .f32⟩
  | .hbm, ⟨46, _⟩ => ⟨S4096x4096, .f32⟩
  | .hbm, ⟨47, _⟩ => ⟨S1x4096, .f32⟩
  | .hbm, ⟨48, _⟩ => ⟨S4096x4096, .f32⟩
  | .hbm, ⟨49, _⟩ => ⟨S4096x4096, .f32⟩
  | .hbm, ⟨50, _⟩ => ⟨S8192x4096, .f32⟩
  | .hbm, ⟨51, _⟩ => ⟨S2x4096x4096, .f32⟩
  | .hbm, ⟨52, _⟩ => ⟨S_, .f32⟩
  | .hbm, ⟨53, _⟩ => ⟨S2x4096x4096, .f32⟩
  | .hbm, ⟨54, _⟩ => ⟨S2x4096x4096, .f32⟩
  | .hbm, ⟨55, _⟩ => ⟨S2x1x4096, .f32⟩
  | .hbm, ⟨56, _⟩ => ⟨S8192x4096, .f32⟩
  | .hbm, ⟨57, _⟩ => ⟨S2x4096x4096, .f32⟩
  | .hbm, ⟨58, _⟩ => ⟨S2x4096x4096, .f32⟩
  | .hbm, ⟨59, _⟩ => ⟨S2x4096x4096, .f32⟩
  | .hbm, ⟨60, _⟩ => ⟨S2x4096x4096, .f32⟩
  | .hbm, ⟨61, _⟩ => ⟨S_, .f32⟩
  | .hbm, ⟨62, _⟩ => ⟨S2x4096, .f32⟩
  | .hbm, ⟨63, _⟩ => ⟨S2x4096x1, .f32⟩
  | .hbm, ⟨64, _⟩ => ⟨S_, .f32⟩
  | .hbm, ⟨65, _⟩ => ⟨S2x4096x1, .f32⟩
  | .hbm, ⟨66, _⟩ => ⟨S2x4096x1, .f32⟩
  | .hbm, ⟨67, _⟩ => ⟨S2x4096x4096, .f32⟩
  | .hbm, ⟨68, _⟩ => ⟨S2x4096x4096, .f32⟩
  | .hbm, ⟨69, _⟩ => ⟨S2x4096x4096, .f32⟩
  | .hbm, ⟨70, _⟩ => ⟨S_, .f32⟩
  | .hbm, ⟨71, _⟩ => ⟨S2x4096, .f32⟩
  | .hbm, ⟨72, _⟩ => ⟨S2x4096x1, .f32⟩
  | .hbm, ⟨73, _⟩ => ⟨S_, .f32⟩
  | .hbm, ⟨74, _⟩ => ⟨S2x4096x1, .f32⟩
  | .hbm, ⟨75, _⟩ => ⟨S2x4096x1, .f32⟩
  | .hbm, ⟨76, _⟩ => ⟨S2x4096x4096, .f32⟩
  | .hbm, ⟨77, _⟩ => ⟨S2x4096x4096, .f32⟩
  | .hbm, ⟨78, _⟩ => ⟨S_, .f32⟩
  | .hbm, ⟨79, _⟩ => ⟨S2x4096x1, .f32⟩
  | .hbm, ⟨80, _⟩ => ⟨S2x4096x1, .f32⟩
  | .hbm, ⟨81, _⟩ => ⟨S2x4096x1, .f32⟩
  | .hbm, ⟨82, _⟩ => ⟨S2x4096x4096, .f32⟩
  | .hbm, ⟨83, _⟩ => ⟨S2x4096x4096, .f32⟩
  | .hbm, ⟨84, _⟩ => ⟨S1x1x4096, .f32⟩
  | .hbm, ⟨85, _⟩ => ⟨S2x4096x4096, .f32⟩
  | .hbm, ⟨86, _⟩ => ⟨S2x4096x4096, .f32⟩
  | .hbm, ⟨87, _⟩ => ⟨S1x1x4096, .f32⟩
  | .hbm, ⟨88, _⟩ => ⟨S2x4096x4096, .f32⟩
  | .hbm, ⟨89, _⟩ => ⟨S2x4096x4096, .f32⟩
  | .hbm, ⟨90, _⟩ => ⟨S8192x4096, .f32⟩
  | .hbm, ⟨91, _⟩ => ⟨S12288x4096, .f32⟩
  | _, _ => ⟨S12288x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst_5 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_cst_6 : Ref sig .tc := ⟨.hbm, 61, rfl⟩
abbrev main_v49 : Ref sig .tc := ⟨.hbm, 62, rfl⟩
abbrev main_v50 : Ref sig .tc := ⟨.hbm, 63, rfl⟩
abbrev main_cst_7 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_cst_8 : Ref sig .tc := ⟨.hbm, 70, rfl⟩
abbrev main_v56 : Ref sig .tc := ⟨.hbm, 71, rfl⟩
abbrev main_v57 : Ref sig .tc := ⟨.hbm, 72, rfl⟩
abbrev main_cst_9 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_cst_10 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩

abbrev nD : Nat := 1
abbrev τ : Topo := Topo.v7x

variable {F : FTy → Type} [FloatOps F]
-- ==== LnMod.lean ====
abbrev S12288x4096 : Shape := ⟨2, ![12288, 4096]⟩
abbrev S8x1x24576 : Shape := ⟨3, ![8, 1, 24576]⟩
abbrev S4096 : Shape := ⟨1, ![4096]⟩
abbrev S1x4096 : Shape := ⟨2, ![1, 4096]⟩
abbrev S128x4096 : Shape := ⟨2, ![128, 4096]⟩
abbrev S1x1x4096 : Shape := ⟨3, ![1, 1, 4096]⟩
abbrev S128 : Shape := ⟨1, ![128]⟩
abbrev S128x1 : Shape := ⟨2, ![128, 1]⟩

abbrev nBuf : Space → Nat
  | .hbm => 9
  | .vmem => 16
  | .smem => 0
  | _ => 0

abbrev bufTy : (tb : Table) → Fin (tcTables nBuf tb) → BufTy
  | .hbm, ⟨0, _⟩ => ⟨S12288x4096, .f32⟩
  | .hbm, ⟨1, _⟩ => ⟨S12288x4096, .f32⟩
  | .hbm, ⟨2, _⟩ => ⟨S8x1x24576, .f32⟩
  | .hbm, ⟨3, _⟩ => ⟨S4096, .f32⟩
  | .hbm, ⟨4, _⟩ => ⟨S4096, .f32⟩
  | .hbm, ⟨5, _⟩ => ⟨S1x4096, .f32⟩
  | .hbm, ⟨6, _⟩ => ⟨S1x4096, .f32⟩
  | .hbm, ⟨7, _⟩ => ⟨S12288x4096, .f32⟩
  | .hbm, ⟨8, _⟩ => ⟨S12288x4096, .bf16⟩
  | .local _ .vmem, ⟨0, _⟩ => ⟨S128x4096, .f32⟩
  | .local _ .vmem, ⟨1, _⟩ => ⟨S128x4096, .f32⟩
  | .local _ .vmem, ⟨2, _⟩ => ⟨S128x4096, .f32⟩
  | .local _ .vmem, ⟨3, _⟩ => ⟨S128x4096, .f32⟩
  | .local _ .vmem, ⟨4, _⟩ => ⟨S1x1x4096, .f32⟩
  | .local _ .vmem, ⟨5, _⟩ => ⟨S1x1x4096, .f32⟩
  | .local _ .vmem, ⟨6, _⟩ => ⟨S1x4096, .f32⟩
  | .local _ .vmem, ⟨7, _⟩ => ⟨S1x4096, .f32⟩
  | .local _ .vmem, ⟨8, _⟩ => ⟨S1x1x4096, .f32⟩
  | .local _ .vmem, ⟨9, _⟩ => ⟨S1x1x4096, .f32⟩
  | .local _ .vmem, ⟨10, _⟩ => ⟨S1x1x4096, .f32⟩
  | .local _ .vmem, ⟨11, _⟩ => ⟨S1x1x4096, .f32⟩
  | .local _ .vmem, ⟨12, _⟩ => ⟨S128x4096, .f32⟩
  | .local _ .vmem, ⟨13, _⟩ => ⟨S128x4096, .f32⟩
  | .local _ .vmem, ⟨14, _⟩ => ⟨S128x4096, .bf16⟩
  | .local _ .vmem, ⟨15, _⟩ => ⟨S128x4096, .bf16⟩
  | _, _ => ⟨S12288x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![96], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c32_i32 : BitVec 32 := 32#32
  let v0 : BitVec 1 := Scalar.cmpi .slt arg0 c32_i32
  let c32_i32_0 : BitVec 32 := 32#32
  let v1 : BitVec 32 := Scalar.subi arg0 c32_i32_0
  let c32_i32_1 : BitVec 32 := 32#32
  let v2 : BitVec 32 := Scalar.divsi v1 c32_i32_1
  let c0_i32 : BitVec 32 := 0#32
  let v3 : BitVec 1 := Scalar.cmpi .sgt v1 c0_i32
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c0_i32_3 : BitVec 32 := 0#32
  let v8 : BitVec 1 := Scalar.cmpi .sgt c32_i32_1 c0_i32_3
  let v9 : BitVec 32 := Scalar.extui v8
  let c0_i32_4 : BitVec 32 := 0#32
  let v10 : BitVec 1 := Scalar.cmpi .slt c32_i32_1 c0_i32_4
  let v11 : BitVec 32 := Scalar.extui v10
  let v12 : BitVec 32 := Scalar.subi v9 v11
  let v13 : BitVec 1 := Scalar.cmpi .ne v7 v12
  let v14 : BitVec 32 := Scalar.remsi v1 c32_i32_1
  let c0_i32_5 : BitVec 32 := 0#32
  let v15 : BitVec 1 := Scalar.cmpi .ne v14 c0_i32_5
  let v16 : BitVec 1 := Scalar.andi v13 v15
  let c1_i32 : BitVec 32 := 1#32
  let v17 : BitVec 32 := Scalar.subi v2 c1_i32
  let v18 : BitVec 32 := Scalar.select v16 v17 v2
  let c1_i32_6 : BitVec 32 := 1#32
  let v19 : BitVec 32 := Scalar.addi c1_i32_6 v18
  let c0_i32_7 : BitVec 32 := 0#32
  let v20 : BitVec 32 := Scalar.select v0 c0_i32_7 v19
  let c0_i32_8 : BitVec 32 := 0#32
  let c2_i32 : BitVec 32 := 2#32
  let c0_i32_9 : BitVec 32 := 0#32
  ![v20.toNat, c0_i32_8.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c32_i32 : BitVec 32 := 32#32
  let v0 : BitVec 1 := Scalar.cmpi .slt arg0 c32_i32
  let c32_i32_0 : BitVec 32 := 32#32
  let v1 : BitVec 32 := Scalar.subi arg0 c32_i32_0
  let c32_i32_1 : BitVec 32 := 32#32
  let v2 : BitVec 32 := Scalar.divsi v1 c32_i32_1
  let c0_i32 : BitVec 32 := 0#32
  let v3 : BitVec 1 := Scalar.cmpi .sgt v1 c0_i32
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c0_i32_3 : BitVec 32 := 0#32
  let v8 : BitVec 1 := Scalar.cmpi .sgt c32_i32_1 c0_i32_3
  let v9 : BitVec 32 := Scalar.extui v8
  let c0_i32_4 : BitVec 32 := 0#32
  let v10 : BitVec 1 := Scalar.cmpi .slt c32_i32_1 c0_i32_4
  let v11 : BitVec 32 := Scalar.extui v10
  let v12 : BitVec 32 := Scalar.subi v9 v11
  let v13 : BitVec 1 := Scalar.cmpi .ne v7 v12
  let v14 : BitVec 32 := Scalar.remsi v1 c32_i32_1
  let c0_i32_5 : BitVec 32 := 0#32
  let v15 : BitVec 1 := Scalar.cmpi .ne v14 c0_i32_5
  let v16 : BitVec 1 := Scalar.andi v13 v15
  let c1_i32 : BitVec 32 := 1#32
  let v17 : BitVec 32 := Scalar.subi v2 c1_i32
  let v18 : BitVec 32 := Scalar.select v16 v17 v2
  let c1_i32_6 : BitVec 32 := 1#32
  let v19 : BitVec 32 := Scalar.addi c1_i32_6 v18
  let c0_i32_7 : BitVec 32 := 0#32
  let v20 : BitVec 32 := Scalar.select v0 c0_i32_7 v19
  let c0_i32_8 : BitVec 32 := 0#32
  let c4_i32 : BitVec 32 := 4#32
  let c0_i32_9 : BitVec 32 := 0#32
  ![v20.toNat, c0_i32_8.toNat, c4_i32.toNat]

def cc0_transform_6 (i : grid0.Coords) : Fin 3 → Nat :=
  let arg0 : BitVec 32 := BitVec.ofNat 32 (i 0).val
  let c32_i32 : BitVec 32 := 32#32
  let v0 : BitVec 1 := Scalar.cmpi .slt arg0 c32_i32
  let c32_i32_0 : BitVec 32 := 32#32
  let v1 : BitVec 32 := Scalar.subi arg0 c32_i32_0
  let c32_i32_1 : BitVec 32 := 32#32
  let v2 : BitVec 32 := Scalar.divsi v1 c32_i32_1
  let c0_i32 : BitVec 32 := 0#32
  let v3 : BitVec 1 := Scalar.cmpi .sgt v1 c0_i32
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c0_i32_3 : BitVec 32 := 0#32
  let v8 : BitVec 1 := Scalar.cmpi .sgt c32_i32_1 c0_i32_3
  let v9 : BitVec 32 := Scalar.extui v8
  let c0_i32_4 : BitVec 32 := 0#32
  let v10 : BitVec 1 := Scalar.cmpi .slt c32_i32_1 c0_i32_4
  let v11 : BitVec 32 := Scalar.extui v10
  let v12 : BitVec 32 := Scalar.subi v9 v11
  let v13 : BitVec 1 := Scalar.cmpi .ne v7 v12
  let v14 : BitVec 32 := Scalar.remsi v1 c32_i32_1
  let c0_i32_5 : BitVec 32 := 0#32
  let v15 : BitVec 1 := Scalar.cmpi .ne v14 c0_i32_5
  let v16 : BitVec 1 := Scalar.andi v13 v15
  let c1_i32 : BitVec 32 := 1#32
  let v17 : BitVec 32 := Scalar.subi v2 c1_i32
  let v18 : BitVec 32 := Scalar.select v16 v17 v2
  let c1_i32_6 : BitVec 32 := 1#32
  let v19 : BitVec 32 := Scalar.addi c1_i32_6 v18
  let c0_i32_7 : BitVec 32 := 0#32
  let v20 : BitVec 32 := Scalar.select v0 c0_i32_7 v19
  let c0_i32_8 : BitVec 32 := 0#32
  let c3_i32 : BitVec 32 := 3#32
  let c0_i32_9 : BitVec 32 := 0#32
  ![v20.toNat, c0_i32_8.toNat, c3_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== LnModRefIdeal.lean ====
abbrev S12288x4096 : Shape := ⟨2, ![12288, 4096]⟩
abbrev S8x1x24576 : Shape := ⟨3, ![8, 1, 24576]⟩
abbrev S4096 : Shape := ⟨1, ![4096]⟩
abbrev S8x1x4096 : Shape := ⟨3, ![8, 1, 4096]⟩
abbrev S4096x4096 : Shape := ⟨2, ![4096, 4096]⟩
abbrev S_ : Shape := ⟨0, ![]⟩
abbrev S1x1x4096 : Shape := ⟨3, ![1, 1, 4096]⟩
abbrev S1x4096 : Shape := ⟨2, ![1, 4096]⟩
abbrev S4096x1 : Shape := ⟨2, ![4096, 1]⟩
abbrev S8192x4096 : Shape := ⟨2, ![8192, 4096]⟩
abbrev S2x4096x4096 : Shape := ⟨3, ![2, 4096, 4096]⟩
abbrev S2x1x4096 : Shape := ⟨3, ![2, 1, 4096]⟩
abbrev S2x4096 : Shape := ⟨2, ![2, 4096]⟩
abbrev S2x4096x1 : Shape := ⟨3, ![2, 4096, 1]⟩

abbrev nBuf : Space → Nat
  | .hbm => 115
  | .vmem => 0
  | .smem => 0
  | _ => 0

abbrev bufTy : (tb : Table) → Fin (tcTables nBuf tb) → BufTy
  | .hbm, ⟨0, _⟩ => ⟨S12288x4096, .f32⟩
  | .hbm, ⟨1, _⟩ => ⟨S12288x4096, .f32⟩
  | .hbm, ⟨2, _⟩ => ⟨S8x1x24576, .f32⟩
  | .hbm, ⟨3, _⟩ => ⟨S4096, .f32⟩
  | .hbm, ⟨4, _⟩ => ⟨S4096, .f32⟩
  | .hbm, ⟨5, _⟩ => ⟨S8x1x4096, .f32⟩
  | .hbm, ⟨6, _⟩ => ⟨S8x1x4096, .f32⟩
  | .hbm, ⟨7, _⟩ => ⟨S8x1x4096, .f32⟩
  | .hbm, ⟨8, _⟩ => ⟨S8x1x4096, .f32⟩
  | .hbm, ⟨9, _⟩ => ⟨S8x1x4096, .f32⟩
  | .hbm, ⟨10, _⟩ => ⟨S8x1x4096, .f32⟩
  | .hbm, ⟨11, _⟩ => ⟨S4096x4096, .f32⟩
  | .hbm, ⟨12, _⟩ => ⟨S_, .f32⟩
  | .hbm, ⟨13, _⟩ => ⟨S4096x4096, .f32⟩
  | .hbm, ⟨14, _⟩ => ⟨S4096x4096, .f32⟩
  | .hbm, ⟨15, _⟩ => ⟨S1x1x4096, .f32⟩
  | .hbm, ⟨16, _⟩ => ⟨S1x4096, .f32⟩
  | .hbm, ⟨17, _⟩ => ⟨S4096x4096, .f32⟩
  | .hbm, ⟨18, _⟩ => ⟨S4096x4096, .f32⟩
  | .hbm, ⟨19, _⟩ => ⟨S4096x4096, .f32⟩
  | .hbm, ⟨20, _⟩ => ⟨S4096x4096, .f32⟩
  | .hbm, ⟨21, _⟩ => ⟨S_, .f32⟩
  | .hbm, ⟨22, _⟩ => ⟨S4096, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096x4096, .f32⟩
  | .hbm, ⟨28, _⟩ => ⟨S4096x4096, .f32⟩
  | .hbm, ⟨29, _⟩ => ⟨S4096x4096, .f32⟩
  | .hbm, ⟨30, _⟩ => ⟨S_, .f32⟩
  | .hbm, ⟨31, _⟩ => ⟨S4096, .f32⟩
  | .hbm, ⟨32, _⟩ => ⟨S4096x1, .f32⟩
  | .hbm, ⟨33, _⟩ => ⟨S_, .f32⟩
  | .hbm, ⟨34, _⟩ => ⟨S4096x1, .f32⟩
  | .hbm, ⟨35, _⟩ => ⟨S4096x1, .f32⟩
  | .hbm, ⟨36, _⟩ => ⟨S4096x4096, .f32⟩
  | .hbm, ⟨37, _⟩ => ⟨S4096x4096, .f32⟩
  | .hbm, ⟨38, _⟩ => ⟨S_, .f32⟩
  | .hbm, ⟨39, _⟩ => ⟨S4096x1, .f32⟩
  | .hbm, ⟨40, _⟩ => ⟨S4096x1, .f32⟩
  | .hbm, ⟨41, _⟩ => ⟨S4096x1, .f32⟩
  | .hbm, ⟨42, _⟩ => ⟨S4096x4096, .f32⟩
  | .hbm, ⟨43, _⟩ => ⟨S4096x4096, .f32⟩
  | .hbm, ⟨44, _⟩ => ⟨S1x4096, .f32⟩
  | .hbm, ⟨45, _⟩ => ⟨S4096x4096, .f32⟩
  | .hbm, ⟨46, _⟩ => ⟨S4096x4096, .f32⟩
  | .hbm, ⟨47, _⟩ => ⟨S1x4096, .f32⟩
  | .hbm, ⟨48, _⟩ => ⟨S4096x4096, .f32⟩
  | .hbm, ⟨49, _⟩ => ⟨S4096x4096, .f32⟩
  | .hbm, ⟨50, _⟩ => ⟨S8192x4096, .f32⟩
  | .hbm, ⟨51, _⟩ => ⟨S2x4096x4096, .f32⟩
  | .hbm, ⟨52, _⟩ => ⟨S_, .f32⟩
  | .hbm, ⟨53, _⟩ => ⟨S2x4096x4096, .f32⟩
  | .hbm, ⟨54, _⟩ => ⟨S2x4096x4096, .f32⟩
  | .hbm, ⟨55, _⟩ => ⟨S2x1x4096, .f32⟩
  | .hbm, ⟨56, _⟩ => ⟨S8192x4096, .f32⟩
  | .hbm, ⟨57, _⟩ => ⟨S2x4096x4096, .f32⟩
  | .hbm, ⟨58, _⟩ => ⟨S2x4096x4096, .f32⟩
  | .hbm, ⟨59, _⟩ => ⟨S2x4096x4096, .f32⟩
  | .hbm, ⟨60, _⟩ => ⟨S2x4096x4096, .f32⟩
  | .hbm, ⟨61, _⟩ => ⟨S_, .f32⟩
  | .hbm, ⟨62, _⟩ => ⟨S2x4096, .f32⟩
  | .hbm, ⟨63, _⟩ => ⟨S2x4096x1, .f32⟩
  | .hbm, ⟨64, _⟩ => ⟨S_, .f32⟩
  | .hbm, ⟨65, _⟩ => ⟨S2x4096x1, .f32⟩
  | .hbm, ⟨66, _⟩ => ⟨S2x4096x1, .f32⟩
  | .hbm, ⟨67, _⟩ => ⟨S2x4096x4096, .f32⟩
  | .hbm, ⟨68, _⟩ => ⟨S2x4096x4096, .f32⟩
  | .hbm, ⟨69, _⟩ => ⟨S2x4096x4096, .f32⟩
  | .hbm, ⟨70, _⟩ => ⟨S_, .f32⟩
  | .hbm, ⟨71, _⟩ => ⟨S2x4096, .f32⟩
  | .hbm, ⟨72, _⟩ => ⟨S2x4096x1, .f32⟩
  | .hbm, ⟨73, _⟩ => ⟨S_, .f32⟩
  | .hbm, ⟨74, _⟩ => ⟨S2x4096x1, .f32⟩
  | .hbm, ⟨75, _⟩ => ⟨S2x4096x1, .f32⟩
  | .hbm, ⟨76, _⟩ => ⟨S2x4096x4096, .f32⟩
  | .hbm, ⟨77, _⟩ => ⟨S2x4096x4096, .f32⟩
  | .hbm, ⟨78, _⟩ => ⟨S_, .f32⟩
  | .hbm, ⟨79, _⟩ => ⟨S2x4096x1, .f32⟩
  | .hbm, ⟨80, _⟩ => ⟨S2x4096x1, .f32⟩
  | .hbm, ⟨81, _⟩ => ⟨S2x4096x1, .f32⟩
  | .hbm, ⟨82, _⟩ => ⟨S2x4096x4096, .f32⟩
  | .hbm, ⟨83, _⟩ => ⟨S2x4096x4096, .f32⟩
  | .hbm, ⟨84, _⟩ => ⟨S1x1x4096, .f32⟩
  | .hbm, ⟨85, _⟩ => ⟨S2x4096x4096, .f32⟩
  | .hbm, ⟨86, _⟩ => ⟨S2x4096x4096, .f32⟩
  | .hbm, ⟨87, _⟩ => ⟨S1x1x4096, .f32⟩
  | .hbm, ⟨88, _⟩ => ⟨S2x4096x4096, .f32⟩
  | .hbm, ⟨89, _⟩ => ⟨S2x4096x4096, .f32⟩
  | .hbm, ⟨90, _⟩ => ⟨S1x1x4096, .f32⟩
  | .hbm, ⟨91, _⟩ => ⟨S1x4096, .f32⟩
  | .hbm, ⟨92, _⟩ => ⟨S_, .f32⟩
  | .hbm, ⟨93, _⟩ => ⟨S1x4096, .f32⟩
  | .hbm, ⟨94, _⟩ => ⟨S1x4096, .f32⟩
  | .hbm, ⟨95, _⟩ => ⟨S4096x4096, .f32⟩
  | .hbm, ⟨96, _⟩ => ⟨S4096x4096, .f32⟩
  | .hbm, ⟨97, _⟩ => ⟨S1x1x4096, .f32⟩
  | .hbm, ⟨98, _⟩ => ⟨S1x4096, .f32⟩
  | .hbm, ⟨99, _⟩ => ⟨S4096x4096, .f32⟩
  | .hbm, ⟨100, _⟩ => ⟨S4096x4096, .f32⟩
  | .hbm, ⟨101, _⟩ => ⟨S2x1x4096, .f32⟩
  | .hbm, ⟨102, _⟩ => ⟨S_, .f32⟩
  | .hbm, ⟨103, _⟩ => ⟨S2x1x4096, .f32⟩
  | .hbm, ⟨104, _⟩ => ⟨S2x1x4096, .f32⟩
  | .hbm, ⟨105, _⟩ => ⟨S2x4096x4096, .f32⟩
  | .hbm, ⟨106, _⟩ => ⟨S2x4096x4096, .f32⟩
  | .hbm, ⟨107, _⟩ => ⟨S2x1x4096, .f32⟩
  | .hbm, ⟨108, _⟩ => ⟨S2x4096x4096, .f32⟩
  | .hbm, ⟨109, _⟩ => ⟨S2x4096x4096, .f32⟩
  | .hbm, ⟨110, _⟩ => ⟨S8192x4096, .f32⟩
  | .hbm, ⟨111, _⟩ => ⟨S12288x4096, .f32⟩
  | .hbm, ⟨112, _⟩ => ⟨S8192x4096, .f32⟩
  | .hbm, ⟨113, _⟩ => ⟨S12288x4096, .f32⟩
  | .hbm, ⟨114, _⟩ => ⟨S12288x4096, .bf16⟩
  | _, _ => ⟨S12288x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst_5 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_cst_6 : Ref sig .tc := ⟨.hbm, 61, rfl⟩
abbrev main_v49 : Ref sig .tc := ⟨.hbm, 62, rfl⟩
abbrev main_v50 : Ref sig .tc := ⟨.hbm, 63, rfl⟩
abbrev main_cst_7 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_cst_8 : Ref sig .tc := ⟨.hbm, 70, rfl⟩
abbrev main_v56 : Ref sig .tc := ⟨.hbm, 71, rfl⟩
abbrev main_v57 : Ref sig .tc := ⟨.hbm, 72, rfl⟩
abbrev main_cst_9 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_cst_10 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_cst_11 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_cst_12 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩

abbrev nD : Nat := 1
abbrev τ : Topo := Topo.v7x

variable {F : FTy → Type} [FloatOps F]
-- ==== Modulate.lean ====
abbrev S12288x4096 : Shape := ⟨2, ![12288, 4096]⟩
abbrev S8x1x24576 : Shape := ⟨3, ![8, 1, 24576]⟩
abbrev S256x4096 : Shape := ⟨2, ![256, 4096]⟩
abbrev S1x1x4096 : Shape := ⟨3, ![1, 1, 4096]⟩
abbrev S1x4096 : Shape := ⟨2, ![1, 4096]⟩

abbrev nBuf : Space → Nat
  | .hbm => 3
  | .vmem => 8
  | .smem => 0
  | _ => 0

abbrev bufTy : (tb : Table) → Fin (tcTables nBuf tb) → BufTy
  | .hbm, ⟨0, _⟩ => ⟨S12288x4096, .f32⟩
  | .hbm, ⟨1, _⟩ => ⟨S8x1x24576, .f32⟩
  | .hbm, ⟨2, _⟩ => ⟨S12288x4096, .bf16⟩
  | .local _ .vmem, ⟨0, _⟩ => ⟨S256x4096, .f32⟩
  | .local _ .vmem, ⟨1, _⟩ => ⟨S256x4096, .f32⟩
  | .local _ .vmem, ⟨2, _⟩ => ⟨S1x1x4096, .f32⟩
  | .local _ .vmem, ⟨3, _⟩ => ⟨S1x1x4096, .f32⟩
  | .local _ .vmem, ⟨4, _⟩ => ⟨S1x1x4096, .f32⟩
  | .local _ .vmem, ⟨5, _⟩ => ⟨S1x1x4096, .f32⟩
  | .local _ .vmem, ⟨6, _⟩ => ⟨S256x4096, .bf16⟩
  | .local _ .vmem, ⟨7, _⟩ => ⟨S256x4096, .bf16⟩
  | _, _ => ⟨S12288x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![48], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c16_i32 : BitVec 32 := 16#32
  let v0 : BitVec 1 := Scalar.cmpi .slt arg0 c16_i32
  let c16_i32_0 : BitVec 32 := 16#32
  let v1 : BitVec 32 := Scalar.subi arg0 c16_i32_0
  let c16_i32_1 : BitVec 32 := 16#32
  let v2 : BitVec 32 := Scalar.divsi v1 c16_i32_1
  let c0_i32 : BitVec 32 := 0#32
  let v3 : BitVec 1 := Scalar.cmpi .sgt v1 c0_i32
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c0_i32_3 : BitVec 32 := 0#32
  let v8 : BitVec 1 := Scalar.cmpi .sgt c16_i32_1 c0_i32_3
  let v9 : BitVec 32 := Scalar.extui v8
  let c0_i32_4 : BitVec 32 := 0#32
  let v10 : BitVec 1 := Scalar.cmpi .slt c16_i32_1 c0_i32_4
  let v11 : BitVec 32 := Scalar.extui v10
  let v12 : BitVec 32 := Scalar.subi v9 v11
  let v13 : BitVec 1 := Scalar.cmpi .ne v7 v12
  let v14 : BitVec 32 := Scalar.remsi v1 c16_i32_1
  let c0_i32_5 : BitVec 32 := 0#32
  let v15 : BitVec 1 := Scalar.cmpi .ne v14 c0_i32_5
  let v16 : BitVec 1 := Scalar.andi v13 v15
  let c1_i32 : BitVec 32 := 1#32
  let v17 : BitVec 32 := Scalar.subi v2 c1_i32
  let v18 : BitVec 32 := Scalar.select v16 v17 v2
  let c1_i32_6 : BitVec 32 := 1#32
  let v19 : BitVec 32 := Scalar.addi c1_i32_6 v18
  let c0_i32_7 : BitVec 32 := 0#32
  let v20 : BitVec 32 := Scalar.select v0 c0_i32_7 v19
  let c0_i32_8 : BitVec 32 := 0#32
  let c1_i32_9 : BitVec 32 := 1#32
  let c0_i32_10 : BitVec 32 := 0#32
  ![v20.toNat, c0_i32_8.toNat, c1_i32_9.toNat]

def cc0_transform_2 (i : grid0.Coords) : Fin 3 → Nat :=
  let arg0 : BitVec 32 := BitVec.ofNat 32 (i 0).val
  let c16_i32 : BitVec 32 := 16#32
  let v0 : BitVec 1 := Scalar.cmpi .slt arg0 c16_i32
  let c16_i32_0 : BitVec 32 := 16#32
  let v1 : BitVec 32 := Scalar.subi arg0 c16_i32_0
  let c16_i32_1 : BitVec 32 := 16#32
  let v2 : BitVec 32 := Scalar.divsi v1 c16_i32_1
  let c0_i32 : BitVec 32 := 0#32
  let v3 : BitVec 1 := Scalar.cmpi .sgt v1 c0_i32
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c0_i32_3 : BitVec 32 := 0#32
  let v8 : BitVec 1 := Scalar.cmpi .sgt c16_i32_1 c0_i32_3
  let v9 : BitVec 32 := Scalar.extui v8
  let c0_i32_4 : BitVec 32 := 0#32
  let v10 : BitVec 1 := Scalar.cmpi .slt c16_i32_1 c0_i32_4
  let v11 : BitVec 32 := Scalar.extui v10
  let v12 : BitVec 32 := Scalar.subi v9 v11
  let v13 : BitVec 1 := Scalar.cmpi .ne v7 v12
  let v14 : BitVec 32 := Scalar.remsi v1 c16_i32_1
  let c0_i32_5 : BitVec 32 := 0#32
  let v15 : BitVec 1 := Scalar.cmpi .ne v14 c0_i32_5
  let v16 : BitVec 1 := Scalar.andi v13 v15
  let c1_i32 : BitVec 32 := 1#32
  let v17 : BitVec 32 := Scalar.subi v2 c1_i32
  let v18 : BitVec 32 := Scalar.select v16 v17 v2
  let c1_i32_6 : BitVec 32 := 1#32
  let v19 : BitVec 32 := Scalar.addi c1_i32_6 v18
  let c0_i32_7 : BitVec 32 := 0#32
  let v20 : BitVec 32 := Scalar.select v0 c0_i32_7 v19
  let c0_i32_8 : BitVec 32 := 0#32
  let c0_i32_9 : BitVec 32 := 0#32
  let c0_i32_10 : BitVec 32 := 0#32
  ![v20.toNat, c0_i32_8.toNat, c0_i32_9.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ModulateRefIdeal.lean ====
abbrev S12288x4096 : Shape := ⟨2, ![12288, 4096]⟩
abbrev S8x1x24576 : Shape := ⟨3, ![8, 1, 24576]⟩
abbrev S8x1x4096 : Shape := ⟨3, ![8, 1, 4096]⟩
abbrev S4096x4096 : Shape := ⟨2, ![4096, 4096]⟩
abbrev S1x1x4096 : Shape := ⟨3, ![1, 1, 4096]⟩
abbrev S1x4096 : Shape := ⟨2, ![1, 4096]⟩
abbrev S_ : Shape := ⟨0, ![]⟩
abbrev S8192x4096 : Shape := ⟨2, ![8192, 4096]⟩
abbrev S2x4096x4096 : Shape := ⟨3, ![2, 4096, 4096]⟩
abbrev S2x1x4096 : Shape := ⟨3, ![2, 1, 4096]⟩

abbrev nBuf : Space → Nat
  | .hbm => 34
  | .vmem => 0
  | .smem => 0
  | _ => 0

abbrev bufTy : (tb : Table) → Fin (tcTables nBuf tb) → BufTy
  | .hbm, ⟨0, _⟩ => ⟨S12288x4096, .f32⟩
  | .hbm, ⟨1, _⟩ => ⟨S8x1x24576, .f32⟩
  | .hbm, ⟨2, _⟩ => ⟨S8x1x4096, .f32⟩
  | .hbm, ⟨3, _⟩ => ⟨S8x1x4096, .f32⟩
  | .hbm, ⟨4, _⟩ => ⟨S8x1x4096, .f32⟩
  | .hbm, ⟨5, _⟩ => ⟨S8x1x4096, .f32⟩
  | .hbm, ⟨6, _⟩ => ⟨S8x1x4096, .f32⟩
  | .hbm, ⟨7, _⟩ => ⟨S8x1x4096, .f32⟩
  | .hbm, ⟨8, _⟩ => ⟨S4096x4096, .f32⟩
  | .hbm, ⟨9, _⟩ => ⟨S1x1x4096, .f32⟩
  | .hbm, ⟨10, _⟩ => ⟨S1x4096, .f32⟩
  | .hbm, ⟨11, _⟩ => ⟨S_, .f32⟩
  | .hbm, ⟨12, _⟩ => ⟨S1x4096, .f32⟩
  | .hbm, ⟨13, _⟩ => ⟨S1x4096, .f32⟩
  | .hbm, ⟨14, _⟩ => ⟨S4096x4096, .f32⟩
  | .hbm, ⟨15, _⟩ => ⟨S4096x4096, .f32⟩
  | .hbm, ⟨16, _⟩ => ⟨S1x1x4096, .f32⟩
  | .hbm, ⟨17, _⟩ => ⟨S1x4096, .f32⟩
  | .hbm, ⟨18, _⟩ => ⟨S4096x4096, .f32⟩
  | .hbm, ⟨19, _⟩ => ⟨S4096x4096, .f32⟩
  | .hbm, ⟨20, _⟩ => ⟨S8192x4096, .f32⟩
  | .hbm, ⟨21, _⟩ => ⟨S2x4096x4096, .f32⟩
  | .hbm, ⟨22, _⟩ => ⟨S2x1x4096, .f32⟩
  | .hbm, ⟨23, _⟩ => ⟨S_, .f32⟩
  | .hbm, ⟨24, _⟩ => ⟨S2x1x4096, .f32⟩
  | .hbm, ⟨25, _⟩ => ⟨S2x1x4096, .f32⟩
  | .hbm, ⟨26, _⟩ => ⟨S2x4096x4096, .f32⟩
  | .hbm, ⟨27, _⟩ => ⟨S2x4096x4096, .f32⟩
  | .hbm, ⟨28, _⟩ => ⟨S2x1x4096, .f32⟩
  | .hbm, ⟨29, _⟩ => ⟨S2x4096x4096, .f32⟩
  | .hbm, ⟨30, _⟩ => ⟨S2x4096x4096, .f32⟩
  | .hbm, ⟨31, _⟩ => ⟨S8192x4096, .f32⟩
  | .hbm, ⟨32, _⟩ => ⟨S12288x4096, .f32⟩
  | .hbm, ⟨33, _⟩ => ⟨S12288x4096, .bf16⟩
  | _, _ => ⟨S12288x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_cst_0 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩

abbrev nD : Nat := 1
abbrev τ : Topo := Topo.v7x

variable {F : FTy → Type} [FloatOps F]
-- ==== Qkv.lean ====
abbrev S12288x15360 : Shape := ⟨2, ![12288, 15360]⟩
abbrev S128 : Shape := ⟨1, ![128]⟩
abbrev S4096 : Shape := ⟨1, ![4096]⟩
abbrev S_ : Shape := ⟨0, ![]⟩
abbrev S32 : Shape := ⟨1, ![32]⟩
abbrev S4096x1 : Shape := ⟨2, ![4096, 1]⟩
abbrev S1x32 : Shape := ⟨2, ![1, 32]⟩
abbrev S4096x32 : Shape := ⟨2, ![4096, 32]⟩
abbrev S4096x128 : Shape := ⟨2, ![4096, 128]⟩
abbrev S1x128 : Shape := ⟨2, ![1, 128]⟩
abbrev S12288x128 : Shape := ⟨2, ![12288, 128]⟩
abbrev S12288x2048 : Shape := ⟨2, ![12288, 2048]⟩
abbrev S12288x512 : Shape := ⟨2, ![12288, 512]⟩
abbrev S256x3072 : Shape := ⟨2, ![256, 3072]⟩
abbrev S256x128 : Shape := ⟨2, ![256, 128]⟩
abbrev S256x2048 : Shape := ⟨2, ![256, 2048]⟩
abbrev S256x512 : Shape := ⟨2, ![256, 512]⟩
abbrev S256 : Shape := ⟨1, ![256]⟩
abbrev S256x1 : Shape := ⟨2, ![256, 1]⟩

abbrev nBuf : Space → Nat
  | .hbm => 115
  | .vmem => 18
  | .smem => 0
  | _ => 0

abbrev bufTy : (tb : Table) → Fin (tcTables nBuf tb) → BufTy
  | .hbm, ⟨0, _⟩ => ⟨S12288x15360, .f32⟩
  | .hbm, ⟨1, _⟩ => ⟨S128, .f32⟩
  | .hbm, ⟨2, _⟩ => ⟨S128, .f32⟩
  | .hbm, ⟨3, _⟩ => ⟨S4096, .i32⟩
  | .hbm, ⟨4, _⟩ => ⟨S_, .i32⟩
  | .hbm, ⟨5, _⟩ => ⟨S_, .i32⟩
  | .hbm, ⟨6, _⟩ => ⟨S4096, .i32⟩
  | .hbm, ⟨7, _⟩ => ⟨S4096, .i32⟩
  | .hbm, ⟨8, _⟩ => ⟨S4096, .i32⟩
  | .hbm, ⟨9, _⟩ => ⟨S_, .i32⟩
  | .hbm, ⟨10, _⟩ => ⟨S4096, .i32⟩
  | .hbm, ⟨11, _⟩ => ⟨S4096, .i1⟩
  | .hbm, ⟨12, _⟩ => ⟨S4096, .i32⟩
  | .hbm, ⟨13, _⟩ => ⟨S4096, .i32⟩
  | .hbm, ⟨14, _⟩ => ⟨S_, .i32⟩
  | .hbm, ⟨15, _⟩ => ⟨S4096, .i32⟩
  | .hbm, ⟨16, _⟩ => ⟨S4096, .i1⟩
  | .hbm, ⟨17, _⟩ => ⟨S4096, .i1⟩
  | .hbm, ⟨18, _⟩ => ⟨S_, .i32⟩
  | .hbm, ⟨19, _⟩ => ⟨S4096, .i32⟩
  | .hbm, ⟨20, _⟩ => ⟨S4096, .i32⟩
  | .hbm, ⟨21, _⟩ => ⟨S4096, .i32⟩
  | .hbm, ⟨22, _⟩ => ⟨S4096, .f32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i1⟩
  | .hbm, ⟨27, _⟩ => ⟨S_, .i32⟩
  | .hbm, ⟨28, _⟩ => ⟨S_, .i32⟩
  | .hbm, ⟨29, _⟩ => ⟨S4096, .i32⟩
  | .hbm, ⟨30, _⟩ => ⟨S4096, .i32⟩
  | .hbm, ⟨31, _⟩ => ⟨S_, .i32⟩
  | .hbm, ⟨32, _⟩ => ⟨S4096, .i32⟩
  | .hbm, ⟨33, _⟩ => ⟨S4096, .i1⟩
  | .hbm, ⟨34, _⟩ => ⟨S_, .i32⟩
  | .hbm, ⟨35, _⟩ => ⟨S4096, .i32⟩
  | .hbm, ⟨36, _⟩ => ⟨S4096, .i1⟩
  | .hbm, ⟨37, _⟩ => ⟨S_, .i32⟩
  | .hbm, ⟨38, _⟩ => ⟨S_, .i1⟩
  | .hbm, ⟨39, _⟩ => ⟨S4096, .i1⟩
  | .hbm, ⟨40, _⟩ => ⟨S4096, .i1⟩
  | .hbm, ⟨41, _⟩ => ⟨S4096, .i1⟩
  | .hbm, ⟨42, _⟩ => ⟨S4096, .i32⟩
  | .hbm, ⟨43, _⟩ => ⟨S4096, .i32⟩
  | .hbm, ⟨44, _⟩ => ⟨S4096, .i32⟩
  | .hbm, ⟨45, _⟩ => ⟨S4096, .f32⟩
  | .hbm, ⟨46, _⟩ => ⟨S32, .f32⟩
  | .hbm, ⟨47, _⟩ => ⟨S32, .f32⟩
  | .hbm, ⟨48, _⟩ => ⟨S_, .f32⟩
  | .hbm, ⟨49, _⟩ => ⟨S32, .f32⟩
  | .hbm, ⟨50, _⟩ => ⟨S32, .f32⟩
  | .hbm, ⟨51, _⟩ => ⟨S_, .f32⟩
  | .hbm, ⟨52, _⟩ => ⟨S32, .f32⟩
  | .hbm, ⟨53, _⟩ => ⟨S32, .f32⟩
  | .hbm, ⟨54, _⟩ => ⟨S4096x1, .f32⟩
  | .hbm, ⟨55, _⟩ => ⟨S1x32, .f32⟩
  | .hbm, ⟨56, _⟩ => ⟨S4096x32, .f32⟩
  | .hbm, ⟨57, _⟩ => ⟨S4096x32, .f32⟩
  | .hbm, ⟨58, _⟩ => ⟨S4096x32, .f32⟩
  | .hbm, ⟨59, _⟩ => ⟨S4096x1, .f32⟩
  | .hbm, ⟨60, _⟩ => ⟨S1x32, .f32⟩
  | .hbm, ⟨61, _⟩ => ⟨S4096x32, .f32⟩
  | .hbm, ⟨62, _⟩ => ⟨S4096x32, .f32⟩
  | .hbm, ⟨63, _⟩ => ⟨S4096x32, .f32⟩
  | .hbm, ⟨64, _⟩ => ⟨S4096x128, .f32⟩
  | .hbm, ⟨65, _⟩ => ⟨S128, .i32⟩
  | .hbm, ⟨66, _⟩ => ⟨S_, .i32⟩
  | .hbm, ⟨67, _⟩ => ⟨S_, .i32⟩
  | .hbm, ⟨68, _⟩ => ⟨S_, .i32⟩
  | .hbm, ⟨69, _⟩ => ⟨S_, .i1⟩
  | .hbm, ⟨70, _⟩ => ⟨S_, .i32⟩
  | .hbm, ⟨71, _⟩ => ⟨S_, .i32⟩
  | .hbm, ⟨72, _⟩ => ⟨S128, .i32⟩
  | .hbm, ⟨73, _⟩ => ⟨S128, .i32⟩
  | .hbm, ⟨74, _⟩ => ⟨S_, .i32⟩
  | .hbm, ⟨75, _⟩ => ⟨S128, .i32⟩
  | .hbm, ⟨76, _⟩ => ⟨S128, .i1⟩
  | .hbm, ⟨77, _⟩ => ⟨S_, .i32⟩
  | .hbm, ⟨78, _⟩ => ⟨S128, .i32⟩
  | .hbm, ⟨79, _⟩ => ⟨S128, .i1⟩
  | .hbm, ⟨80, _⟩ => ⟨S_, .i32⟩
  | .hbm, ⟨81, _⟩ => ⟨S_, .i1⟩
  | .hbm, ⟨82, _⟩ => ⟨S128, .i1⟩
  | .hbm, ⟨83, _⟩ => ⟨S128, .i1⟩
  | .hbm, ⟨84, _⟩ => ⟨S128, .i1⟩
  | .hbm, ⟨85, _⟩ => ⟨S128, .i32⟩
  | .hbm, ⟨86, _⟩ => ⟨S128, .i32⟩
  | .hbm, ⟨87, _⟩ => ⟨S128, .i32⟩
  | .hbm, ⟨88, _⟩ => ⟨S_, .i32⟩
  | .hbm, ⟨89, _⟩ => ⟨S128, .i32⟩
  | .hbm, ⟨90, _⟩ => ⟨S128, .i1⟩
  | .hbm, ⟨91, _⟩ => ⟨S_, .f32⟩
  | .hbm, ⟨92, _⟩ => ⟨S_, .f32⟩
  | .hbm, ⟨93, _⟩ => ⟨S128, .f32⟩
  | .hbm, ⟨94, _⟩ => ⟨S128, .f32⟩
  | .hbm, ⟨95, _⟩ => ⟨S128, .f32⟩
  | .hbm, ⟨96, _⟩ => ⟨S128, .f32⟩
  | .hbm, ⟨97, _⟩ => ⟨S4096x128, .f32⟩
  | .hbm, ⟨98, _⟩ => ⟨S4096x128, .f32⟩
  | .hbm, ⟨99, _⟩ => ⟨S1x128, .f32⟩
  | .hbm, ⟨100, _⟩ => ⟨S4096x128, .f32⟩
  | .hbm, ⟨101, _⟩ => ⟨S4096x128, .f32⟩
  | .hbm, ⟨102, _⟩ => ⟨S_, .f32⟩
  | .hbm, ⟨103, _⟩ => ⟨S4096x128, .f32⟩
  | .hbm, ⟨104, _⟩ => ⟨S12288x128, .f32⟩
  | .hbm, ⟨105, _⟩ => ⟨S_, .f32⟩
  | .hbm, ⟨106, _⟩ => ⟨S4096x128, .f32⟩
  | .hbm, ⟨107, _⟩ => ⟨S12288x128, .f32⟩
  | .hbm, ⟨108, _⟩ => ⟨S1x128, .f32⟩
  | .hbm, ⟨109, _⟩ => ⟨S1x128, .f32⟩
  | .hbm, ⟨110, _⟩ => ⟨S12288x2048, .bf16⟩
  | .hbm, ⟨111, _⟩ => ⟨S12288x512, .bf16⟩
  | .hbm, ⟨112, _⟩ => ⟨S12288x512, .bf16⟩
  | .hbm, ⟨113, _⟩ => ⟨S12288x512, .f32⟩
  | .hbm, ⟨114, _⟩ => ⟨S12288x512, .f32⟩
  | .local _ .vmem, ⟨0, _⟩ => ⟨S256x3072, .f32⟩
  | .local _ .vmem, ⟨1, _⟩ => ⟨S256x3072, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S1x128, .f32⟩
  | .local _ .vmem, ⟨7, _⟩ => ⟨S1x128, .f32⟩
  | .local _ .vmem, ⟨8, _⟩ => ⟨S256x2048, .bf16⟩
  | .local _ .vmem, ⟨9, _⟩ => ⟨S256x2048, .bf16⟩
  | .local _ .vmem, ⟨10, _⟩ => ⟨S256x512, .bf16⟩
  | .local _ .vmem, ⟨11, _⟩ => ⟨S256x512, .bf16⟩
  | .local _ .vmem, ⟨12, _⟩ => ⟨S256x512, .bf16⟩
  | .local _ .vmem, ⟨13, _⟩ => ⟨S256x512, .bf16⟩
  | .local _ .vmem, ⟨14, _⟩ => ⟨S256x512, .f32⟩
  | .local _ .vmem, ⟨15, _⟩ => ⟨S256x512, .f32⟩
  | .local _ .vmem, ⟨16, _⟩ => ⟨S256x512, .f32⟩
  | .local _ .vmem, ⟨17, _⟩ => ⟨S256x512, .f32⟩
  | _, _ => ⟨S12288x15360, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_v8 : Ref sig .tc := ⟨.hbm, 13, rfl⟩
abbrev main_call0_c : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_0 : Ref sig .tc := ⟨.hbm, 18, rfl⟩
abbrev main_call0_v12 : Ref sig .tc := ⟨.hbm, 19, rfl⟩
abbrev main_call0_v13 : Ref sig .tc := ⟨.hbm, 20, rfl⟩
abbrev main_v1 : Ref sig .tc := ⟨.hbm, 21, rfl⟩
abbrev main_v2 : Ref sig .tc := ⟨.hbm, 22, rfl⟩
abbrev main_c_0 : Ref sig .tc := ⟨.hbm, 23, rfl⟩
abbrev main_call1_v0 : Ref sig .tc := ⟨.hbm, 24, rfl⟩
abbrev main_call1_c : Ref sig .tc := ⟨.hbm, 25, rfl⟩
abbrev main_call1_v1 : Ref sig .tc := ⟨.hbm, 26, rfl⟩
abbrev main_call1_c_0 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_call1_c_1 : Ref sig .tc := ⟨.hbm, 31, rfl⟩
abbrev main_call1_v5 : Ref sig .tc := ⟨.hbm, 32, rfl⟩
abbrev main_call1_v6 : Ref sig .tc := ⟨.hbm, 33, rfl⟩
abbrev main_call1_c_2 : Ref sig .tc := ⟨.hbm, 34, rfl⟩
abbrev main_call1_v7 : Ref sig .tc := ⟨.hbm, 35, rfl⟩
abbrev main_call1_v8 : Ref sig .tc := ⟨.hbm, 36, rfl⟩
abbrev main_call1_c_3 : Ref sig .tc := ⟨.hbm, 37, rfl⟩
abbrev main_call1_v9 : Ref sig .tc := ⟨.hbm, 38, rfl⟩
abbrev main_call1_v10 : Ref sig .tc := ⟨.hbm, 39, rfl⟩
abbrev main_call1_v11 : Ref sig .tc := ⟨.hbm, 40, rfl⟩
abbrev main_call1_v12 : Ref sig .tc := ⟨.hbm, 41, rfl⟩
abbrev main_call1_v13 : Ref sig .tc := ⟨.hbm, 42, rfl⟩
abbrev main_call1_v14 : Ref sig .tc := ⟨.hbm, 43, rfl⟩
abbrev main_v3 : Ref sig .tc := ⟨.hbm, 44, rfl⟩
abbrev main_v4 : Ref sig .tc := ⟨.hbm, 45, rfl⟩
abbrev main_v5 : Ref sig .tc := ⟨.hbm, 46, rfl⟩
abbrev main_v6 : Ref sig .tc := ⟨.hbm, 47, rfl⟩
abbrev main_cst : Ref sig .tc := ⟨.hbm, 48, rfl⟩
abbrev main_v7 : Ref sig .tc := ⟨.hbm, 49, rfl⟩
abbrev main_v8 : Ref sig .tc := ⟨.hbm, 50, rfl⟩
abbrev main_cst_1 : Ref sig .tc := ⟨.hbm, 51, rfl⟩
abbrev main_v9 : Ref sig .tc := ⟨.hbm, 52, rfl⟩
abbrev main_v10 : Ref sig .tc := ⟨.hbm, 53, rfl⟩
abbrev main_v11 : Ref sig .tc := ⟨.hbm, 54, rfl⟩
abbrev main_v12 : Ref sig .tc := ⟨.hbm, 55, rfl⟩
abbrev main_v13 : Ref sig .tc := ⟨.hbm, 56, rfl⟩
abbrev main_v14 : Ref sig .tc := ⟨.hbm, 57, rfl⟩
abbrev main_v15 : Ref sig .tc := ⟨.hbm, 58, rfl⟩
abbrev main_v16 : Ref sig .tc := ⟨.hbm, 59, rfl⟩
abbrev main_v17 : Ref sig .tc := ⟨.hbm, 60, rfl⟩
abbrev main_v18 : Ref sig .tc := ⟨.hbm, 61, rfl⟩
abbrev main_v19 : Ref sig .tc := ⟨.hbm, 62, rfl⟩
abbrev main_v20 : Ref sig .tc := ⟨.hbm, 63, rfl⟩
abbrev main_v21 : Ref sig .tc := ⟨.hbm, 64, rfl⟩
abbrev main_v22 : Ref sig .tc := ⟨.hbm, 65, rfl⟩
abbrev main_c_2 : Ref sig .tc := ⟨.hbm, 66, rfl⟩
abbrev main_call2_v0 : Ref sig .tc := ⟨.hbm, 67, rfl⟩
abbrev main_call2_c : Ref sig .tc := ⟨.hbm, 68, rfl⟩
abbrev main_call2_v1 : Ref sig .tc := ⟨.hbm, 69, rfl⟩
abbrev main_call2_c_0 : Ref sig .tc := ⟨.hbm, 70, rfl⟩
abbrev main_call2_v2 : Ref sig .tc := ⟨.hbm, 71, rfl⟩
abbrev main_call2_v3 : Ref sig .tc := ⟨.hbm, 72, rfl⟩
abbrev main_call2_v4 : Ref sig .tc := ⟨.hbm, 73, rfl⟩
abbrev main_call2_c_1 : Ref sig .tc := ⟨.hbm, 74, rfl⟩
abbrev main_call2_v5 : Ref sig .tc := ⟨.hbm, 75, rfl⟩
abbrev main_call2_v6 : Ref sig .tc := ⟨.hbm, 76, rfl⟩
abbrev main_call2_c_2 : Ref sig .tc := ⟨.hbm, 77, rfl⟩
abbrev main_call2_v7 : Ref sig .tc := ⟨.hbm, 78, rfl⟩
abbrev main_call2_v8 : Ref sig .tc := ⟨.hbm, 79, rfl⟩
abbrev main_call2_c_3 : Ref sig .tc := ⟨.hbm, 80, rfl⟩
abbrev main_call2_v9 : Ref sig .tc := ⟨.hbm, 81, rfl⟩
abbrev main_call2_v10 : Ref sig .tc := ⟨.hbm, 82, rfl⟩
abbrev main_call2_v11 : Ref sig .tc := ⟨.hbm, 83, rfl⟩
abbrev main_call2_v12 : Ref sig .tc := ⟨.hbm, 84, rfl⟩
abbrev main_call2_v13 : Ref sig .tc := ⟨.hbm, 85, rfl⟩
abbrev main_call2_v14 : Ref sig .tc := ⟨.hbm, 86, rfl⟩
abbrev main_v23 : Ref sig .tc := ⟨.hbm, 87, rfl⟩
abbrev main_c_3 : Ref sig .tc := ⟨.hbm, 88, rfl⟩
abbrev main_v24 : Ref sig .tc := ⟨.hbm, 89, rfl⟩
abbrev main_v25 : Ref sig .tc := ⟨.hbm, 90, rfl⟩
abbrev main_cst_4 : Ref sig .tc := ⟨.hbm, 91, rfl⟩
abbrev main_cst_5 : Ref sig .tc := ⟨.hbm, 92, rfl⟩
abbrev main_call3_v0 : Ref sig .tc := ⟨.hbm, 93, rfl⟩
abbrev main_call3_v1 : Ref sig .tc := ⟨.hbm, 94, rfl⟩
abbrev main_v26 : Ref sig .tc := ⟨.hbm, 95, rfl⟩
abbrev main_v27 : Ref sig .tc := ⟨.hbm, 96, rfl⟩
abbrev main_v28 : Ref sig .tc := ⟨.hbm, 97, rfl⟩
abbrev main_v29 : Ref sig .tc := ⟨.hbm, 98, rfl⟩
abbrev main_v30 : Ref sig .tc := ⟨.hbm, 99, rfl⟩
abbrev main_v31 : Ref sig .tc := ⟨.hbm, 100, rfl⟩
abbrev main_v32 : Ref sig .tc := ⟨.hbm, 101, rfl⟩
abbrev main_cst_6 : Ref sig .tc := ⟨.hbm, 102, rfl⟩
abbrev main_v33 : Ref sig .tc := ⟨.hbm, 103, rfl⟩
abbrev main_v34 : Ref sig .tc := ⟨.hbm, 104, rfl⟩
abbrev main_cst_7 : Ref sig .tc := ⟨.hbm, 105, rfl⟩
abbrev main_v35 : Ref sig .tc := ⟨.hbm, 106, rfl⟩
abbrev main_v36 : Ref sig .tc := ⟨.hbm, 107, rfl⟩
abbrev main_v37 : Ref sig .tc := ⟨.hbm, 108, rfl⟩
abbrev main_v38 : Ref sig .tc := ⟨.hbm, 109, rfl⟩
abbrev main_v39_0 : Ref sig .tc := ⟨.hbm, 110, rfl⟩
abbrev main_v39_1 : Ref sig .tc := ⟨.hbm, 111, rfl⟩
abbrev main_v39_2 : Ref sig .tc := ⟨.hbm, 112, rfl⟩
abbrev main_v39_3 : Ref sig .tc := ⟨.hbm, 113, rfl⟩
abbrev main_v39_4 : Ref sig .tc := ⟨.hbm, 114, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![48], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== QkvRefIdeal.lean ====
abbrev S12288x15360 : Shape := ⟨2, ![12288, 15360]⟩
abbrev S128 : Shape := ⟨1, ![128]⟩
abbrev S12288x2048 : Shape := ⟨2, ![12288, 2048]⟩
abbrev S12288x16x128 : Shape := ⟨3, ![12288, 16, 128]⟩
abbrev S_ : Shape := ⟨0, ![]⟩
abbrev S12288x16 : Shape := ⟨2, ![12288, 16]⟩
abbrev S12288x16x1 : Shape := ⟨3, ![12288, 16, 1]⟩
abbrev S1x1x128 : Shape := ⟨3, ![1, 1, 128]⟩
abbrev S12288x512 : Shape := ⟨2, ![12288, 512]⟩
abbrev S12288x4x128 : Shape := ⟨3, ![12288, 4, 128]⟩
abbrev S12288x4 : Shape := ⟨2, ![12288, 4]⟩
abbrev S12288x4x1 : Shape := ⟨3, ![12288, 4, 1]⟩
abbrev S4096 : Shape := ⟨1, ![4096]⟩
abbrev S32 : Shape := ⟨1, ![32]⟩
abbrev S4096x1 : Shape := ⟨2, ![4096, 1]⟩
abbrev S1x32 : Shape := ⟨2, ![1, 32]⟩
abbrev S4096x32 : Shape := ⟨2, ![4096, 32]⟩
abbrev S4096x1x32 : Shape := ⟨3, ![4096, 1, 32]⟩
abbrev S4096x2x32 : Shape := ⟨3, ![4096, 2, 32]⟩
abbrev S8192x16x128 : Shape := ⟨3, ![8192, 16, 128]⟩
abbrev S2x4096x16x128 : Shape := ⟨4, ![2, 4096, 16, 128]⟩
abbrev S2x4096x16x2x2x32 : Shape := ⟨6, ![2, 4096, 16, 2, 2, 32]⟩
abbrev S2x4096x16x2x1x32 : Shape := ⟨6, ![2, 4096, 16, 2, 1, 32]⟩
abbrev S2x4096x16x2x32 : Shape := ⟨5, ![2, 4096, 16, 2, 32]⟩
abbrev S1x4096x1x2x32 : Shape := ⟨5, ![1, 4096, 1, 2, 32]⟩
abbrev S8192x4x128 : Shape := ⟨3, ![8192, 4, 128]⟩
abbrev S2x4096x4x128 : Shape := ⟨4, ![2, 4096, 4, 128]⟩
abbrev S2x4096x4x2x2x32 : Shape := ⟨6, ![2, 4096, 4, 2, 2, 32]⟩
abbrev S2x4096x4x2x1x32 : Shape := ⟨6, ![2, 4096, 4, 2, 1, 32]⟩
abbrev S2x4096x4x2x32 : Shape := ⟨5, ![2, 4096, 4, 2, 32]⟩
abbrev S4096x16x128 : Shape := ⟨3, ![4096, 16, 128]⟩
abbrev S4096x4x128 : Shape := ⟨3, ![4096, 4, 128]⟩

abbrev nBuf : Space → Nat
  | .hbm => 167
  | .vmem => 0
  | .smem => 0
  | _ => 0

abbrev hbmTy0_0 (i : Nat) : BufTy := match i % 128 with
  | 0 => ⟨S12288x15360, .f32⟩
  | 1 => ⟨S128, .f32⟩
  | 2 => ⟨S128, .f32⟩
  | 3 => ⟨S12288x2048, .f32⟩
  | 4 => ⟨S12288x16x128, .f32⟩
  | 5 => ⟨S12288x16x128, .f32⟩
  | 6 => ⟨S_, .f32⟩
  | 7 => ⟨S12288x16, .f32⟩
  | 8 => ⟨S12288x16x1, .f32⟩
  | 9 => ⟨S_, .f32⟩
  | 10 => ⟨S12288x16x1, .f32⟩
  | 11 => ⟨S12288x16x1, .f32⟩
  | 12 => ⟨S_, .f32⟩
  | 13 => ⟨S12288x16x1, .f32⟩
  | 14 => ⟨S12288x16x1, .f32⟩
  | 15 => ⟨S12288x16x1, .f32⟩
  | 16 => ⟨S12288x16x128, .f32⟩
  | 17 => ⟨S12288x16x128, .f32⟩
  | 18 => ⟨S1x1x128, .f32⟩
  | 19 => ⟨S12288x16x128, .f32⟩
  | 20 => ⟨S12288x16x128, .f32⟩
  | 21 => ⟨S12288x512, .f32⟩
  | 22 => ⟨S12288x4x128, .f32⟩
  | 23 => ⟨S12288x4x128, .f32⟩
  | 24 => ⟨S_, .f32⟩
  | 25 => ⟨S12288x4, .f32⟩
  | 26 => ⟨S12288x4x1, .f32⟩
  | 27 => ⟨S_, .f32⟩
  | 28 => ⟨S12288x4x1, .f32⟩
  | 29 => ⟨S12288x4x1, .f32⟩
  | 30 => ⟨S_, .f32⟩
  | 31 => ⟨S12288x4x1, .f32⟩
  | 32 => ⟨S12288x4x1, .f32⟩
  | 33 => ⟨S12288x4x1, .f32⟩
  | 34 => ⟨S12288x4x128, .f32⟩
  | 35 => ⟨S12288x4x128, .f32⟩
  | 36 => ⟨S1x1x128, .f32⟩
  | 37 => ⟨S12288x4x128, .f32⟩
  | 38 => ⟨S12288x4x128, .f32⟩
  | 39 => ⟨S12288x512, .f32⟩
  | 40 => ⟨S4096, .i32⟩
  | 41 => ⟨S_, .i32⟩
  | 42 => ⟨S_, .i32⟩
  | 43 => ⟨S4096, .i32⟩
  | 44 => ⟨S4096, .i32⟩
  | 45 => ⟨S4096, .i32⟩
  | 46 => ⟨S_, .i32⟩
  | 47 => ⟨S4096, .i32⟩
  | 48 => ⟨S4096, .i1⟩
  | 49 => ⟨S4096, .i32⟩
  | 50 => ⟨S4096, .i32⟩
  | 51 => ⟨S_, .i32⟩
  | 52 => ⟨S4096, .i32⟩
  | 53 => ⟨S4096, .i1⟩
  | 54 => ⟨S4096, .i1⟩
  | 55 => ⟨S_, .i32⟩
  | 56 => ⟨S4096, .i32⟩
  | 57 => ⟨S4096, .i32⟩
  | 58 => ⟨S4096, .i32⟩
  | 59 => ⟨S4096, .f32⟩
  | 60 => ⟨S_, .i32⟩
  | 61 => ⟨S_, .i32⟩
  | 62 => ⟨S_, .i32⟩
  | 63 => ⟨S_, .i1⟩
  | 64 => ⟨S_, .i32⟩
  | 65 => ⟨S_, .i32⟩
  | 66 => ⟨S4096, .i32⟩
  | 67 => ⟨S4096, .i32⟩
  | 68 => ⟨S_, .i32⟩
  | 69 => ⟨S4096, .i32⟩
  | 70 => ⟨S4096, .i1⟩
  | 71 => ⟨S_, .i32⟩
  | 72 => ⟨S4096, .i32⟩
  | 73 => ⟨S4096, .i1⟩
  | 74 => ⟨S_, .i32⟩
  | 75 => ⟨S_, .i1⟩
  | 76 => ⟨S4096, .i1⟩
  | 77 => ⟨S4096, .i1⟩
  | 78 => ⟨S4096, .i1⟩
  | 79 => ⟨S4096, .i32⟩
  | 80 => ⟨S4096, .i32⟩
  | 81 => ⟨S4096, .i32⟩
  | 82 => ⟨S4096, .f32⟩
  | 83 => ⟨S32, .f32⟩
  | 84 => ⟨S32, .f32⟩
  | 85 => ⟨S_, .f32⟩
  | 86 => ⟨S32, .f32⟩
  | 87 => ⟨S32, .f32⟩
  | 88 => ⟨S_, .f32⟩
  | 89 => ⟨S32, .f32⟩
  | 90 => ⟨S32, .f32⟩
  | 91 => ⟨S4096x1, .f32⟩
  | 92 => ⟨S1x32, .f32⟩
  | 93 => ⟨S4096x32, .f32⟩
  | 94 => ⟨S4096x32, .f32⟩
  | 95 => ⟨S4096x32, .f32⟩
  | 96 => ⟨S4096x1, .f32⟩
  | 97 => ⟨S1x32, .f32⟩
  | 98 => ⟨S4096x32, .f32⟩
  | 99 => ⟨S4096x32, .f32⟩
  | 100 => ⟨S4096x32, .f32⟩
  | 101 => ⟨S4096x1x32, .f32⟩
  | 102 => ⟨S4096x1x32, .f32⟩
  | 103 => ⟨S4096x2x32, .f32⟩
  | 104 => ⟨S4096x2x32, .f32⟩
  | 105 => ⟨S4096x2x32, .f32⟩
  | 106 => ⟨S8192x16x128, .f32⟩
  | 107 => ⟨S2x4096x16x128, .f32⟩
  | 108 => ⟨S2x4096x16x2x2x32, .f32⟩
  | 109 => ⟨S2x4096x16x2x1x32, .f32⟩
  | 110 => ⟨S2x4096x16x2x32, .f32⟩
  | 111 => ⟨S2x4096x16x2x1x32, .f32⟩
  | 112 => ⟨S2x4096x16x2x32, .f32⟩
  | 113 => ⟨S1x4096x1x2x32, .f32⟩
  | 114 => ⟨S1x4096x1x2x32, .f32⟩
  | 115 => ⟨S2x4096x16x2x32, .f32⟩
  | 116 => ⟨S2x4096x16x2x32, .f32⟩
  | 117 => ⟨S2x4096x16x2x32, .f32⟩
  | 118 => ⟨S2x4096x16x2x32, .f32⟩
  | 119 => ⟨S2x4096x16x2x32, .f32⟩
  | 120 => ⟨S2x4096x16x2x32, .f32⟩
  | 121 => ⟨S2x4096x16x2x32, .f32⟩
  | 122 => ⟨S2x4096x16x2x32, .f32⟩
  | 123 => ⟨S2x4096x16x2x32, .f32⟩
  | 124 => ⟨S2x4096x16x2x32, .f32⟩
  | 125 => ⟨S2x4096x16x2x1x32, .f32⟩
  | 126 => ⟨S2x4096x16x2x1x32, .f32⟩
  | 127 => ⟨S2x4096x16x2x2x32, .f32⟩
  | _ => ⟨S12288x15360, .f32⟩

abbrev hbmTy0_1 (i : Nat) : BufTy := match i % 128 with
  | 0 => ⟨S2x4096x16x128, .f32⟩
  | 1 => ⟨S8192x16x128, .f32⟩
  | 2 => ⟨S8192x4x128, .f32⟩
  | 3 => ⟨S2x4096x4x128, .f32⟩
  | 4 => ⟨S2x4096x4x2x2x32, .f32⟩
  | 5 => ⟨S2x4096x4x2x1x32, .f32⟩
  | 6 => ⟨S2x4096x4x2x32, .f32⟩
  | 7 => ⟨S2x4096x4x2x1x32, .f32⟩
  | 8 => ⟨S2x4096x4x2x32, .f32⟩
  | 9 => ⟨S1x4096x1x2x32, .f32⟩
  | 10 => ⟨S1x4096x1x2x32, .f32⟩
  | 11 => ⟨S2x4096x4x2x32, .f32⟩
  | 12 => ⟨S2x4096x4x2x32, .f32⟩
  | 13 => ⟨S2x4096x4x2x32, .f32⟩
  | 14 => ⟨S2x4096x4x2x32, .f32⟩
  | 15 => ⟨S2x4096x4x2x32, .f32⟩
  | 16 => ⟨S2x4096x4x2x32, .f32⟩
  | 17 => ⟨S2x4096x4x2x32, .f32⟩
  | 18 => ⟨S2x4096x4x2x32, .f32⟩
  | 19 => ⟨S2x4096x4x2x32, .f32⟩
  | 20 => ⟨S2x4096x4x2x32, .f32⟩
  | 21 => ⟨S2x4096x4x2x1x32, .f32⟩
  | 22 => ⟨S2x4096x4x2x1x32, .f32⟩
  | 23 => ⟨S2x4096x4x2x2x32, .f32⟩
  | 24 => ⟨S2x4096x4x128, .f32⟩
  | 25 => ⟨S8192x4x128, .f32⟩
  | 26 => ⟨S4096x16x128, .f32⟩
  | 27 => ⟨S12288x16x128, .f32⟩
  | 28 => ⟨S_, .f32⟩
  | 29 => ⟨S12288x16x128, .f32⟩
  | 30 => ⟨S12288x16x128, .f32⟩
  | 31 => ⟨S4096x4x128, .f32⟩
  | 32 => ⟨S12288x4x128, .f32⟩
  | 33 => ⟨S12288x2048, .f32⟩
  | 34 => ⟨S12288x2048, .bf16⟩
  | 35 => ⟨S12288x512, .f32⟩
  | 36 => ⟨S12288x512, .bf16⟩
  | 37 => ⟨S12288x512, .bf16⟩
  | 38 => ⟨S12288x512, .f32⟩
  | _ => ⟨S12288x15360, .f32⟩

abbrev hbmTy (i : Nat) : BufTy := match i / 128 with
  | 0 => hbmTy0_0 i
  | 1 => hbmTy0_1 i
  | _ => ⟨S12288x15360, .f32⟩

abbrev bufTy : (tb : Table) → Fin (tcTables nBuf tb) → BufTy
  | .hbm, ⟨i, _⟩ => hbmTy i
  | _, _ => ⟨S12288x15360, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_c : Ref sig .tc := ⟨.hbm, 41, rfl⟩
abbrev main_call0_v0 : Ref sig .tc := ⟨.hbm, 42, rfl⟩
abbrev main_call0_v1 : Ref sig .tc := ⟨.hbm, 43, rfl⟩
abbrev main_call0_v2 : Ref sig .tc := ⟨.hbm, 44, rfl⟩
abbrev main_call0_v3 : Ref sig .tc := ⟨.hbm, 45, rfl⟩
abbrev main_call0_v4 : Ref sig .tc := ⟨.hbm, 46, rfl⟩
abbrev main_call0_v5 : Ref sig .tc := ⟨.hbm, 47, rfl⟩
abbrev main_call0_v6 : Ref sig .tc := ⟨.hbm, 48, rfl⟩
abbrev main_call0_v7 : Ref sig .tc := ⟨.hbm, 49, rfl⟩
abbrev main_call0_v8 : Ref sig .tc := ⟨.hbm, 50, rfl⟩
abbrev main_call0_c : Ref sig .tc := ⟨.hbm, 51, rfl⟩
abbrev main_call0_v9 : Ref sig .tc := ⟨.hbm, 52, rfl⟩
abbrev main_call0_v10 : Ref sig .tc := ⟨.hbm, 53, rfl⟩
abbrev main_call0_v11 : Ref sig .tc := ⟨.hbm, 54, rfl⟩
abbrev main_call0_c_0 : Ref sig .tc := ⟨.hbm, 55, rfl⟩
abbrev main_call0_v12 : Ref sig .tc := ⟨.hbm, 56, rfl⟩
abbrev main_call0_v13 : Ref sig .tc := ⟨.hbm, 57, rfl⟩
abbrev main_v32 : Ref sig .tc := ⟨.hbm, 58, rfl⟩
abbrev main_v33 : Ref sig .tc := ⟨.hbm, 59, rfl⟩
abbrev main_c_5 : Ref sig .tc := ⟨.hbm, 60, rfl⟩
abbrev main_call1_v0 : Ref sig .tc := ⟨.hbm, 61, rfl⟩
abbrev main_call1_c : Ref sig .tc := ⟨.hbm, 62, rfl⟩
abbrev main_call1_v1 : Ref sig .tc := ⟨.hbm, 63, rfl⟩
abbrev main_call1_c_0 : Ref sig .tc := ⟨.hbm, 64, rfl⟩
abbrev main_call1_v2 : Ref sig .tc := ⟨.hbm, 65, rfl⟩
abbrev main_call1_v3 : Ref sig .tc := ⟨.hbm, 66, rfl⟩
abbrev main_call1_v4 : Ref sig .tc := ⟨.hbm, 67, rfl⟩
abbrev main_call1_c_1 : Ref sig .tc := ⟨.hbm, 68, rfl⟩
abbrev main_call1_v5 : Ref sig .tc := ⟨.hbm, 69, rfl⟩
abbrev main_call1_v6 : Ref sig .tc := ⟨.hbm, 70, rfl⟩
abbrev main_call1_c_2 : Ref sig .tc := ⟨.hbm, 71, rfl⟩
abbrev main_call1_v7 : Ref sig .tc := ⟨.hbm, 72, rfl⟩
abbrev main_call1_v8 : Ref sig .tc := ⟨.hbm, 73, rfl⟩
abbrev main_call1_c_3 : Ref sig .tc := ⟨.hbm, 74, rfl⟩
abbrev main_call1_v9 : Ref sig .tc := ⟨.hbm, 75, rfl⟩
abbrev main_call1_v10 : Ref sig .tc := ⟨.hbm, 76, rfl⟩
abbrev main_call1_v11 : Ref sig .tc := ⟨.hbm, 77, rfl⟩
abbrev main_call1_v12 : Ref sig .tc := ⟨.hbm, 78, rfl⟩
abbrev main_call1_v13 : Ref sig .tc := ⟨.hbm, 79, rfl⟩
abbrev main_call1_v14 : Ref sig .tc := ⟨.hbm, 80, rfl⟩
abbrev main_v34 : Ref sig .tc := ⟨.hbm, 81, rfl⟩
abbrev main_v35 : Ref sig .tc := ⟨.hbm, 82, rfl⟩
abbrev main_v36 : Ref sig .tc := ⟨.hbm, 83, rfl⟩
abbrev main_v37 : Ref sig .tc := ⟨.hbm, 84, rfl⟩
abbrev main_cst_6 : Ref sig .tc := ⟨.hbm, 85, rfl⟩
abbrev main_v38 : Ref sig .tc := ⟨.hbm, 86, rfl⟩
abbrev main_v39 : Ref sig .tc := ⟨.hbm, 87, rfl⟩
abbrev main_cst_7 : Ref sig .tc := ⟨.hbm, 88, rfl⟩
abbrev main_v40 : Ref sig .tc := ⟨.hbm, 89, rfl⟩
abbrev main_v41 : Ref sig .tc := ⟨.hbm, 90, rfl⟩
abbrev main_v42 : Ref sig .tc := ⟨.hbm, 91, rfl⟩
abbrev main_v43 : Ref sig .tc := ⟨.hbm, 92, rfl⟩
abbrev main_v44 : Ref sig .tc := ⟨.hbm, 93, rfl⟩
abbrev main_v45 : Ref sig .tc := ⟨.hbm, 94, rfl⟩
abbrev main_v46 : Ref sig .tc := ⟨.hbm, 95, rfl⟩
abbrev main_v47 : Ref sig .tc := ⟨.hbm, 96, rfl⟩
abbrev main_v48 : Ref sig .tc := ⟨.hbm, 97, rfl⟩
abbrev main_v49 : Ref sig .tc := ⟨.hbm, 98, rfl⟩
abbrev main_v50 : Ref sig .tc := ⟨.hbm, 99, rfl⟩
abbrev main_v51 : Ref sig .tc := ⟨.hbm, 100, rfl⟩
abbrev main_v52 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_v56 : Ref sig .tc := ⟨.hbm, 105, rfl⟩
abbrev main_v57 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_v63 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_v67 : Ref sig .tc := ⟨.hbm, 116, rfl⟩
abbrev main_v68 : Ref sig .tc := ⟨.hbm, 117, rfl⟩
abbrev main_v69 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩
abbrev main_v73 : Ref sig .tc := ⟨.hbm, 122, rfl⟩
abbrev main_v74 : Ref sig .tc := ⟨.hbm, 123, rfl⟩
abbrev main_v75 : Ref sig .tc := ⟨.hbm, 124, rfl⟩
abbrev main_v76 : Ref sig .tc := ⟨.hbm, 125, rfl⟩
abbrev main_v77 : Ref sig .tc := ⟨.hbm, 126, rfl⟩
abbrev main_v78 : Ref sig .tc := ⟨.hbm, 127, rfl⟩
abbrev main_v79 : Ref sig .tc := ⟨.hbm, 128, rfl⟩
abbrev main_v80 : Ref sig .tc := ⟨.hbm, 129, rfl⟩
abbrev main_v81 : Ref sig .tc := ⟨.hbm, 130, rfl⟩
abbrev main_v82 : Ref sig .tc := ⟨.hbm, 131, rfl⟩
abbrev main_v83 : Ref sig .tc := ⟨.hbm, 132, rfl⟩
abbrev main_v84 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_v88 : Ref sig .tc := ⟨.hbm, 137, rfl⟩
abbrev main_v89 : Ref sig .tc := ⟨.hbm, 138, rfl⟩
abbrev main_v90 : Ref sig .tc := ⟨.hbm, 139, rfl⟩
abbrev main_v91 : Ref sig .tc := ⟨.hbm, 140, rfl⟩
abbrev main_v92 : Ref sig .tc := ⟨.hbm, 141, rfl⟩
abbrev main_v93 : Ref sig .tc := ⟨.hbm, 142, rfl⟩
abbrev main_v94 : Ref sig .tc := ⟨.hbm, 143, rfl⟩
abbrev main_v95 : Ref sig .tc := ⟨.hbm, 144, rfl⟩
abbrev main_v96 : Ref sig .tc := ⟨.hbm, 145, rfl⟩
abbrev main_v97 : Ref sig .tc := ⟨.hbm, 146, rfl⟩
abbrev main_v98 : Ref sig .tc := ⟨.hbm, 147, rfl⟩
abbrev main_v99 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_cst_8 : Ref sig .tc := ⟨.hbm, 156, rfl⟩
abbrev main_v107 : Ref sig .tc := ⟨.hbm, 157, rfl⟩
abbrev main_v108 : Ref sig .tc := ⟨.hbm, 158, rfl⟩
abbrev main_v109 : Ref sig .tc := ⟨.hbm, 159, rfl⟩
abbrev main_v110 : Ref sig .tc := ⟨.hbm, 160, rfl⟩
abbrev main_v111 : Ref sig .tc := ⟨.hbm, 161, rfl⟩
abbrev main_v112 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩

abbrev nD : Nat := 1
abbrev τ : Topo := Topo.v7x

variable {F : FTy → Type} [FloatOps F]
-- ==== State.lean ====
abbrev S12288x4096 : Shape := ⟨2, ![12288, 4096]⟩
abbrev S12288x128 : Shape := ⟨2, ![12288, 128]⟩
abbrev S_ : Shape := ⟨0, ![]⟩
abbrev S16x2x32x64x128 : Shape := ⟨5, ![16, 2, 32, 64, 128]⟩
abbrev S12288x2048 : Shape := ⟨2, ![12288, 2048]⟩
abbrev S2048x12288 : Shape := ⟨2, ![2048, 12288]⟩
abbrev S128x12288 : Shape := ⟨2, ![128, 12288]⟩
abbrev S2x12288x2048 : Shape := ⟨3, ![2, 12288, 2048]⟩
abbrev S128x2048 : Shape := ⟨2, ![128, 2048]⟩
abbrev S2048x128 : Shape := ⟨2, ![2048, 128]⟩
abbrev S128x1024 : Shape := ⟨2, ![128, 1024]⟩
abbrev S128x128 : Shape := ⟨2, ![128, 128]⟩
abbrev S1x1x32x64x128 : Shape := ⟨5, ![1, 1, 32, 64, 128]⟩
abbrev S1x128x2048 : Shape := ⟨3, ![1, 128, 2048]⟩
abbrev S32x64x128 : Shape := ⟨3, ![32, 64, 128]⟩
abbrev S128x32 : Shape := ⟨2, ![128, 32]⟩
abbrev S32x128 : Shape := ⟨2, ![32, 128]⟩
abbrev S1x32 : Shape := ⟨2, ![1, 32]⟩
abbrev S32x1 : Shape := ⟨2, ![32, 1]⟩
abbrev S128x1 : Shape := ⟨2, ![128, 1]⟩
abbrev S1x128 : Shape := ⟨2, ![1, 128]⟩
abbrev S1x64x128 : Shape := ⟨3, ![1, 64, 128]⟩
abbrev S64x128 : Shape := ⟨2, ![64, 128]⟩
abbrev S128x64 : Shape := ⟨2, ![128, 64]⟩
abbrev S1x128x64 : Shape := ⟨3, ![1, 128, 64]⟩
abbrev S1x1 : Shape := ⟨2, ![1, 1]⟩

abbrev nBuf : Space → Nat
  | .hbm => 9
  | .vmem => 19
  | .smem => 0
  | _ => 0

abbrev bufTy : (tb : Table) → Fin (tcTables nBuf tb) → BufTy
  | .hbm, ⟨0, _⟩ => ⟨S12288x4096, .f32⟩
  | .hbm, ⟨1, _⟩ => ⟨S12288x128, .f32⟩
  | .hbm, ⟨2, _⟩ => ⟨S_, .f32⟩
  | .hbm, ⟨3, _⟩ => ⟨S16x2x32x64x128, .f32⟩
  | .hbm, ⟨4, _⟩ => ⟨S12288x2048, .f32⟩
  | .hbm, ⟨5, _⟩ => ⟨S2048x12288, .f32⟩
  | .hbm, ⟨6, _⟩ => ⟨S128x12288, .f32⟩
  | .hbm, ⟨7, _⟩ => ⟨S2x12288x2048, .f32⟩
  | .hbm, ⟨8, _⟩ => ⟨S16x2x32x64x128, .f32⟩
  | .local _ .vmem, ⟨0, _⟩ => ⟨S128x2048, .f32⟩
  | .local _ .vmem, ⟨1, _⟩ => ⟨S128x2048, .f32⟩
  | .local _ .vmem, ⟨2, _⟩ => ⟨S2048x128, .f32⟩
  | .local _ .vmem, ⟨3, _⟩ => ⟨S2048x128, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x128, .f32⟩
  | .local _ .vmem, ⟨9, _⟩ => ⟨S128x128, .f32⟩
  | .local _ .vmem, ⟨10, _⟩ => ⟨S128x128, .f32⟩
  | .local _ .vmem, ⟨11, _⟩ => ⟨S128x128, .f32⟩
  | .local _ .vmem, ⟨12, _⟩ => ⟨S1x1x32x64x128, .f32⟩
  | .local _ .vmem, ⟨13, _⟩ => ⟨S1x1x32x64x128, .f32⟩
  | .local _ .vmem, ⟨14, _⟩ => ⟨S1x128x2048, .f32⟩
  | .local _ .vmem, ⟨15, _⟩ => ⟨S1x128x2048, .f32⟩
  | .local _ .vmem, ⟨16, _⟩ => ⟨S1x1x32x64x128, .f32⟩
  | .local _ .vmem, ⟨17, _⟩ => ⟨S1x1x32x64x128, .f32⟩
  | .local _ .vmem, ⟨18, _⟩ => ⟨S32x64x128, .f32⟩
  | _, _ => ⟨S12288x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![16, 2, 2], ![false, false, false]⟩

def k0_cond2 (i : grid0.Coords) : BitVec 1 :=
  let arg2 : BitVec 32 := BitVec.ofNat 32 (i 2).val
  let c1_i32_562 : BitVec 32 := 1#32
  let v1508 : BitVec 1 := Scalar.cmpi .eq arg2 c1_i32_562
  let v1509 : BitVec 32 := Scalar.extui v1508
  let c0_i32_563 : BitVec 32 := 0#32
  let v1510 : BitVec 1 := Scalar.cmpi .ne v1509 c0_i32_563
  v1510

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let c0_i32 : BitVec 32 := 0#32
  let v1 : BitVec 32 := Scalar.addi c0_i32 v0
  let c0_i32_0 : BitVec 32 := 0#32
  let v2 : BitVec 1 := Scalar.cmpi .eq arg1 c0_i32_0
  let c1_i32 : BitVec 32 := 1#32
  let v3 : BitVec 32 := Scalar.subi c1_i32 arg2
  let v4 : BitVec 32 := Scalar.select v2 arg2 v3
  let v5 : BitVec 32 := Scalar.addi v1 v4
  let c0_i32_1 : BitVec 32 := 0#32
  let c0_i32_2 : BitVec 32 := 0#32
  ![v5.toNat, c0_i32_1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let c0_i32 : BitVec 32 := 0#32
  let v1 : BitVec 32 := Scalar.addi c0_i32 v0
  let c0_i32_0 : BitVec 32 := 0#32
  let v2 : BitVec 1 := Scalar.cmpi .eq arg1 c0_i32_0
  let c1_i32 : BitVec 32 := 1#32
  let v3 : BitVec 32 := Scalar.subi c1_i32 arg2
  let v4 : BitVec 32 := Scalar.select v2 arg2 v3
  let v5 : BitVec 32 := Scalar.addi v1 v4
  let c0_i32_1 : BitVec 32 := 0#32
  let c0_i32_2 : BitVec 32 := 0#32
  ![c0_i32_1.toNat, v5.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let c0_i32 : BitVec 32 := 0#32
  let v1 : BitVec 32 := Scalar.addi c0_i32 v0
  let c0_i32_0 : BitVec 32 := 0#32
  let v2 : BitVec 1 := Scalar.cmpi .eq arg1 c0_i32_0
  let c1_i32 : BitVec 32 := 1#32
  let v3 : BitVec 32 := Scalar.subi c1_i32 arg2
  let v4 : BitVec 32 := Scalar.select v2 arg2 v3
  let v5 : BitVec 32 := Scalar.addi v1 v4
  let c2_i32_1 : BitVec 32 := 2#32
  let c0_i32_2 : BitVec 32 := 0#32
  ![v5.toNat, c2_i32_1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let c0_i32 : BitVec 32 := 0#32
  let v1 : BitVec 32 := Scalar.addi c0_i32 v0
  let c0_i32_0 : BitVec 32 := 0#32
  let v2 : BitVec 1 := Scalar.cmpi .eq arg1 c0_i32_0
  let c1_i32 : BitVec 32 := 1#32
  let v3 : BitVec 32 := Scalar.subi c1_i32 arg2
  let v4 : BitVec 32 := Scalar.select v2 arg2 v3
  let v5 : BitVec 32 := Scalar.addi v1 v4
  let c3_i32 : BitVec 32 := 3#32
  let c0_i32_1 : BitVec 32 := 0#32
  ![v5.toNat, c3_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let c0_i32 : BitVec 32 := 0#32
  let v1 : BitVec 32 := Scalar.addi c0_i32 v0
  let c0_i32_0 : BitVec 32 := 0#32
  let v2 : BitVec 1 := Scalar.cmpi .eq arg1 c0_i32_0
  let c1_i32 : BitVec 32 := 1#32
  let v3 : BitVec 32 := Scalar.subi c1_i32 arg2
  let v4 : BitVec 32 := Scalar.select v2 arg2 v3
  let v5 : BitVec 32 := Scalar.addi v1 v4
  let c0_i32_1 : BitVec 32 := 0#32
  let c0_i32_2 : BitVec 32 := 0#32
  ![v5.toNat, c0_i32_1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let c0_i32 : BitVec 32 := 0#32
  let v1 : BitVec 32 := Scalar.addi c0_i32 v0
  let c0_i32_0 : BitVec 32 := 0#32
  let v2 : BitVec 1 := Scalar.cmpi .eq arg1 c0_i32_0
  let c1_i32 : BitVec 32 := 1#32
  let v3 : BitVec 32 := Scalar.subi c1_i32 arg2
  let v4 : BitVec 32 := Scalar.select v2 arg2 v3
  let v5 : BitVec 32 := Scalar.addi v1 v4
  let c0_i32_1 : BitVec 32 := 0#32
  let c0_i32_2 : BitVec 32 := 0#32
  ![c0_i32_1.toNat, v5.toNat]

def cc0_transform_6 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let c0_i32 : BitVec 32 := 0#32
  let v1 : BitVec 32 := Scalar.addi c0_i32 v0
  let c0_i32_0 : BitVec 32 := 0#32
  let v2 : BitVec 1 := Scalar.cmpi .eq arg1 c0_i32_0
  let c1_i32 : BitVec 32 := 1#32
  let v3 : BitVec 32 := Scalar.subi c1_i32 arg2
  let v4 : BitVec 32 := Scalar.select v2 arg2 v3
  let v5 : BitVec 32 := Scalar.addi v1 v4
  let c0_i32_1 : BitVec 32 := 0#32
  let c0_i32_2 : BitVec 32 := 0#32
  ![arg1.toNat, v5.toNat, c0_i32_1.toNat]

def cc0_transform_8 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1x32x64x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1x128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x1x32x64x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== StateRefIdeal.lean ====
abbrev S12288x4096 : Shape := ⟨2, ![12288, 4096]⟩
abbrev S12288x128 : Shape := ⟨2, ![12288, 128]⟩
abbrev S4096x2048 : Shape := ⟨2, ![4096, 2048]⟩
abbrev S16x256x32x64 : Shape := ⟨4, ![16, 256, 32, 64]⟩
abbrev S4096x1024 : Shape := ⟨2, ![4096, 1024]⟩
abbrev S16x256x8x128 : Shape := ⟨4, ![16, 256, 8, 128]⟩
abbrev S4096x64 : Shape := ⟨2, ![4096, 64]⟩
abbrev S16x256x2x32 : Shape := ⟨4, ![16, 256, 2, 32]⟩
abbrev S_ : Shape := ⟨0, ![]⟩
abbrev S16x32x64x128 : Shape := ⟨4, ![16, 32, 64, 128]⟩
abbrev S16x256x1x32 : Shape := ⟨4, ![16, 256, 1, 32]⟩
abbrev S16x256x32 : Shape := ⟨3, ![16, 256, 32]⟩
abbrev S16x256x32x1 : Shape := ⟨4, ![16, 256, 32, 1]⟩
abbrev S16x2x128x8x4x64 : Shape := ⟨6, ![16, 2, 128, 8, 4, 64]⟩
abbrev S16x2x128x8x128 : Shape := ⟨5, ![16, 2, 128, 8, 128]⟩
abbrev S16x2x128x8x4 : Shape := ⟨5, ![16, 2, 128, 8, 4]⟩
abbrev S16x2x1x8x4 : Shape := ⟨5, ![16, 2, 1, 8, 4]⟩
abbrev S16x2x128x8x4x1 : Shape := ⟨6, ![16, 2, 128, 8, 4, 1]⟩
abbrev S16x2x8x4x64x128 : Shape := ⟨6, ![16, 2, 8, 4, 64, 128]⟩
abbrev S16x2x8x4 : Shape := ⟨4, ![16, 2, 8, 4]⟩
abbrev S16x8x4x64x128 : Shape := ⟨5, ![16, 8, 4, 64, 128]⟩
abbrev S16x1x8x4 : Shape := ⟨4, ![16, 1, 8, 4]⟩
abbrev S16x8x4 : Shape := ⟨3, ![16, 8, 4]⟩
abbrev S16x8x4x1x1 : Shape := ⟨5, ![16, 8, 4, 1, 1]⟩
abbrev S16x1x8x4x64x128 : Shape := ⟨6, ![16, 1, 8, 4, 64, 128]⟩
abbrev S16x1x32x64x128 : Shape := ⟨5, ![16, 1, 32, 64, 128]⟩
abbrev S16x2x32x64x128 : Shape := ⟨5, ![16, 2, 32, 64, 128]⟩

abbrev nBuf : Space → Nat
  | .hbm => 103
  | .vmem => 0
  | .smem => 0
  | _ => 0

abbrev bufTy : (tb : Table) → Fin (tcTables nBuf tb) → BufTy
  | .hbm, ⟨0, _⟩ => ⟨S12288x4096, .f32⟩
  | .hbm, ⟨1, _⟩ => ⟨S12288x128, .f32⟩
  | .hbm, ⟨2, _⟩ => ⟨S4096x2048, .f32⟩
  | .hbm, ⟨3, _⟩ => ⟨S16x256x32x64, .f32⟩
  | .hbm, ⟨4, _⟩ => ⟨S4096x1024, .f32⟩
  | .hbm, ⟨5, _⟩ => ⟨S16x256x8x128, .f32⟩
  | .hbm, ⟨6, _⟩ => ⟨S4096x64, .f32⟩
  | .hbm, ⟨7, _⟩ => ⟨S16x256x2x32, .f32⟩
  | .hbm, ⟨8, _⟩ => ⟨S4096x64, .f32⟩
  | .hbm, ⟨9, _⟩ => ⟨S16x256x2x32, .f32⟩
  | .hbm, ⟨10, _⟩ => ⟨S_, .f32⟩
  | .hbm, ⟨11, _⟩ => ⟨S16x32x64x128, .f32⟩
  | .hbm, ⟨12, _⟩ => ⟨S16x256x1x32, .f32⟩
  | .hbm, ⟨13, _⟩ => ⟨S16x256x32, .f32⟩
  | .hbm, ⟨14, _⟩ => ⟨S16x256x1x32, .f32⟩
  | .hbm, ⟨15, _⟩ => ⟨S16x256x32, .f32⟩
  | .hbm, ⟨16, _⟩ => ⟨S16x256x32x1, .f32⟩
  | .hbm, ⟨17, _⟩ => ⟨S16x256x32x64, .f32⟩
  | .hbm, ⟨18, _⟩ => ⟨S16x256x32x64, .f32⟩
  | .hbm, ⟨19, _⟩ => ⟨S16x2x128x8x4x64, .f32⟩
  | .hbm, ⟨20, _⟩ => ⟨S16x2x128x8x128, .f32⟩
  | .hbm, ⟨21, _⟩ => ⟨S16x2x128x8x4, .f32⟩
  | .hbm, ⟨22, _⟩ => ⟨S_, .f32⟩
  | .hbm, ⟨23, _⟩ => ⟨S_, .f32⟩
  | .hbm, ⟨24, _⟩ => ⟨S16x2x128x8x4, .f32⟩
  | .hbm, ⟨25, _⟩ => ⟨S16x2x1x8x4, .f32⟩
  | .hbm, ⟨26, _⟩ => ⟨S16x2x128x8x4, .f32⟩
  | .hbm, ⟨27, _⟩ => ⟨S16x2x128x8x4, .f32⟩
  | .hbm, ⟨28, _⟩ => ⟨S16x2x128x8x4, .f32⟩
  | .hbm, ⟨29, _⟩ => ⟨S16x2x128x8x4x1, .f32⟩
  | .hbm, ⟨30, _⟩ => ⟨S16x2x128x8x4x64, .f32⟩
  | .hbm, ⟨31, _⟩ => ⟨S16x2x128x8x4x64, .f32⟩
  | .hbm, ⟨32, _⟩ => ⟨S16x2x8x4x64x128, .f32⟩
  | .hbm, ⟨33, _⟩ => ⟨S16x2x1x8x4, .f32⟩
  | .hbm, ⟨34, _⟩ => ⟨S16x2x8x4, .f32⟩
  | .hbm, ⟨35, _⟩ => ⟨S16x2x8x4, .f32⟩
  | .hbm, ⟨36, _⟩ => ⟨S16x8x4x64x128, .f32⟩
  | .hbm, ⟨37, _⟩ => ⟨S16x1x8x4, .f32⟩
  | .hbm, ⟨38, _⟩ => ⟨S16x8x4, .f32⟩
  | .hbm, ⟨39, _⟩ => ⟨S16x8x4x1x1, .f32⟩
  | .hbm, ⟨40, _⟩ => ⟨S16x8x4x64x128, .f32⟩
  | .hbm, ⟨41, _⟩ => ⟨S16x8x4x64x128, .f32⟩
  | .hbm, ⟨42, _⟩ => ⟨S16x1x8x4x64x128, .f32⟩
  | .hbm, ⟨43, _⟩ => ⟨S16x8x4x64x128, .f32⟩
  | .hbm, ⟨44, _⟩ => ⟨S16x8x4x64x128, .f32⟩
  | .hbm, ⟨45, _⟩ => ⟨S16x1x8x4, .f32⟩
  | .hbm, ⟨46, _⟩ => ⟨S16x8x4, .f32⟩
  | .hbm, ⟨47, _⟩ => ⟨S16x8x4x1x1, .f32⟩
  | .hbm, ⟨48, _⟩ => ⟨S16x8x4x64x128, .f32⟩
  | .hbm, ⟨49, _⟩ => ⟨S16x8x4x64x128, .f32⟩
  | .hbm, ⟨50, _⟩ => ⟨S16x1x8x4x64x128, .f32⟩
  | .hbm, ⟨51, _⟩ => ⟨S16x8x4x64x128, .f32⟩
  | .hbm, ⟨52, _⟩ => ⟨S16x8x4x64x128, .f32⟩
  | .hbm, ⟨53, _⟩ => ⟨S16x32x64x128, .f32⟩
  | .hbm, ⟨54, _⟩ => ⟨S16x256x32x64, .f32⟩
  | .hbm, ⟨55, _⟩ => ⟨S16x256x1x32, .f32⟩
  | .hbm, ⟨56, _⟩ => ⟨S16x256x1x32, .f32⟩
  | .hbm, ⟨57, _⟩ => ⟨S16x256x32, .f32⟩
  | .hbm, ⟨58, _⟩ => ⟨S16x256x1x32, .f32⟩
  | .hbm, ⟨59, _⟩ => ⟨S16x256x1x32, .f32⟩
  | .hbm, ⟨60, _⟩ => ⟨S16x256x32, .f32⟩
  | .hbm, ⟨61, _⟩ => ⟨S16x256x8x128, .f32⟩
  | .hbm, ⟨62, _⟩ => ⟨S16x256x32x1, .f32⟩
  | .hbm, ⟨63, _⟩ => ⟨S16x256x32x64, .f32⟩
  | .hbm, ⟨64, _⟩ => ⟨S16x256x32x64, .f32⟩
  | .hbm, ⟨65, _⟩ => ⟨S16x2x128x8x4x64, .f32⟩
  | .hbm, ⟨66, _⟩ => ⟨S16x2x128x8x128, .f32⟩
  | .hbm, ⟨67, _⟩ => ⟨S16x2x128x8x4, .f32⟩
  | .hbm, ⟨68, _⟩ => ⟨S_, .f32⟩
  | .hbm, ⟨69, _⟩ => ⟨S_, .f32⟩
  | .hbm, ⟨70, _⟩ => ⟨S16x2x128x8x4, .f32⟩
  | .hbm, ⟨71, _⟩ => ⟨S16x2x1x8x4, .f32⟩
  | .hbm, ⟨72, _⟩ => ⟨S16x2x128x8x4, .f32⟩
  | .hbm, ⟨73, _⟩ => ⟨S16x2x128x8x4, .f32⟩
  | .hbm, ⟨74, _⟩ => ⟨S16x2x128x8x4, .f32⟩
  | .hbm, ⟨75, _⟩ => ⟨S16x2x128x8x4x1, .f32⟩
  | .hbm, ⟨76, _⟩ => ⟨S16x2x128x8x4x64, .f32⟩
  | .hbm, ⟨77, _⟩ => ⟨S16x2x128x8x4x64, .f32⟩
  | .hbm, ⟨78, _⟩ => ⟨S16x2x8x4x64x128, .f32⟩
  | .hbm, ⟨79, _⟩ => ⟨S16x2x1x8x4, .f32⟩
  | .hbm, ⟨80, _⟩ => ⟨S16x2x8x4, .f32⟩
  | .hbm, ⟨81, _⟩ => ⟨S16x2x8x4, .f32⟩
  | .hbm, ⟨82, _⟩ => ⟨S16x8x4x64x128, .f32⟩
  | .hbm, ⟨83, _⟩ => ⟨S16x1x8x4, .f32⟩
  | .hbm, ⟨84, _⟩ => ⟨S16x8x4, .f32⟩
  | .hbm, ⟨85, _⟩ => ⟨S16x8x4x1x1, .f32⟩
  | .hbm, ⟨86, _⟩ => ⟨S16x8x4x64x128, .f32⟩
  | .hbm, ⟨87, _⟩ => ⟨S16x8x4x64x128, .f32⟩
  | .hbm, ⟨88, _⟩ => ⟨S16x1x8x4x64x128, .f32⟩
  | .hbm, ⟨89, _⟩ => ⟨S16x8x4x64x128, .f32⟩
  | .hbm, ⟨90, _⟩ => ⟨S16x8x4x64x128, .f32⟩
  | .hbm, ⟨91, _⟩ => ⟨S16x1x8x4, .f32⟩
  | .hbm, ⟨92, _⟩ => ⟨S16x8x4, .f32⟩
  | .hbm, ⟨93, _⟩ => ⟨S16x8x4x1x1, .f32⟩
  | .hbm, ⟨94, _⟩ => ⟨S16x8x4x64x128, .f32⟩
  | .hbm, ⟨95, _⟩ => ⟨S16x8x4x64x128, .f32⟩
  | .hbm, ⟨96, _⟩ => ⟨S16x1x8x4x64x128, .f32⟩
  | .hbm, ⟨97, _⟩ => ⟨S16x8x4x64x128, .f32⟩
  | .hbm, ⟨98, _⟩ => ⟨S16x8x4x64x128, .f32⟩
  | .hbm, ⟨99, _⟩ => ⟨S16x32x64x128, .f32⟩
  | .hbm, ⟨100, _⟩ => ⟨S16x1x32x64x128, .f32⟩
  | .hbm, ⟨101, _⟩ => ⟨S16x1x32x64x128, .f32⟩
  | .hbm, ⟨102, _⟩ => ⟨S16x2x32x64x128, .f32⟩
  | _, _ => ⟨S12288x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_call0_call0_cst : Ref sig .tc := ⟨.hbm, 22, rfl⟩
abbrev main_call0_call0_v0 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_v56 : Ref sig .tc := ⟨.hbm, 61, rfl⟩
abbrev main_v57 : Ref sig .tc := ⟨.hbm, 62, rfl⟩
abbrev main_v58 : Ref sig .tc := ⟨.hbm, 63, rfl⟩
abbrev main_v59 : Ref sig .tc := ⟨.hbm, 64, rfl⟩
abbrev main_v60 : Ref sig .tc := ⟨.hbm, 65, rfl⟩
abbrev main_v61 : Ref sig .tc := ⟨.hbm, 66, rfl⟩
abbrev main_v62 : Ref sig .tc := ⟨.hbm, 67, rfl⟩
abbrev main_call1_call0_cst : Ref sig .tc := ⟨.hbm, 68, rfl⟩
abbrev main_call1_call0_v0 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_v75 : Ref sig .tc := ⟨.hbm, 82, rfl⟩
abbrev main_v76 : Ref sig .tc := ⟨.hbm, 83, rfl⟩
abbrev main_v77 : Ref sig .tc := ⟨.hbm, 84, rfl⟩
abbrev main_v78 : Ref sig .tc := ⟨.hbm, 85, rfl⟩
abbrev main_v79 : Ref sig .tc := ⟨.hbm, 86, rfl⟩
abbrev main_v80 : Ref sig .tc := ⟨.hbm, 87, rfl⟩
abbrev main_v81 : Ref sig .tc := ⟨.hbm, 88, rfl⟩
abbrev main_v82 : Ref sig .tc := ⟨.hbm, 89, rfl⟩
abbrev main_v83 : Ref sig .tc := ⟨.hbm, 90, rfl⟩
abbrev main_v84 : Ref sig .tc := ⟨.hbm, 91, rfl⟩
abbrev main_v85 : Ref sig .tc := ⟨.hbm, 92, rfl⟩
abbrev main_v86 : Ref sig .tc := ⟨.hbm, 93, rfl⟩
abbrev main_v87 : Ref sig .tc := ⟨.hbm, 94, rfl⟩
abbrev main_v88 : Ref sig .tc := ⟨.hbm, 95, rfl⟩
abbrev main_v89 : Ref sig .tc := ⟨.hbm, 96, rfl⟩
abbrev main_v90 : Ref sig .tc := ⟨.hbm, 97, rfl⟩
abbrev main_v91 : Ref sig .tc := ⟨.hbm, 98, rfl⟩
abbrev main_v92 : Ref sig .tc := ⟨.hbm, 99, rfl⟩
abbrev main_v93 : Ref sig .tc := ⟨.hbm, 100, rfl⟩
abbrev main_v94 : Ref sig .tc := ⟨.hbm, 101, rfl⟩
abbrev main_v95 : Ref sig .tc := ⟨.hbm, 102, rfl⟩

abbrev nD : Nat := 1
abbrev τ : Topo := Topo.v7x

variable {F : FTy → Type} [FloatOps F]
-- ==== Proof.AttnMath.lean ====
/- The extended-real mathematics of softmax attention: dividing the weighted sum by the total weight, or every weight by
   it first, is the same as long as one score is the finite largest one. -/
module

public import Idealize.ShloMosaic.Lib.Pointwise

@[expose] public section

set_option maxRecDepth 16384

noncomputable section

namespace Cert.AttnMath

open Idealize.ShloMosaic

/-- The pattern of minus infinity denotes the least extended real. -/
theorem neg_inf : Ideal.ofBits .f32 0xFF800000#32 = (⊥ : EReal) := by
  simp [Ideal.ofBits, Ideal.ieee]

/-- An extended real that is a real number. -/
def IsReal (x : EReal) : Prop := ∃ r : ℝ, x = (r : EReal)

theorem IsReal.mul {x y : EReal} (hx : IsReal x) (hy : IsReal y) : IsReal (x * y) := by
  obtain ⟨a, rfl⟩ := hx
  obtain ⟨b, rfl⟩ := hy
  exact ⟨a * b, by push_cast; rfl⟩

theorem IsReal.add {x y : EReal} (hx : IsReal x) (hy : IsReal y) : IsReal (x + y) := by
  obtain ⟨a, rfl⟩ := hx
  obtain ⟨b, rfl⟩ := hy
  exact ⟨a + b, by push_cast; rfl⟩

theorem IsReal.sum {ι : Type*} (s : Finset ι) (f : ι → EReal) (h : ∀ i, IsReal (f i)) : IsReal (∑ i ∈ s, f i) := by
  classical
  induction s using Finset.induction_on with
  | empty => exact ⟨0, by simp⟩
  | insert a s ha ih => rw [Finset.sum_insert ha]; exact (h a).add ih

/-- What lies strictly below plus infinity in absolute value is a real number. -/
theorem IsReal.of_abs_lt {x : EReal} (h : max x (-x) < ⊤) : IsReal x := by
  induction x using EReal.rec with
  | bot => simp at h
  | top => simp at h
  | coe r => exact ⟨r, rfl⟩

/-- The exponential is never negative. -/
theorem exp_nonneg (x : EReal) : 0 ≤ Ideal.exp x := by
  induction x using EReal.rec with
  | bot => exact le_refl _
  | top => exact le_top
  | coe r => exact EReal.coe_nonneg.2 (Real.exp_pos r).le

/-- The largest of finitely many scores, starting from minus infinity, is one of them. -/
theorem fold_max_mem {n : ℕ} (hn : 0 < n) (s : Fin n → EReal) :
    ∃ k, Finset.univ.fold max (Ideal.ofBits .f32 0xFF800000#32) s = s k := by
  rw [neg_inf]
  have hne : (Finset.univ : Finset (Fin n)).Nonempty := ⟨⟨0, hn⟩, Finset.mem_univ _⟩
  obtain ⟨k, -, hk⟩ := Finset.exists_mem_eq_sup Finset.univ hne s
  exact ⟨k, hk⟩

/-- A factor that is not negative and not plus infinity distributes over a finite sum. -/
theorem sum_mul_const {ι : Type*} (s : Finset ι) (f : ι → EReal) (c : EReal) (h0 : 0 ≤ c) (ht : c ≠ ⊤) :
    (∑ i ∈ s, f i) * c = ∑ i ∈ s, f i * c := by
  classical
  induction s using Finset.induction_on with
  | empty => simp
  | insert a s ha ih =>
    rw [Finset.sum_insert ha, Finset.sum_insert ha, EReal.right_distrib_of_nonneg_of_ne_top h0 ht, ih]

/-- The inverse of a nonnegative extended real is not plus infinity. -/
theorem inv_ne_top (x : EReal) : x⁻¹ ≠ ⊤ := by
  induction x using EReal.rec with
  | bot => simp
  | top => simp
  | coe r => rw [← EReal.coe_inv]; exact EReal.coe_ne_top _

/-- Attention of one query over `n` keys with finite scores `s` and values `v`: the quotient of the weighted sum is the
    sum over the normalised weights. -/
theorem softmax_out {n : ℕ} (hn : 0 < n) (s v : Fin n → EReal) (hs : ∀ k, IsReal (s k)) :
    Ideal.div
        (∑ k, Ideal.exp (s k - Finset.univ.fold max (Ideal.ofBits .f32 0xFF800000#32) s) * v k)
        (∑ k, Ideal.exp (s k - Finset.univ.fold max (Ideal.ofBits .f32 0xFF800000#32) s))
      = ∑ k, Ideal.div (Ideal.exp (s k - Finset.univ.fold max (Ideal.ofBits .f32 0xFF800000#32) s))
          (∑ j, Ideal.exp (s j - Finset.univ.fold max (Ideal.ofBits .f32 0xFF800000#32) s)) * v k := by
  obtain ⟨k0, hk0⟩ := fold_max_mem hn s
  rw [hk0]
  generalize hp : (fun k => Ideal.exp (s k - s k0)) = p
  have hpk : ∀ k, Ideal.exp (s k - s k0) = p k := fun k => congrFun hp k
  simp only [hpk]
  have h0 : ∀ k, 0 ≤ p k := fun k => hpk k ▸ exp_nonneg _
  have h1 : p k0 = 1 := by
    rw [← hpk]
    obtain ⟨r, hr⟩ := hs k0
    rw [hr, ← EReal.coe_sub, sub_self]
    show ((Real.exp 0 : ℝ) : EReal) = 1
    rw [Real.exp_zero]; rfl
  have hl : (∑ k, p k) ≠ 0 := by
    have h2 : p k0 ≤ ∑ k, p k := Finset.single_le_sum (fun k _ => h0 k) (Finset.mem_univ k0)
    rw [h1] at h2
    exact (lt_of_lt_of_le zero_lt_one h2).ne'
  have hl0 : 0 ≤ ∑ k, p k := Finset.sum_nonneg fun k _ => h0 k
  simp only [Ideal.div, if_neg hl]
  rw [sum_mul_const _ _ _ (EReal.inv_nonneg_of_nonneg hl0) (inv_ne_top _)]
  exact Finset.sum_congr rfl fun k _ => by rw [mul_assoc, mul_comm (v k), ← mul_assoc]

end Cert.AttnMath

end
-- ==== Proof.AttnRef.lean ====
/- The reference attention read at an element: a query row of sample `b`, key/value group `g` and head `r` of that group
   gives the softmax-weighted sum over the cached keys followed by the sample's own. -/
module

public import proofs.«01_k».proof.Proof.Gen.AttnRefIdeal.Read
public import Idealize.ShloMosaic.Lib.Pipeline.ValueKit
public import Idealize.ShloMosaic.Lib.Pointwise
public import proofs.«01_k».proof.Proof.AttnMath

@[expose] public section

set_option maxRecDepth 16384

noncomputable section

namespace Cert.AttnRefPf

open Idealize.ShloMosaic Idealize.ShloMosaic.TcCoe Idealize.SL.Sem
open Cert.AttnMath Cert.AttnRefIdeal Cert.AttnRefIdeal.Read

/-- The array of one sample's keys (or values): the 512 cached ones, then its own 4096. -/
def rows (x : Vec Ideal S12288x512 .bf16) (c : Vec Ideal S2x512x4x128 .f32) (b : Fin 2) (g : Fin 4) (k : Fin 4608) (d : Fin 128) : EReal :=
  if h : k.val < 512 then c (ix4 b ⟨k.val, h⟩ g d)
  else x (ix2 ⟨4096 + (b.val * 4096 + (k.val - 512)), by omega⟩ ⟨g.val * 128 + d.val, by omega⟩)

/-- The score of query row `q` of head `r` in group `g` of sample `b` against key `k`. -/
def score (x0 : Vec Ideal S12288x2048 .bf16) (x1 : Vec Ideal S12288x512 .bf16) (x3 : Vec Ideal S2x512x4x128 .f32)
    (b : Fin 2) (q : Fin 4096) (g r : Fin 4) (k : Fin 4608) : EReal :=
  ∑ d : Fin 128, (x0 (ix2 ⟨4096 + (b.val * 4096 + q.val), by omega⟩ ⟨g.val * 512 + r.val * 128 + d.val, by omega⟩) : EReal)
    * rows x1 x3 b g k d

/-- The largest score of a query row. -/
def top (s : Fin 4608 → EReal) : EReal := Finset.univ.fold max (Ideal.ofBits .f32 0xFF800000#32) s

theorem keys_at (x1 x3) (b : Fin 2) (k : Fin 4608) (g : Fin 4) (d : Fin 128) :
    val_main_v6 (F := Ideal) x1 x3 (ix4 b k g d) = rows x1 x3 b g k d := by
  pointwise [val_main_v6, val_main_v5, val_main_v4, val_main_v3]
  rfl

theorem vals_at (x2 x4) (b : Fin 2) (k : Fin 4608) (g : Fin 4) (d : Fin 128) :
    val_main_v10 (F := Ideal) x2 x4 (ix4 b k g d) = rows x2 x4 b g k d := by
  pointwise [val_main_v10, val_main_v9, val_main_v8, val_main_v7]
  rfl

theorem score_at (x0 x1 x3) (b : Fin 2) (q : Fin 4096) (g r : Fin 4) (k : Fin 4608) :
    val_main_v12 (F := Ideal) x0 x1 x3 (ix5 b g r q k) = score x0 x1 x3 b q g r k := by
  pointwise [val_main_v12, val_main_v11, val_main_v2, val_main_v1, val_main_v0]
  exact Finset.sum_congr rfl fun d _ => by rw [keys_at, mul_comm]

theorem top_at (x0 x1 x3) (b : Fin 2) (q : Fin 4096) (g r : Fin 4) :
    val_main_v13 (F := Ideal) x0 x1 x3 (ix4 b g r q) = top (score x0 x1 x3 b q g r) := by
  pointwise [val_main_v13, val_main_cst]
  simp only [score_at]
  rfl

theorem weight_at (x0 x1 x3) (b : Fin 2) (q : Fin 4096) (g r : Fin 4) (k : Fin 4608) :
    val_main_v19 (F := Ideal) x0 x1 x3 (ix5 b g r q k)
      = Ideal.exp (score x0 x1 x3 b q g r k - top (score x0 x1 x3 b q g r)) := by
  rw [val_main_v19_apply, val_main_v18_apply, val_main_v17_apply, val_main_v16_apply, val_main_v15_apply, val_main_v14_apply,
    val_main_cst_0_apply]
  have h : idx_main_v16 (idx_main_v17 (ix5 b g r q k)) = ix4 b g r q := by
    funext a; fin_cases a <;> rfl
  rw [h, top_at, score_at]
  have h2 : FloatOps.maximumf (F := Ideal) (φ := .f32) (FloatOps.ofBits .f32 0xFF800000#32) (top (score x0 x1 x3 b q g r))
      = top (score x0 x1 x3 b q g r) := by
    show max (Ideal.ofBits .f32 0xFF800000#32) (top (score x0 x1 x3 b q g r)) = _
    rw [neg_inf]; exact max_eq_right bot_le
  rw [h2]; rfl

theorem prob_at (x0 x1 x3) (b : Fin 2) (q : Fin 4096) (g r : Fin 4) (k : Fin 4608) :
    val_main_v23 (F := Ideal) x0 x1 x3 (ix5 b g r q k)
      = Ideal.div (Ideal.exp (score x0 x1 x3 b q g r k - top (score x0 x1 x3 b q g r)))
          (∑ j, Ideal.exp (score x0 x1 x3 b q g r j - top (score x0 x1 x3 b q g r))) := by
  rw [val_main_v23_apply, val_main_v22_apply, val_main_v21_apply, val_main_v20_apply, val_main_cst_1_apply]
  have h : idx_main_v21 (idx_main_v22 (ix5 b g r q k)) = ix4 b g r q := by
    funext a; fin_cases a <;> rfl
  have h' : ∀ j, idx_main_v20 (ix4 b g r q) j = ix5 b g r q j := fun j => by
    funext a; fin_cases a <;> rfl
  rw [h]
  simp only [h', weight_at, Ideal.hostDivf_def, Ideal.ofBits_def, Ideal.ofBits_zero_f32, zero_add]

/-- The attention output before its last reshape. -/
theorem out_at (x0 x1 x2 x3 x4) (b : Fin 2) (q : Fin 4096) (g r : Fin 4) (d : Fin 128) :
    val_main_v25 (F := Ideal) x0 x1 x2 x3 x4 (ix5 b q g r d)
      = ∑ k, Ideal.div (Ideal.exp (score x0 x1 x3 b q g r k - top (score x0 x1 x3 b q g r)))
          (∑ j, Ideal.exp (score x0 x1 x3 b q g r j - top (score x0 x1 x3 b q g r))) * rows x2 x4 b g k d := by
  pointwise [val_main_v25, val_main_v24]
  exact Finset.sum_congr rfl fun k _ => by rw [prob_at, vals_at, mul_comm]

/-- The reference's result at an element: the first 4096 rows are the array handed in, the others the attention. -/
theorem result_at (x0 x1 x2 x3 x4 x5) (t : Fin 12288) (e : Fin 2048) :
    val_main_v29 (F := Ideal) x0 x1 x2 x3 x4 x5 (ix2 t e)
      = if h : t.val < 4096 then x5 (ix2 t e)
        else val_main_v25 x0 x1 x2 x3 x4 (ix5 ⟨(t.val - 4096) / 4096, by omega⟩ ⟨(t.val - 4096) % 4096, by omega⟩
          ⟨e.val / 512, by omega⟩ ⟨e.val / 128 % 4, by omega⟩ ⟨e.val % 128, by omega⟩) := by
  split
  next h =>
    refine (concatenate_pair_apply_left (t := S12288x2048) (s₁ := S4096x2048) (s₂ := S8192x2048) 0 _ _ _ (ix2 t e) rfl
      (ix2 ⟨t.val, h⟩ e) fun b => by fin_cases b <;> rfl).trans ?_
    pointwise [val_main_v26]
  next h =>
    refine (concatenate_pair_apply_right (t := S12288x2048) (s₁ := S4096x2048) (s₂ := S8192x2048) 0 _ _ _ (ix2 t e) rfl rfl
      (ix2 ⟨t.val - 4096, by omega⟩ e) (fun b hb => by fin_cases b; · exact absurd rfl hb
                                                       · rfl) (by show t.val - 4096 + 4096 = t.val; omega)).trans ?_
    pointwise [val_main_v28, val_main_v27]

end Cert.AttnRefPf

end
-- ==== Proof.AttnKernel.lean ====
/- The attention kernel's result array: what each grid point stores, and where the blocks lie. -/
module

public import proofs.«01_k».proof.Proof.Gen.AttnIdeal.Value
public import Idealize.ShloMosaic.Lib.Pipeline.ValueKit
public import Idealize.ShloMosaic.Lib.Pointwise
public import Idealize.ShloMosaic.Lib.Claim
public import proofs.«01_k».proof.Proof.AttnRef

@[expose] public section

set_option maxRecDepth 16384

noncomputable section

namespace Cert.AttnKernelPf

open Idealize.ShloMosaic Idealize.ShloMosaic.TcCoe Idealize.SL.Sem
open Idealize.ShloMosaic.Pipeline (Dat)
open Cert.AttnIdeal Cert.AttnIdeal.Gen Cert.AttnMath

variable (m : (ℓ : Loc nD τ sig) → Buf (Elt Ideal) ℓ)

/-- Attention of one query over all keys as the kernel computes it: the weighted sum of the values over the total weight. -/
def quot (s v : Fin 4608 → EReal) : EReal :=
  Ideal.div (∑ k, Ideal.exp (s k - Finset.univ.fold max (Ideal.ofBits .f32 0xFF800000#32) s) * v k)
    (∑ k, Ideal.exp (s k - Finset.univ.fold max (Ideal.ofBits .f32 0xFF800000#32) s))

/-- One head's tile, from the query tile and the keys and values of its group. -/
def head (Q : Vec Ideal S256x128 .bf16) (K V : Vec Ideal S1x4608x128 .bf16) (p : Fin 256) (d : Fin 128) : EReal :=
  quot (fun k => ∑ x : Fin 128, (Q (ix2 p x) : EReal) * K (ix3 0 k x)) (fun k => V (ix3 0 k d))

theorem head0 (K V : Vec Ideal S1x4608x128 .bf16) (Q : Vec Ideal S256x128 .bf16) (p : Fin 256) (d : Fin 128) :
    k0_pay5 K V Q (ix2 p d) = head Q K V p d := by
  pointwise [k0_pay5, k0_pay3, k0_pay4]
  rfl

theorem head1 (K V : Vec Ideal S1x4608x128 .bf16) (Q : Vec Ideal S256x128 .bf16) (p : Fin 256) (d : Fin 128) :
    k0_pay6 K V Q (ix2 p d) = head Q K V p d := by
  pointwise [k0_pay6, k0_pay3, k0_pay4]
  rfl

theorem head2 (K V : Vec Ideal S1x4608x128 .bf16) (Q : Vec Ideal S256x128 .bf16) (p : Fin 256) (d : Fin 128) :
    k0_pay1 (k0_pay3 K) (k0_pay4 V) Q (ix2 p d) = head Q K V p d := by
  pointwise [k0_pay1, k0_pay3, k0_pay4]
  rfl

theorem head3 (K V : Vec Ideal S1x4608x128 .bf16) (Q : Vec Ideal S256x128 .bf16) (p : Fin 256) (d : Fin 128) :
    k0_pay2 (k0_pay3 K) (k0_pay4 V) Q (ix2 p d) = head Q K V p d := by
  pointwise [k0_pay2, k0_pay3, k0_pay4]
  rfl

theorem idx_val : ∀ t : Fin cfg0.N, win0_0.index t = ![16 + t.val / 64 * 16 + t.val % 16, t.val / 16 % 4]
    ∧ win0_1.index t = ![t.val / 64, 0, t.val / 16 % 4] ∧ win0_2.index t = ![t.val / 64, 0, t.val / 16 % 4]
    ∧ win0_3.index t = ![16 + t.val / 64 * 16 + t.val % 16, t.val / 16 % 4] :=
  (by decide +kernel : ∀ t : Fin grid0.N, _)

/-- The keys the call reads: the cached ones, then the sample's own rows. -/
theorem keys_entry (c : Dev nD) (b : Fin 2) (k : Fin 4608) (g : Fin 4) (d : Fin 128) :
    (V m c main_v4 (ix3 b k ⟨g.val * 128 + d.val, by omega⟩) : EReal)
      = Cert.AttnRefPf.rows (m ((c : Thread nD τ).loc main_arg1)) (m ((c : Thread nD τ).loc main_arg3)) b g k d := by
  entry_read
  unfold Cert.AttnRefPf.rows
  split
  next h =>
    refine (concatenate_pair_apply_left (t := S2x4608x512) (s₁ := S2x512x512) (s₂ := S2x4096x512) 1 _ _ _ _ rfl
      (ix3 b ⟨k.val, h⟩ ⟨g.val * 128 + d.val, by omega⟩) fun b => by fin_cases b <;> rfl).trans ?_
    pointwise []
    blk_ext
  next h =>
    refine (concatenate_pair_apply_right (t := S2x4608x512) (s₁ := S2x512x512) (s₂ := S2x4096x512) 1 _ _ _ _ rfl rfl
      (ix3 b ⟨k.val - 512, by omega⟩ ⟨g.val * 128 + d.val, by omega⟩)
      (fun b hb => by
        fin_cases b
        · rfl
        · exact absurd rfl hb
        · rfl) (by show k.val - 512 + 512 = k.val; omega)).trans ?_
    pointwise []
    blk_ext

/-- The values the call reads: the cached ones, then the sample's own rows. -/
theorem vals_entry (c : Dev nD) (b : Fin 2) (k : Fin 4608) (g : Fin 4) (d : Fin 128) :
    (V m c main_v9 (ix3 b k ⟨g.val * 128 + d.val, by omega⟩) : EReal)
      = Cert.AttnRefPf.rows (m ((c : Thread nD τ).loc main_arg2)) (m ((c : Thread nD τ).loc main_arg4)) b g k d := by
  entry_read
  unfold Cert.AttnRefPf.rows
  split
  next h =>
    refine (concatenate_pair_apply_left (t := S2x4608x512) (s₁ := S2x512x512) (s₂ := S2x4096x512) 1 _ _ _ _ rfl
      (ix3 b ⟨k.val, h⟩ ⟨g.val * 128 + d.val, by omega⟩) fun b => by fin_cases b <;> rfl).trans ?_
    pointwise []
    blk_ext
  next h =>
    refine (concatenate_pair_apply_right (t := S2x4608x512) (s₁ := S2x512x512) (s₂ := S2x4096x512) 1 _ _ _ _ rfl rfl
      (ix3 b ⟨k.val - 512, by omega⟩ ⟨g.val * 128 + d.val, by omega⟩)
      (fun b hb => by
        fin_cases b
        · rfl
        · exact absurd rfl hb
        · rfl) (by show k.val - 512 + 512 = k.val; omega)).trans ?_
    pointwise []
    blk_ext

theorem keys_block (c : Dev nD) (t : Fin cfg0.N) (ht : t.val < 128) (k : Fin 4608) (d : Fin 128) :
    (iblk m c 1 t (ix3 0 k d) : EReal) = Cert.AttnRefPf.rows (m ((c : Thread nD τ).loc main_arg1)) (m ((c : Thread nD τ).loc main_arg3))
      ⟨t.val / 64, by omega⟩ ⟨t.val / 16 % 4, by omega⟩ k d := by
  rw [← keys_entry m c]
  blk_ext [iblk, idx_val t]

theorem vals_block (c : Dev nD) (t : Fin cfg0.N) (ht : t.val < 128) (k : Fin 4608) (d : Fin 128) :
    (iblk m c 2 t (ix3 0 k d) : EReal) = Cert.AttnRefPf.rows (m ((c : Thread nD τ).loc main_arg2)) (m ((c : Thread nD τ).loc main_arg4))
      ⟨t.val / 64, by omega⟩ ⟨t.val / 16 % 4, by omega⟩ k d := by
  rw [← vals_entry m c]
  blk_ext [iblk, idx_val t]

/-- The attention of query row `q`, head `r` of group `g`, sample `b`, at lane `d`. -/
def att (c : Dev nD) (b : Fin 2) (q : Fin 4096) (g r : Fin 4) (d : Fin 128) : EReal :=
  quot (Cert.AttnRefPf.score (m ((c : Thread nD τ).loc main_arg0)) (m ((c : Thread nD τ).loc main_arg1))
      (m ((c : Thread nD τ).loc main_arg3)) b q g r)
    (fun k => Cert.AttnRefPf.rows (m ((c : Thread nD τ).loc main_arg2)) (m ((c : Thread nD τ).loc main_arg4)) b g k d)

/-- The attention depends on its coordinates' values only. -/
theorem att_congr (c : Dev nD) {b b' : Fin 2} {q q' : Fin 4096} {g g' r r' : Fin 4} {d d' : Fin 128}
    (hb : b.val = b'.val) (hq : q.val = q'.val) (hg : g.val = g'.val) (hr : r.val = r'.val) (hd : d.val = d'.val) :
    att m c b q g r d = att m c b' q' g' r' d' := by
  rw [Fin.ext hb, Fin.ext hq, Fin.ext hg, Fin.ext hr, Fin.ext hd]

/-- One head of one grid point: its tile at row `p`, lane `d` is the attention of the query row `t % 16 * 256 + p`. -/
theorem head_at (c : Dev nD) (t : Fin cfg0.N) (ht : t.val < 128) (r : Fin 4) (Q : Vec Ideal S256x128 .bf16) (p : Fin 256) (d : Fin 128)
    (hQ : ∀ x : Fin 128, Q (ix2 p x) = iblk m c 0 t (ix2 p ⟨r.val * 128 + x.val, by omega⟩)) :
    head Q (iblk m c 1 t) (iblk m c 2 t) p d
      = att m c ⟨t.val / 64, by omega⟩ ⟨t.val % 16 * 256 + p.val, by omega⟩ ⟨t.val / 16 % 4, by omega⟩ r d := by
  unfold head att Cert.AttnRefPf.score
  congr 1
  · funext k
    refine Finset.sum_congr rfl fun x _ => ?_
    rw [hQ]
    refine Ideal.mul_congr ?_ (keys_block m c t ht k x)
    blk_ext [iblk, V, idx_val t]
  · funext k
    exact vals_block m c t ht k d

/-- What grid point `t` leaves in its output block. -/
theorem point (c : Dev nD) (t : Fin cfg0.N) (ht : t.val < 128) (y : S256x512.Idx) :
    (outsAt0 m c t y : EReal)
      = att m c ⟨t.val / 64, by omega⟩ ⟨t.val % 16 * 256 + (y 0).val, by idx_bounds; omega⟩
          ⟨t.val / 16 % 4, by omega⟩ ⟨(y 1).val / 128, by idx_bounds; omega⟩ ⟨(y 1).val % 128, by omega⟩ := by
  unfold outsAt0
  frame_out
  canon_tiles x h
  · idx_vars x
    rw [head3, head_at m c t ht 3 _ _ _ fun x => by pointwise []]
    exact att_congr m c rfl (by simp only [h0]) rfl (by simp only [h1]; omega) (by simp only [h1]; omega)
  · idx_vars x
    rw [head2, head_at m c t ht 2 _ _ _ fun x => by pointwise []]
    exact att_congr m c rfl (by simp only [h0]) rfl (by simp only [h1]; omega) (by simp only [h1]; omega)
  · idx_vars x
    rw [head1, head_at m c t ht 1 _ _ _ fun x => by pointwise []]
    exact att_congr m c rfl (by simp only [h0]) rfl (by simp only [h1]; omega) (by simp only [h1]; omega)
  · idx_vars x
    rw [head0, head_at m c t ht 0 _ _ _ fun x => by pointwise []; blk_ext]
    exact att_congr m c rfl (by simp only [h0]) rfl (by simp only [h1]; omega) (by simp only [h1]; omega)

/-- The array the call is given to write into holds the prompt's part. -/
theorem prev_entry (c : Dev nD) : V m c main_v10 = m ((c : Thread nD τ).loc main_arg5) := by
  entry_read
  rfl

/-- The attention at an element of the result array's sample rows. -/
def attAt (c : Dev nD) (i : S12288x2048.Idx) : EReal :=
  att m c ⟨((i 0).val - 4096) / 4096, by idx_bounds; omega⟩ ⟨((i 0).val - 4096) % 4096, by omega⟩
    ⟨(i 1).val / 512, by idx_bounds; omega⟩ ⟨(i 1).val / 128 % 4, by omega⟩ ⟨(i 1).val % 128, by omega⟩

/-- The attention at an element named by its coordinates. -/
theorem attAt_of (c : Dev nD) (i : S12288x2048.Idx) (b : Fin 2) (q : Fin 4096) (g r : Fin 4) (d : Fin 128)
    (h0 : (i 0).val = 4096 + b.val * 4096 + q.val) (h1 : (i 1).val = g.val * 512 + r.val * 128 + d.val) :
    att m c b q g r d = attAt m c i :=
  att_congr m c (by simp only [h0]; omega) (by simp only [h0]; omega) (by simp only [h1]; omega) (by simp only [h1]; omega)
    (by simp only [h1]; omega)

/-- The result array after the run: the sample rows are the attention, the others as they came. -/
theorem final (c : Dev nD) : (dats m 0 c).arrAt 3 (cfgs 0).N
    = fun i => if 16 * 256 ≤ (i 0 : ℕ) then attAt m c i else V m c main_v10 i := by
  refine (dats m 0 c).arrAt_eq_of_coversWhere 3 _ (fun β => 16 ≤ β 0) (by decide +kernel) (fun t hf y => ?_)
    (fun j => by blk_simp [Pipeline.Window.cell_apply]; omega)
  have ht : t.val < 128 := lt_of_lt_of_eq t.isLt N_0
  blk_simp
  rw [after0_3]
  refine (point m c t ht y).trans (attAt_of m c _ _ _ _ _ _ ?_ ?_) <;> (blk_simp [idx_val t]; idx_bounds; dsimp only at *; omega)

end Cert.AttnKernelPf

end
-- ==== Proof.AttnPre.lean ====
/- What the precondition says: every query, every key and every cached key is a real number. -/
module

public import proofs.«01_k».proof.Defs
public import Idealize.ShloMosaic.Lib.Pipeline.ValueKit
public import Idealize.ShloMosaic.Lib.Pointwise
public import proofs.«01_k».proof.Proof.AttnMath

@[expose] public section

set_option maxRecDepth 16384

noncomputable section

namespace Cert.AttnPre

open Idealize.ShloMosaic Idealize.ShloMosaic.TcCoe Idealize.SL.Sem
open Cert.AttnMath Cert.Pre_finite_scores

/-- The comparison with plus infinity is one only at a real number (32 bits). -/
theorem real_of_lt32 {x : EReal}
    (h : BitVec.ofBool (decide (FloatOps.absf (F := Ideal) (φ := .f32) x < Ideal.ofBits .f32 0x7F800000#32)) = 1#1) : IsReal x := by
  have h2 : Ideal.ofBits .f32 0x7F800000#32 = (⊤ : EReal) := by simp [Ideal.ofBits, Ideal.ieee]
  rw [h2] at h
  refine IsReal.of_abs_lt (Classical.not_not.1 fun hn => ?_)
  have h3 : decide (FloatOps.absf (F := Ideal) (φ := .f32) x < (⊤ : EReal)) = false := decide_eq_false hn
  rw [h3] at h
  exact absurd h (by decide)

/-- The comparison with plus infinity is one only at a real number (16 bits). -/
theorem real_of_lt16 {x : EReal}
    (h : BitVec.ofBool (decide (FloatOps.absf (F := Ideal) (φ := .bf16) x < Ideal.ofBits .bf16 0x7F80#16)) = 1#1) : IsReal x := by
  have h2 : Ideal.ofBits .bf16 0x7F80#16 = (⊤ : EReal) := by simp [Ideal.ofBits, Ideal.ieee]
  rw [h2] at h
  refine IsReal.of_abs_lt (Classical.not_not.1 fun hn => ?_)
  have h3 : decide (FloatOps.absf (F := Ideal) (φ := .bf16) x < (⊤ : EReal)) = false := decide_eq_false hn
  rw [h3] at h
  exact absurd h (by decide)

variable [hF : Cert.Pre_finite_scores.Facts]

/-- Every query element is a real number. -/
theorem pre_q {x0 x1 x2 x3 x4 x5} (h : fn (F := Ideal) x0 x1 x2 x3 x4 x5 = fun _ => 1#1) (r : Fin 12288) (e : Fin 2048) :
    IsReal (x0 (ix2 r e)) := by
  have h1 := congrFun h (ix1 ⟨r.val * 2048 + e.val, by omega⟩)
  pointwise [fn] at h1
  rw [dif_pos (by omega)] at h1
  exact real_of_lt16 h1

/-- Every key element of this call is a real number. -/
theorem pre_k {x0 x1 x2 x3 x4 x5} (h : fn (F := Ideal) x0 x1 x2 x3 x4 x5 = fun _ => 1#1) (r : Fin 12288) (e : Fin 512) :
    IsReal (x1 (ix2 r e)) := by
  have h1 := congrFun h (ix1 ⟨25165824 + (r.val * 512 + e.val), by omega⟩)
  pointwise [fn] at h1
  rw [dif_pos (by omega)] at h1
  exact real_of_lt16 h1

/-- Every cached key element is a real number. -/
theorem pre_ck {x0 x1 x2 x3 x4 x5} (h : fn (F := Ideal) x0 x1 x2 x3 x4 x5 = fun _ => 1#1)
    (b : Fin 2) (s : Fin 512) (g : Fin 4) (d : Fin 128) : IsReal (x3 (ix4 b s g d)) := by
  have h1 := congrFun h (ix1 ⟨25165824 + (6291456 + (((b.val * 512 + s.val) * 4 + g.val) * 128 + d.val)), by omega⟩)
  pointwise [fn] at h1
  exact real_of_lt32 h1

end Cert.AttnPre

end
-- ==== Proof.AttnClaim.lean ====
/- The attention's value claim: the idealized kernel's result array is the reference's, whenever every query and every key is a
   real number. -/
module

public import proofs.«01_k».proof.Defs
public import proofs.«01_k».proof.Proof.AttnKernel
public import proofs.«01_k».proof.Proof.AttnPre
public import proofs.«01_k».proof.Proof.Gen.AttnRefIdeal.Run

@[expose] public section

set_option maxRecDepth 16384

noncomputable section

namespace Cert.AttnClaim

open Idealize.ShloMosaic Idealize.ShloMosaic.TcCoe Idealize.SL.Sem
open Cert.AttnIdeal Cert.AttnIdeal.Gen Cert.AttnMath Cert.AttnKernelPf

variable (m : (ℓ : Loc nD τ sig) → Buf (Elt Ideal) ℓ)

/-- With real queries and keys every score is a real number. -/
theorem score_real {x0 x1 x2 x3 x4 x5} [Cert.Pre_finite_scores.Facts]
    (h : Cert.Pre_finite_scores.fn (F := Ideal) x0 x1 x2 x3 x4 x5 = fun _ => 1#1)
    (b : Fin 2) (q : Fin 4096) (g r : Fin 4) (k : Fin 4608) : IsReal (Cert.AttnRefPf.score x0 x1 x3 b q g r k) := by
  refine IsReal.sum _ _ fun d => IsReal.mul (Cert.AttnPre.pre_q h _ _) ?_
  unfold Cert.AttnRefPf.rows
  split
  · exact Cert.AttnPre.pre_ck h _ _ _ _
  · exact Cert.AttnPre.pre_k h _ _

/-- The kernel's result array is the reference's term over the same arguments. -/
theorem result_eq [Cert.Pre_finite_scores.Facts] (c : Dev nD)
    (h : Cert.Pre_finite_scores.fn (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) = fun _ => 1#1) :
    Cert.AttnRefIdeal.Read.val_main_v29 (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) = (dats m 0 c).arrAt 3 (cfgs 0).N := by
  rw [final m c]
  funext i
  idx_vars i
  rw [Cert.AttnRefPf.result_at]
  split
  next h4 =>
    refine Eq.trans ?_ (if_neg (show ¬ 16 * 256 ≤ i0.val by omega)).symm
    rw [prev_entry m c]
  next h4 =>
    refine Eq.trans ?_ (if_pos (show 16 * 256 ≤ i0.val by omega)).symm
    rw [Cert.AttnRefPf.out_at]
    exact (softmax_out (by omega) _ _ fun k => score_real h _ _ _ _ k).symm

/-- On the same arguments, with real queries and keys, the two programs leave the same result array. -/
theorem algebraic [Cert.Pre_finite_scores.Facts] : Cert.algebraic_AttnIdeal_AttnRefIdeal_pre_finite_scores := by
  pair_intro
  · run_from Cert.AttnIdeal.Gen.run_main m g
  · run_from Cert.AttnRefIdeal.Value.run m' g'
    obtain ⟨h0, h1, h2, h3, h4, h5⟩ := hagree c
    rw [Cert.AttnRefIdeal.Read.val_main_v29_eq, h0, h1, h2, h3, h4, h5]
    exact result_eq m c (hpre c)

end Cert.AttnClaim

end
-- ==== Proof.ProjPf.lean ====
module

public import proofs.«01_k».proof.Defs
public import proofs.«01_k».proof.Proof.Gen.ProjIdeal.Frame
public import proofs.«01_k».proof.Proof.Gen.ProjIdeal.Value
public import proofs.«01_k».proof.Proof.Gen.ProjRefIdeal.Run
public import proofs.«01_k».proof.Proof.Gen.ProjRefIdeal.Read
public import Idealize.ShloMosaic.Lib.Pipeline.ValueKit
public import Idealize.ShloMosaic.Lib.Pointwise
public import Idealize.ShloMosaic.Lib.Claim

/-! The input projection: the columns of every branch. -/

@[expose] public section

set_option maxRecDepth 16384

noncomputable section

namespace Cert.ProjPf

open Idealize.ShloMosaic Idealize.ShloMosaic.TcCoe Idealize.SL.Sem
open Cert.ProjIdeal Cert.ProjIdeal.Gen

variable (m : (ℓ : Loc nD τ sig) → Buf (Elt Ideal) ℓ)

/-- Which blocks grid point `t` reads and writes. -/
theorem idx_val : ∀ t : Fin cfg0.N, win0_0.index t = ![t.val / 30, 0]
    ∧ win0_1.index t = ![0, t.val % 30, 0]
    ∧ win0_2.index t = ![t.val / 30, t.val % 30] :=
  (by decide +kernel : ∀ t : Fin grid0.N, _)

/-- The weights staged at point `t`: rows of the transposed weights, columns of the weights as given. -/
theorem weights_at (c : Dev nD) (t : Fin cfg0.N) (ht : t.val < 360) (r : Fin 512) (k : Fin 4096) :
    (X0_1 m c t (ix3 0 r k) : EReal)
      = m ((c : Thread nD τ).loc main_arg1) (ix3 0 k ⟨t.val % 30 * 512 + r.val, by omega⟩) := by
  unfold X0_1 Pipeline.Window.fill
  rw [dif_pos (moved0_1 t _)]
  blk_point [iblk, V, idx_val t]

/-- The result array after the run is the reference's term. -/
theorem final (c : Dev nD) : (dats m 0 c).arrAt 2 (cfgs 0).N
    = Cert.ProjRefIdeal.Read.val_main_v4 (F := Ideal) (m ((c : Thread nD τ).loc main_arg0)) (m ((c : Thread nD τ).loc main_arg1)) := by
  refine (dats m 0 c).arrAt_eq_of_covers 2 _ (by decide +kernel) fun t hf y => ?_
  have ht : t.val < 360 := lt_of_lt_of_eq t.isLt N_0
  blk_simp
  rw [after0_2]
  unfold outsAt0
  frame_out
  idx_vars y
  pointwise [k0_pay1, Cert.ProjRefIdeal.Read.val_main_v0, Cert.ProjRefIdeal.Read.val_main_v1, Cert.ProjRefIdeal.Read.val_main_v2, Cert.ProjRefIdeal.Read.val_main_v3, Cert.ProjRefIdeal.Read.val_main_v4]
  show (_ : EReal) = _
  refine Finset.sum_congr rfl fun x _ => Ideal.mul_congr ?_ ?_
  · blk_point [iblk, V, idx_val t]
  · refine (weights_at m c t ht y1 x).trans ?_
    blk_point [idx_val t]

/-- On the same arguments the two programs leave the same result array. -/
theorem algebraic : Cert.algebraic_ProjIdeal_ProjRefIdeal := by
  pair_intro
  · run_from Cert.ProjIdeal.Gen.run_main m g
  · run_from Cert.ProjRefIdeal.Value.run m' g'
    rw [Cert.ProjRefIdeal.Read.val_main_v4_eq]
    exact (final m c).symm

/-- The reference leaves its arguments as they were, and no semaphore raised: it declares none. -/
theorem ref_frame : Cert.quiescent_ProjRefIdeal := fun m ρ _ =>
  (θ_run Cert.ProjRefIdeal.defs _ _).mono
    (fun r h => ⟨fun c => (h c).2, sem_eq_zero_of_no_sems (by decide) r.2⟩)
    (Cert.ProjRefIdeal.Value.run (F := Ideal) m ρ)

end Cert.ProjPf

end
-- ==== Proof.GatePf.lean ====
module

public import proofs.«01_k».proof.Defs
public import proofs.«01_k».proof.Proof.Gen.GateIdeal.Frame
public import proofs.«01_k».proof.Proof.Gen.GateIdeal.Value
public import proofs.«01_k».proof.Proof.Gen.GateRefIdeal.Run
public import proofs.«01_k».proof.Proof.Gen.GateRefIdeal.Read
public import Idealize.ShloMosaic.Lib.Pipeline.ValueKit
public import Idealize.ShloMosaic.Lib.Pointwise
public import Idealize.ShloMosaic.Lib.Claim

/-! The gates of the branches: the sigmoid of a product of the rows with the last columns of the input weights. -/

@[expose] public section

set_option maxRecDepth 16384

noncomputable section

namespace Cert.GatePf

open Idealize.ShloMosaic Idealize.ShloMosaic.TcCoe Idealize.SL.Sem
open Cert.GateIdeal Cert.GateIdeal.Gen

variable (m : (ℓ : Loc nD τ sig) → Buf (Elt Ideal) ℓ)

/-- Which blocks grid point `t` reads and writes. -/
theorem idx_val : ∀ t : Fin cfg0.N, win0_0.index t = ![t.val / 24, 0]
    ∧ win0_1.index t = ![t.val % 24, 0]
    ∧ win0_2.index t = ![t.val / 24, t.val % 24] :=
  (by decide +kernel : ∀ t : Fin grid0.N, _)

/-- The result array after the run is the reference's term. -/
theorem final (c : Dev nD) : (dats m 0 c).arrAt 2 (cfgs 0).N
    = Cert.GateRefIdeal.Read.val_main_v11 (F := Ideal) (m ((c : Thread nD τ).loc main_arg0)) (m ((c : Thread nD τ).loc main_arg1)) := by
  refine (dats m 0 c).arrAt_eq_of_covers 2 _ (by decide +kernel) fun t hf y => ?_
  have ht : t.val < 288 := lt_of_lt_of_eq t.isLt N_0
  blk_simp
  rw [after0_2]
  frame_out
  idx_vars y
  pointwise [k0_pay1, Cert.GateRefIdeal.Read.val_main_cst, Cert.GateRefIdeal.Read.val_main_cst_0, Cert.GateRefIdeal.Read.val_main_v0, Cert.GateRefIdeal.Read.val_main_v1, Cert.GateRefIdeal.Read.val_main_v2, Cert.GateRefIdeal.Read.val_main_v3, Cert.GateRefIdeal.Read.val_main_v4, Cert.GateRefIdeal.Read.val_main_v5, Cert.GateRefIdeal.Read.val_main_v6, Cert.GateRefIdeal.Read.val_main_v7, Cert.GateRefIdeal.Read.val_main_v8, Cert.GateRefIdeal.Read.val_main_v9, Cert.GateRefIdeal.Read.val_main_v10, Cert.GateRefIdeal.Read.val_main_v11]
  show Ideal.logistic _ = Ideal.logistic _
  refine congrArg Ideal.logistic ?_
  refine Finset.sum_congr rfl fun x _ => Ideal.mul_congr ?_ ?_ <;> blk_point [iblk, V, idx_val t]

/-- On the same arguments the two programs leave the same result array. -/
theorem algebraic : Cert.algebraic_GateIdeal_GateRefIdeal := by
  pair_intro
  · run_from Cert.GateIdeal.Gen.run_main m g
  · run_from Cert.GateRefIdeal.Value.run m' g'
    rw [Cert.GateRefIdeal.Read.val_main_v11_eq]
    exact (final m c).symm

/-- The reference leaves its arguments as they were, and no semaphore raised: it declares none. -/
theorem ref_frame : Cert.quiescent_GateRefIdeal := fun m ρ _ =>
  (θ_run Cert.GateRefIdeal.defs _ _).mono
    (fun r h => ⟨fun c => (h c).2, sem_eq_zero_of_no_sems (by decide) r.2⟩)
    (Cert.GateRefIdeal.Value.run (F := Ideal) m ρ)

end Cert.GatePf

end
-- ==== Proof.DtPf.lean ====
module

public import proofs.«01_k».proof.Defs
public import proofs.«01_k».proof.Proof.Gen.DtIdeal.Frame
public import proofs.«01_k».proof.Proof.Gen.DtIdeal.Value
public import proofs.«01_k».proof.Proof.Gen.DtRefIdeal.Run
public import proofs.«01_k».proof.Proof.Gen.DtRefIdeal.Read
public import Idealize.ShloMosaic.Lib.Pipeline.ValueKit
public import Idealize.ShloMosaic.Lib.Pointwise
public import Idealize.ShloMosaic.Lib.Claim

/-! The input projection: the time steps' columns. -/

@[expose] public section

set_option maxRecDepth 16384

noncomputable section

namespace Cert.DtPf

open Idealize.ShloMosaic Idealize.ShloMosaic.TcCoe Idealize.SL.Sem
open Cert.DtIdeal Cert.DtIdeal.Gen

variable (m : (ℓ : Loc nD τ sig) → Buf (Elt Ideal) ℓ)

/-- Which blocks grid point `t` reads and writes. -/
theorem idx_val : ∀ t : Fin cfg0.N, win0_0.index t = ![t.val, 0]
    ∧ win0_1.index t = ![0, 120, 0]
    ∧ win0_2.index t = ![t.val, 0] :=
  (by decide +kernel : ∀ t : Fin grid0.N, _)

/-- The weights staged at point `t`: rows of the transposed weights, columns of the weights as given. -/
theorem weights_at (c : Dev nD) (t : Fin cfg0.N) (ht : t.val < 6) (r : Fin 128) (k : Fin 4096) :
    (X0_1 m c t (ix3 0 r k) : EReal)
      = m ((c : Thread nD τ).loc main_arg1) (ix3 0 k ⟨15360 + r.val, by omega⟩) := by
  unfold X0_1 Pipeline.Window.fill
  rw [dif_pos (moved0_1 t _)]
  blk_point [iblk, V, idx_val t]

/-- The result array after the run is the reference's term. -/
theorem final (c : Dev nD) : (dats m 0 c).arrAt 2 (cfgs 0).N
    = Cert.DtRefIdeal.Read.val_main_v4 (F := Ideal) (m ((c : Thread nD τ).loc main_arg0)) (m ((c : Thread nD τ).loc main_arg1)) := by
  refine (dats m 0 c).arrAt_eq_of_covers 2 _ (by decide +kernel) fun t hf y => ?_
  have ht : t.val < 6 := lt_of_lt_of_eq t.isLt N_0
  blk_simp
  rw [after0_2]
  unfold outsAt0
  frame_out
  idx_vars y
  pointwise [k0_pay1, Cert.DtRefIdeal.Read.val_main_v0, Cert.DtRefIdeal.Read.val_main_v1, Cert.DtRefIdeal.Read.val_main_v2, Cert.DtRefIdeal.Read.val_main_v3, Cert.DtRefIdeal.Read.val_main_v4]
  show (_ : EReal) = _
  refine Finset.sum_congr rfl fun x _ => Ideal.mul_congr ?_ ?_
  · blk_point [iblk, V, idx_val t]
  · refine (weights_at m c t ht y1 x).trans ?_
    blk_point [idx_val t]

/-- On the same arguments the two programs leave the same result array. -/
theorem algebraic : Cert.algebraic_DtIdeal_DtRefIdeal := by
  pair_intro
  · run_from Cert.DtIdeal.Gen.run_main m g
  · run_from Cert.DtRefIdeal.Value.run m' g'
    rw [Cert.DtRefIdeal.Read.val_main_v4_eq]
    exact (final m c).symm

/-- The reference leaves its arguments as they were, and no semaphore raised: it declares none. -/
theorem ref_frame : Cert.quiescent_DtRefIdeal := fun m ρ _ =>
  (θ_run Cert.DtRefIdeal.defs _ _).mono
    (fun r h => ⟨fun c => (h c).2, sem_eq_zero_of_no_sems (by decide) r.2⟩)
    (Cert.DtRefIdeal.Value.run (F := Ideal) m ρ)

end Cert.DtPf

end
-- ==== Proof.MergePf.lean ====
module

public import proofs.«01_k».proof.Defs
public import proofs.«01_k».proof.Proof.Gen.MergeIdeal.Frame
public import proofs.«01_k».proof.Proof.Gen.MergeIdeal.Value
public import proofs.«01_k».proof.Proof.Gen.MergeRefIdeal.Run
public import proofs.«01_k».proof.Proof.Gen.MergeRefIdeal.Read
public import Idealize.ShloMosaic.Lib.Pipeline.ValueKit
public import Idealize.ShloMosaic.Lib.Pointwise
public import Idealize.ShloMosaic.Lib.Claim

/-! The merge of the three branches, each under its gate. -/

@[expose] public section

set_option maxRecDepth 16384

noncomputable section

namespace Cert.MergePf

open Idealize.ShloMosaic Idealize.ShloMosaic.TcCoe Idealize.SL.Sem
open Cert.MergeIdeal Cert.MergeIdeal.Gen

variable (m : (ℓ : Loc nD τ sig) → Buf (Elt Ideal) ℓ)

/-- Which blocks grid point `t` reads and writes. -/
theorem idx_val : ∀ t : Fin cfg0.N, win0_0.index t = ![t.val % 24, 0]
    ∧ win0_1.index t = ![t.val % 24, 0]
    ∧ win0_2.index t = ![t.val % 24, 0]
    ∧ win0_3.index t = ![0, t.val / 24]
    ∧ win0_4.index t = ![0, t.val / 24]
    ∧ win0_5.index t = ![0, t.val / 24]
    ∧ win0_6.index t = ![t.val % 24, t.val / 24]
    ∧ win0_7.index t = ![t.val % 24, 8 + t.val / 24]
    ∧ win0_8.index t = ![t.val % 24, 16 + t.val / 24]
    ∧ win0_9.index t = ![t.val % 24, t.val / 24] :=
  (by decide +kernel : ∀ t : Fin grid0.N, _)

/-- The result array after the run is the reference's term. -/
theorem final (c : Dev nD) : (dats m 0 c).arrAt 9 (cfgs 0).N
    = Cert.MergeRefIdeal.Read.val_main_v19 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 9 _ (by decide +kernel) fun t hf y => ?_
  have ht : t.val < 192 := lt_of_lt_of_eq t.isLt N_0
  blk_simp
  rw [after0_9]
  frame_out
  idx_vars y
  pointwise [k0_pay1, Cert.MergeRefIdeal.Read.val_main_v0, Cert.MergeRefIdeal.Read.val_main_v1, Cert.MergeRefIdeal.Read.val_main_v2, Cert.MergeRefIdeal.Read.val_main_v3, Cert.MergeRefIdeal.Read.val_main_v4, Cert.MergeRefIdeal.Read.val_main_v5, Cert.MergeRefIdeal.Read.val_main_v6, Cert.MergeRefIdeal.Read.val_main_v7, Cert.MergeRefIdeal.Read.val_main_v8, Cert.MergeRefIdeal.Read.val_main_v9, Cert.MergeRefIdeal.Read.val_main_v10, Cert.MergeRefIdeal.Read.val_main_v11, Cert.MergeRefIdeal.Read.val_main_v12, Cert.MergeRefIdeal.Read.val_main_v13, Cert.MergeRefIdeal.Read.val_main_v14, Cert.MergeRefIdeal.Read.val_main_v15, Cert.MergeRefIdeal.Read.val_main_v16, Cert.MergeRefIdeal.Read.val_main_v17, Cert.MergeRefIdeal.Read.val_main_v18, Cert.MergeRefIdeal.Read.val_main_v19]
  show (_ : EReal) = _
  refine congrArg₂ _ (congrArg₂ _ (Ideal.mul_congr ?_ ?_) (Ideal.mul_congr ?_ ?_)) (Ideal.mul_congr ?_ ?_)
  all_goals first
    | (refine Finset.sum_congr rfl fun x _ => Ideal.mul_congr ?_ ?_ <;> blk_point [iblk, V, idx_val t]; done)
    | (blk_point [iblk, V, idx_val t]; done)
    | skip

/-- On the same arguments the two programs leave the same result array. -/
theorem algebraic : Cert.algebraic_MergeIdeal_MergeRefIdeal := by
  pair_intro
  · run_from Cert.MergeIdeal.Gen.run_main m g
  · run_from Cert.MergeRefIdeal.Value.run m' g'
    rw [Cert.MergeRefIdeal.Read.val_main_v19_eq]
    exact (final m c).symm

/-- The reference leaves its arguments as they were, and no semaphore raised: it declares none. -/
theorem ref_frame : Cert.quiescent_MergeRefIdeal := fun m ρ _ =>
  (θ_run Cert.MergeRefIdeal.defs _ _).mono
    (fun r h => ⟨fun c => (h c).2, sem_eq_zero_of_no_sems (by decide) r.2⟩)
    (Cert.MergeRefIdeal.Value.run (F := Ideal) m ρ)

end Cert.MergePf

end
-- ==== Proof.OutProjPf.lean ====
module

public import proofs.«01_k».proof.Defs
public import proofs.«01_k».proof.Proof.Gen.OutProjIdeal.Frame
public import proofs.«01_k».proof.Proof.Gen.OutProjIdeal.Value
public import proofs.«01_k».proof.Proof.Gen.OutProjRefIdeal.Run
public import proofs.«01_k».proof.Proof.Gen.OutProjRefIdeal.Read
public import Idealize.ShloMosaic.Lib.Pipeline.ValueKit
public import Idealize.ShloMosaic.Lib.Pointwise
public import Idealize.ShloMosaic.Lib.Claim

/-! The output projection. -/

@[expose] public section

set_option maxRecDepth 16384

noncomputable section

namespace Cert.OutProjPf

open Idealize.ShloMosaic Idealize.ShloMosaic.TcCoe Idealize.SL.Sem
open Cert.OutProjIdeal Cert.OutProjIdeal.Gen

variable (m : (ℓ : Loc nD τ sig) → Buf (Elt Ideal) ℓ)

/-- Which blocks grid point `t` reads and writes. -/
theorem idx_val : ∀ t : Fin cfg0.N, win0_0.index t = ![0, t.val / 8, 0]
    ∧ win0_1.index t = ![0, 0, t.val % 8]
    ∧ win0_2.index t = ![0, t.val / 8, t.val % 8] :=
  (by decide +kernel : ∀ t : Fin grid0.N, _)

/-- The result array after the run is the reference's term. -/
theorem final (c : Dev nD) : (dats m 0 c).arrAt 2 (cfgs 0).N
    = Cert.OutProjRefIdeal.Read.val_main_v2 (F := Ideal) (m ((c : Thread nD τ).loc main_arg0)) (m ((c : Thread nD τ).loc main_arg1)) := by
  refine (dats m 0 c).arrAt_eq_of_covers 2 _ (by decide +kernel) fun t hf y => ?_
  have ht : t.val < 96 := lt_of_lt_of_eq t.isLt N_0
  blk_simp
  rw [after0_2]
  frame_out
  idx_vars y
  pointwise [k0_pay1, Cert.OutProjRefIdeal.Read.val_main_v0, Cert.OutProjRefIdeal.Read.val_main_v1, Cert.OutProjRefIdeal.Read.val_main_v2]
  show (_ : EReal) = _
  refine Finset.sum_congr rfl fun x _ => Ideal.mul_congr ?_ ?_ <;> blk_point [iblk, V, idx_val t]

/-- On the same arguments the two programs leave the same result array. -/
theorem algebraic : Cert.algebraic_OutProjIdeal_OutProjRefIdeal := by
  pair_intro
  · run_from Cert.OutProjIdeal.Gen.run_main m g
  · run_from Cert.OutProjRefIdeal.Value.run m' g'
    rw [Cert.OutProjRefIdeal.Read.val_main_v2_eq]
    exact (final m c).symm

/-- The reference leaves its arguments as they were, and no semaphore raised: it declares none. -/
theorem ref_frame : Cert.quiescent_OutProjRefIdeal := fun m ρ _ =>
  (θ_run Cert.OutProjRefIdeal.defs _ _).mono
    (fun r h => ⟨fun c => (h c).2, sem_eq_zero_of_no_sems (by decide) r.2⟩)
    (Cert.OutProjRefIdeal.Value.run (F := Ideal) m ρ)

end Cert.OutProjPf

end
-- ==== Proof.SwigluPf.lean ====
module

public import proofs.«01_k».proof.Defs
public import proofs.«01_k».proof.Proof.Gen.SwigluIdeal.Frame
public import proofs.«01_k».proof.Proof.Gen.SwigluIdeal.Value
public import proofs.«01_k».proof.Proof.Gen.SwigluRefIdeal.Run
public import proofs.«01_k».proof.Proof.Gen.SwigluRefIdeal.Read
public import Idealize.ShloMosaic.Lib.Pipeline.ValueKit
public import Idealize.ShloMosaic.Lib.Pointwise
public import Idealize.ShloMosaic.Lib.Claim

/-! The experts' gated hidden rows. -/

@[expose] public section

set_option maxRecDepth 16384

noncomputable section

namespace Cert.SwigluPf

open Idealize.ShloMosaic Idealize.ShloMosaic.TcCoe Idealize.SL.Sem
open Cert.SwigluIdeal Cert.SwigluIdeal.Gen

variable (m : (ℓ : Loc nD τ sig) → Buf (Elt Ideal) ℓ)

/-- Which blocks grid point `t` reads and writes. -/
theorem idx_val : ∀ t : Fin cfg0.N, win0_0.index t = ![t.val / 8, 0, 0]
    ∧ win0_1.index t = ![0, t.val / 8, 0, t.val % 8]
    ∧ win0_2.index t = ![0, t.val / 8, 0, t.val % 8]
    ∧ win0_3.index t = ![t.val / 8, 0, t.val % 8] :=
  (by decide +kernel : ∀ t : Fin grid0.N, _)

/-- The result array after the run is the reference's term. -/
theorem final (c : Dev nD) : (dats m 0 c).arrAt 3 (cfgs 0).N
    = Cert.SwigluRefIdeal.Read.val_main_v9 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  have ht : t.val < 128 := lt_of_lt_of_eq t.isLt N_0
  blk_simp
  rw [after0_3]
  frame_out
  idx_vars y
  pointwise [k0_pay1, Cert.SwigluRefIdeal.Read.val_main_call0_cst, Cert.SwigluRefIdeal.Read.val_main_call0_cst_0, Cert.SwigluRefIdeal.Read.val_main_call0_v0, Cert.SwigluRefIdeal.Read.val_main_call0_v1, Cert.SwigluRefIdeal.Read.val_main_call0_v2, Cert.SwigluRefIdeal.Read.val_main_call0_v3, Cert.SwigluRefIdeal.Read.val_main_call0_v4, Cert.SwigluRefIdeal.Read.val_main_call0_v5, Cert.SwigluRefIdeal.Read.val_main_v0, Cert.SwigluRefIdeal.Read.val_main_v1, Cert.SwigluRefIdeal.Read.val_main_v2, Cert.SwigluRefIdeal.Read.val_main_v3, Cert.SwigluRefIdeal.Read.val_main_v4, Cert.SwigluRefIdeal.Read.val_main_v5, Cert.SwigluRefIdeal.Read.val_main_v6, Cert.SwigluRefIdeal.Read.val_main_v7, Cert.SwigluRefIdeal.Read.val_main_v8, Cert.SwigluRefIdeal.Read.val_main_v9]
  show _ * Ideal.logistic _ * _ = _ * Ideal.logistic _ * _
  refine Ideal.mul_congr (Ideal.mul_congr ?_ (congrArg Ideal.logistic ?_)) ?_ <;>
    (refine Finset.sum_congr rfl fun x _ => Ideal.mul_congr ?_ ?_ <;> blk_point [iblk, V, idx_val t])

/-- On the same arguments the two programs leave the same result array. -/
theorem algebraic : Cert.algebraic_SwigluIdeal_SwigluRefIdeal := by
  pair_intro
  · run_from Cert.SwigluIdeal.Gen.run_main m g
  · run_from Cert.SwigluRefIdeal.Value.run m' g'
    rw [Cert.SwigluRefIdeal.Read.val_main_v9_eq]
    exact (final m c).symm

/-- The reference leaves its arguments as they were, and no semaphore raised: it declares none. -/
theorem ref_frame : Cert.quiescent_SwigluRefIdeal := fun m ρ _ =>
  (θ_run Cert.SwigluRefIdeal.defs _ _).mono
    (fun r h => ⟨fun c => (h c).2, sem_eq_zero_of_no_sems (by decide) r.2⟩)
    (Cert.SwigluRefIdeal.Value.run (F := Ideal) m ρ)

end Cert.SwigluPf

end
-- ==== Proof.DownPf.lean ====
module

public import proofs.«01_k».proof.Defs
public import proofs.«01_k».proof.Proof.Gen.DownIdeal.Frame
public import proofs.«01_k».proof.Proof.Gen.DownIdeal.Value
public import proofs.«01_k».proof.Proof.Gen.DownRefIdeal.Run
public import proofs.«01_k».proof.Proof.Gen.DownRefIdeal.Read
public import Idealize.ShloMosaic.Lib.Pipeline.ValueKit
public import Idealize.ShloMosaic.Lib.Pointwise
public import Idealize.ShloMosaic.Lib.Claim

/-! The experts' down projection, scaled by the routing weight of each row. -/

@[expose] public section

set_option maxRecDepth 16384

noncomputable section

namespace Cert.DownPf

open Idealize.ShloMosaic Idealize.ShloMosaic.TcCoe Idealize.SL.Sem
open Cert.DownIdeal Cert.DownIdeal.Gen

variable (m : (ℓ : Loc nD τ sig) → Buf (Elt Ideal) ℓ)

/-- Which blocks grid point `t` reads and writes. -/
theorem idx_val : ∀ t : Fin cfg0.N, win0_0.index t = ![t.val / 8, 0, 0]
    ∧ win0_1.index t = ![0, t.val / 8, 0, t.val % 8]
    ∧ win0_2.index t = ![t.val / 8, 0, 0]
    ∧ win0_3.index t = ![t.val / 8, 0, t.val % 8] :=
  (by decide +kernel : ∀ t : Fin grid0.N, _)

/-- The result array after the run is the reference's term. -/
theorem final (c : Dev nD) : (dats m 0 c).arrAt 3 (cfgs 0).N
    = Cert.DownRefIdeal.Read.val_main_v6 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  have ht : t.val < 128 := lt_of_lt_of_eq t.isLt N_0
  blk_simp
  rw [after0_3]
  frame_out
  idx_vars y
  pointwise [k0_pay1, Cert.DownRefIdeal.Read.val_main_v0, Cert.DownRefIdeal.Read.val_main_v1, Cert.DownRefIdeal.Read.val_main_v2, Cert.DownRefIdeal.Read.val_main_v3, Cert.DownRefIdeal.Read.val_main_v4, Cert.DownRefIdeal.Read.val_main_v5, Cert.DownRefIdeal.Read.val_main_v6]
  show (_ : EReal) = _
  refine Ideal.mul_congr ?_ ?_
  · refine Finset.sum_congr rfl fun x _ => Ideal.mul_congr ?_ ?_ <;> blk_point [iblk, V, idx_val t]
  · blk_point [iblk, V, idx_val t]

/-- On the same arguments the two programs leave the same result array. -/
theorem algebraic : Cert.algebraic_DownIdeal_DownRefIdeal := by
  pair_intro
  · run_from Cert.DownIdeal.Gen.run_main m g
  · run_from Cert.DownRefIdeal.Value.run m' g'
    rw [Cert.DownRefIdeal.Read.val_main_v6_eq]
    exact (final m c).symm

/-- The reference leaves its arguments as they were, and no semaphore raised: it declares none. -/
theorem ref_frame : Cert.quiescent_DownRefIdeal := fun m ρ _ =>
  (θ_run Cert.DownRefIdeal.defs _ _).mono
    (fun r h => ⟨fun c => (h c).2, sem_eq_zero_of_no_sems (by decide) r.2⟩)
    (Cert.DownRefIdeal.Value.run (F := Ideal) m ρ)

end Cert.DownPf

end
-- ==== Proof.LnMath.lean ====
module

public import Idealize.ShloMosaic.Lib.Pointwise
public import Idealize.ShloMosaic.Lib.Claim

/-! The layer norm of a row, as one formula that kernel and reference are both read against. -/

@[expose] public section

noncomputable section

namespace Cert.LnMath

open Idealize.ShloMosaic

/-- The mean of a row of 4096 numbers. -/
def mean (r : Fin 4096 → EReal) : EReal := Ideal.div (∑ e, r e) (Ideal.ofBits .f32 0x45800000#32)

/-- The mean of the squared distances from the mean. -/
def var (r : Fin 4096 → EReal) : EReal := mean fun e => (r e - mean r) * (r e - mean r)

/-- The layer norm of a row: its distance from the mean over the root of the variance, times a gain, plus an offset. -/
def norm (r g b : Fin 4096 → EReal) (e : Fin 4096) : EReal :=
  (r e - mean r) * Ideal.rsqrt (var r + Ideal.ofBits .f32 0x3727C5AC#32) * g e + b e

/-- Rows, gains, offsets and places that agree give the same layer norm. -/
theorem norm_congr {r r' g g' b b' : Fin 4096 → EReal} {e e' : Fin 4096} (hr : ∀ e, r e = r' e) (hg : ∀ e, g e = g' e)
    (hb : ∀ e, b e = b' e) (he : e = e') : norm r g b e = norm r' g' b' e' := by
  rw [funext hr, funext hg, funext hb, he]

end Cert.LnMath

end
-- ==== Proof.LnOutPf.lean ====
module

public import proofs.«01_k».proof.Defs
public import proofs.«01_k».proof.Proof.Gen.LnOutIdeal.Frame
public import proofs.«01_k».proof.Proof.Gen.LnOutIdeal.Value
public import proofs.«01_k».proof.Proof.Gen.LnOutRefIdeal.Run
public import proofs.«01_k».proof.Proof.Gen.LnOutRefIdeal.Read
public import Idealize.ShloMosaic.Lib.Pipeline.ValueKit
public import Idealize.ShloMosaic.Lib.Pointwise
public import Idealize.ShloMosaic.Lib.Claim
public import proofs.«01_k».proof.Proof.LnMath

/-! The last layer's end: residual and layer norm of every row. -/

@[expose] public section

set_option maxRecDepth 16384

noncomputable section

namespace Cert.LnOutPf

open Idealize.ShloMosaic Idealize.ShloMosaic.TcCoe Idealize.SL.Sem
open Cert.LnOutIdeal Cert.LnOutIdeal.Gen

variable (m : (ℓ : Loc nD τ sig) → Buf (Elt Ideal) ℓ)

/-- Which blocks grid point `t` reads and writes. -/
theorem idx_val : ∀ t : Fin cfg0.N, win0_0.index t = ![t.val, 0]
    ∧ win0_1.index t = ![t.val, 0]
    ∧ win0_2.index t = ![t.val / 32, 0, 5]
    ∧ win0_3.index t = ![0, 0]
    ∧ win0_4.index t = ![0, 0]
    ∧ win0_5.index t = ![t.val, 0] :=
  (by decide +kernel : ∀ t : Fin grid0.N, _)

section Reference

open Cert.LnOutRefIdeal.Read

/-- The residual of a row: the scaled input plus the stream's gate times the sub-layer's output; rows `4096 * g` to
    `4096 * g + 4095` are stream `g`. -/
def res (x f : Vec Ideal S12288x4096 .f32) (mod : Vec Ideal S8x1x24576 .f32) (t : Fin 12288) (e : Fin 4096) : EReal :=
  Ideal.ofBits .f32 0x3FB504F3#32 * x (ix2 t e) + mod (ix3 ⟨t.val / 4096, by omega⟩ 0 ⟨20480 + e.val, by omega⟩) * f (ix2 t e)

/-- The context rows' residual. -/
theorem res_context (x f mod) (t : Fin 4096) (e : Fin 4096) :
    val_main_v14 (F := Ideal) x f mod (ix2 t e) = res x f mod ⟨t.val, by omega⟩ e := by
  pointwise [Cert.LnOutRefIdeal.Read.val_main_cst, Cert.LnOutRefIdeal.Read.val_main_v5, Cert.LnOutRefIdeal.Read.val_main_v6, Cert.LnOutRefIdeal.Read.val_main_v7, Cert.LnOutRefIdeal.Read.val_main_v8, Cert.LnOutRefIdeal.Read.val_main_v9, Cert.LnOutRefIdeal.Read.val_main_v10, Cert.LnOutRefIdeal.Read.val_main_v11, Cert.LnOutRefIdeal.Read.val_main_v12, Cert.LnOutRefIdeal.Read.val_main_v13, Cert.LnOutRefIdeal.Read.val_main_v14]
  have h0 : t.val / 4096 = 0 := by omega
  unfold res
  simp only [h0]
  rfl

/-- The context rows' mean. -/
theorem mean_context (x f mod) (t : Fin 4096) :
    val_main_v18 (F := Ideal) x f mod (ix2 t 0) = LnMath.mean (res x f mod ⟨t.val, by omega⟩) := by
  rw [val_main_v18_apply, val_main_v16_apply, val_main_v15_apply, val_main_v17_apply, val_main_cst_1_apply]
  have h : ∀ j, idx_main_v15 (idx_main_v16 (ix2 t 0)) j = ix2 t j := fun j => by funext a; fin_cases a <;> rfl
  simp only [h, val_main_cst_0_apply, res_context, Ideal.hostDivf_def, Ideal.ofBits_def, Ideal.ofBits_zero_f32, zero_add]
  rfl

/-- The context rows' distances from the mean. -/
theorem dist_context (x f mod) (t e : Fin 4096) :
    val_main_v20 (F := Ideal) x f mod (ix2 t e)
      = res x f mod ⟨t.val, by omega⟩ e - LnMath.mean (res x f mod ⟨t.val, by omega⟩) := by
  rw [val_main_v20_apply, val_main_v19_apply]
  have h : idx_main_v19 (ix2 t e) = ix2 t 0 := by funext a; fin_cases a <;> rfl
  rw [h, mean_context, res_context]
  rfl

/-- The context rows' variance. -/
theorem var_context (x f mod) (t : Fin 4096) :
    val_main_v25 (F := Ideal) x f mod (ix2 t 0) = LnMath.var (res x f mod ⟨t.val, by omega⟩) := by
  rw [val_main_v25_apply, val_main_v23_apply, val_main_v22_apply, val_main_v24_apply, val_main_cst_3_apply]
  have h : ∀ j, idx_main_v22 (idx_main_v23 (ix2 t 0)) j = ix2 t j := fun j => by funext a; fin_cases a <;> rfl
  simp only [h, val_main_cst_2_apply, val_main_v21_apply, dist_context, Ideal.hostDivf_def, Ideal.ofBits_def, Ideal.ofBits_zero_f32, zero_add]
  rfl

/-- The context rows' layer norm. -/
theorem norm_context (x f mod g b) (t e : Fin 4096) :
    val_main_v38 (F := Ideal) x f mod g b (ix2 t e)
      = LnMath.norm (res x f mod ⟨t.val, by omega⟩) (fun e => g (ix1 e)) (fun e => b (ix1 e)) e := by
  rw [val_main_v38_apply, val_main_v35_apply, val_main_v32_apply, val_main_v31_apply, val_main_v30_apply, val_main_v29_apply,
    val_main_v28_apply, val_main_cst_4_apply, val_main_v34_apply, val_main_v33_apply, val_main_v37_apply, val_main_v36_apply]
  have h : idx_main_v31 (ix2 t e) = ix2 t 0 := by funext a; fin_cases a <;> rfl
  have hg : idx_main_v33 (idx_main_v34 (ix2 t e)) = ix1 e := by funext a; fin_cases a; rfl
  have hb : idx_main_v36 (idx_main_v37 (ix2 t e)) = ix1 e := by funext a; fin_cases a; rfl
  rw [h, hg, hb, var_context, show val_main_v27 (F := Ideal) x f mod (ix2 t e) = _ from dist_context x f mod t e]
  rfl

/-- The sample rows' residual. -/
theorem res_sample (x f mod) (s : Fin 2) (t : Fin 4096) (e : Fin 4096) :
    val_main_v48 (F := Ideal) x f mod (ix3 s t e) = res x f mod ⟨4096 + (s.val * 4096 + t.val), by omega⟩ e := by
  pointwise [Cert.LnOutRefIdeal.Read.val_main_cst_5, Cert.LnOutRefIdeal.Read.val_main_v5, Cert.LnOutRefIdeal.Read.val_main_v39, Cert.LnOutRefIdeal.Read.val_main_v40, Cert.LnOutRefIdeal.Read.val_main_v41, Cert.LnOutRefIdeal.Read.val_main_v42, Cert.LnOutRefIdeal.Read.val_main_v43, Cert.LnOutRefIdeal.Read.val_main_v44, Cert.LnOutRefIdeal.Read.val_main_v45, Cert.LnOutRefIdeal.Read.val_main_v46, Cert.LnOutRefIdeal.Read.val_main_v47, Cert.LnOutRefIdeal.Read.val_main_v48]
  have h0 : (4096 + (s.val * 4096 + t.val)) / 4096 = 1 + s.val := by omega
  unfold res
  simp only [h0]

/-- The sample rows' mean. -/
theorem mean_sample (x f mod) (s : Fin 2) (t : Fin 4096) :
    val_main_v52 (F := Ideal) x f mod (ix3 s t 0) = LnMath.mean (res x f mod ⟨4096 + (s.val * 4096 + t.val), by omega⟩) := by
  rw [val_main_v52_apply, val_main_v50_apply, val_main_v49_apply, val_main_v51_apply, val_main_cst_7_apply]
  have h : ∀ j, idx_main_v49 (idx_main_v50 (ix3 s t 0)) j = ix3 s t j := fun j => by funext a; fin_cases a <;> rfl
  simp only [h, val_main_cst_6_apply, res_sample, Ideal.hostDivf_def, Ideal.ofBits_def, Ideal.ofBits_zero_f32, zero_add]
  rfl

/-- The sample rows' distances from the mean. -/
theorem dist_sample (x f mod) (s : Fin 2) (t e : Fin 4096) :
    val_main_v54 (F := Ideal) x f mod (ix3 s t e)
      = res x f mod ⟨4096 + (s.val * 4096 + t.val), by omega⟩ e
        - LnMath.mean (res x f mod ⟨4096 + (s.val * 4096 + t.val), by omega⟩) := by
  rw [val_main_v54_apply, val_main_v53_apply]
  have h : idx_main_v53 (ix3 s t e) = ix3 s t 0 := by funext a; fin_cases a <;> rfl
  rw [h, mean_sample, res_sample]
  rfl

/-- The sample rows' variance. -/
theorem var_sample (x f mod) (s : Fin 2) (t : Fin 4096) :
    val_main_v59 (F := Ideal) x f mod (ix3 s t 0) = LnMath.var (res x f mod ⟨4096 + (s.val * 4096 + t.val), by omega⟩) := by
  rw [val_main_v59_apply, val_main_v57_apply, val_main_v56_apply, val_main_v58_apply, val_main_cst_9_apply]
  have h : ∀ j, idx_main_v56 (idx_main_v57 (ix3 s t 0)) j = ix3 s t j := fun j => by funext a; fin_cases a <;> rfl
  simp only [h, val_main_cst_8_apply, val_main_v55_apply, dist_sample, Ideal.hostDivf_def, Ideal.ofBits_def, Ideal.ofBits_zero_f32, zero_add]
  rfl

/-- The sample rows' layer norm. -/
theorem norm_sample (x f mod g b) (s : Fin 2) (t e : Fin 4096) :
    val_main_v72 (F := Ideal) x f mod g b (ix3 s t e)
      = LnMath.norm (res x f mod ⟨4096 + (s.val * 4096 + t.val), by omega⟩) (fun e => g (ix1 e)) (fun e => b (ix1 e)) e := by
  rw [val_main_v72_apply, val_main_v69_apply, val_main_v66_apply, val_main_v65_apply, val_main_v64_apply, val_main_v63_apply,
    val_main_v62_apply, val_main_cst_10_apply, val_main_v68_apply, val_main_v67_apply, val_main_v71_apply, val_main_v70_apply]
  have h : idx_main_v65 (ix3 s t e) = ix3 s t 0 := by funext a; fin_cases a <;> rfl
  have hg : idx_main_v67 (idx_main_v68 (ix3 s t e)) = ix1 e := by funext a; fin_cases a; rfl
  have hb : idx_main_v70 (idx_main_v71 (ix3 s t e)) = ix1 e := by funext a; fin_cases a; rfl
  rw [h, hg, hb, var_sample, show val_main_v61 (F := Ideal) x f mod (ix3 s t e) = _ from dist_sample x f mod s t e]
  rfl

/-- The reference's term: every row's layer norm. -/
theorem ref_eq (x f mod g b) : val_main_v74 (F := Ideal) x f mod g b = fun i => LnMath.norm (res x f mod (i 0)) (fun e => g (ix1 e)) (fun e => b (ix1 e)) (i 1) := by
  funext i
  idx_vars i
  show _ = LnMath.norm (res x f mod i0) (fun e => g (ix1 e)) (fun e => b (ix1 e)) i1
  by_cases h : i0.val < 4096
  · refine (concatenate_pair_apply_left (t := S12288x4096) (s₁ := Cert.LnOutRefIdeal.S4096x4096) (s₂ := Cert.LnOutRefIdeal.S8192x4096)
      0 _ _ _ (ix2 i0 i1) rfl (ix2 ⟨i0.val, h⟩ i1) fun q => by fin_cases q <;> rfl).trans ?_
    exact norm_context x f mod g b ⟨i0.val, h⟩ i1
  · refine (concatenate_pair_apply_right (t := S12288x4096) (s₁ := Cert.LnOutRefIdeal.S4096x4096) (s₂ := Cert.LnOutRefIdeal.S8192x4096)
      0 _ _ _ (ix2 i0 i1) rfl rfl (ix2 ⟨i0.val - 4096, by omega⟩ i1) (fun q hq => by fin_cases q <;> first | exact absurd rfl hq | rfl)
      (by show i0.val - 4096 + 4096 = i0.val; omega)).trans ?_
    have ht : i0 = ⟨4096 + ((i0.val - 4096) / 4096 * 4096 + (i0.val - 4096) % 4096), by omega⟩ := Fin.ext (by show i0.val = 4096 + ((i0.val - 4096) / 4096 * 4096 + (i0.val - 4096) % 4096); omega)
    refine Eq.trans ?_ ((norm_sample x f mod g b ⟨(i0.val - 4096) / 4096, by omega⟩ ⟨(i0.val - 4096) % 4096, by omega⟩ i1).trans ?_)
    · pointwise [val_main_v73]
    · rw [← ht]

end Reference

/-- The kernel's arithmetic on a block of rows is the layer norm of their residuals. -/
theorem pay_at (x : Vec Ideal S128x4096 .f32) (gate : Vec Ideal S1x1x4096 .f32) (f : Vec Ideal S128x4096 .f32)
    (g b : Vec Ideal S1x4096 .f32) (a : Fin 128) (e : Fin 4096) :
    k0_pay1 (F := Ideal) x gate f g b (ix2 a e)
      = LnMath.norm (fun e => Ideal.ofBits .f32 0x3FB504F3#32 * x (ix2 a e) + gate (ix3 0 0 e) * f (ix2 a e))
          (fun e => g (ix2 0 e)) (fun e => b (ix2 0 e)) e := by
  pointwise [k0_pay1]
  rfl

/-- The result array after the run is the reference's term. -/
theorem final (c : Dev nD) : (dats m 0 c).arrAt 5 (cfgs 0).N
    = Cert.LnOutRefIdeal.Read.val_main_v74 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  have ht : t.val < 96 := lt_of_lt_of_eq t.isLt N_0
  blk_simp
  rw [after0_5, ref_eq]
  frame_out
  idx_vars y
  rw [pay_at]
  unfold res
  refine LnMath.norm_congr (fun e => congrArg₂ (· + ·) (congrArg (_ * ·) ?_) (Ideal.mul_congr ?_ ?_)) (fun e => ?_) (fun e => ?_)
    (Fin.ext (by blk_simp [idx_val t]))
    <;> blk_point [iblk, V, idx_val t]

/-- On the same arguments the two programs leave the same result array. -/
theorem algebraic : Cert.algebraic_LnOutIdeal_LnOutRefIdeal := by
  pair_intro
  · run_from Cert.LnOutIdeal.Gen.run_main m g
  · run_from Cert.LnOutRefIdeal.Value.run m' g'
    obtain ⟨h0, h1, h2, h3, h4⟩ := hagree c
    rw [Cert.LnOutRefIdeal.Read.val_main_v74_eq, h0, h1, h2, h3, h4]
    exact (final m c).symm

/-- The reference leaves its arguments as they were, and no semaphore raised: it declares none. -/
theorem ref_frame : Cert.quiescent_LnOutRefIdeal := fun m ρ _ =>
  (θ_run Cert.LnOutRefIdeal.defs _ _).mono
    (fun r h => ⟨fun c => (h c).2, sem_eq_zero_of_no_sems (by decide) r.2⟩)
    (Cert.LnOutRefIdeal.Value.run (F := Ideal) m ρ)

end Cert.LnOutPf

end
-- ==== Proof.LnModPf.lean ====
module

public import proofs.«01_k».proof.Defs
public import proofs.«01_k».proof.Proof.Gen.LnModIdeal.Frame
public import proofs.«01_k».proof.Proof.Gen.LnModIdeal.Value
public import proofs.«01_k».proof.Proof.Gen.LnModRefIdeal.Run
public import proofs.«01_k».proof.Proof.Gen.LnModRefIdeal.Read
public import Idealize.ShloMosaic.Lib.Pipeline.ValueKit
public import Idealize.ShloMosaic.Lib.Pointwise
public import Idealize.ShloMosaic.Lib.Claim
public import proofs.«01_k».proof.Proof.LnMath

/-! The end of the first sub-layer: residual and layer norm of every row, and the next sub-layer's modulation of it. -/

@[expose] public section

set_option maxRecDepth 16384

noncomputable section

namespace Cert.LnModPf

open Idealize.ShloMosaic Idealize.ShloMosaic.TcCoe Idealize.SL.Sem
open Cert.LnModIdeal Cert.LnModIdeal.Gen

variable (m : (ℓ : Loc nD τ sig) → Buf (Elt Ideal) ℓ)

/-- Which blocks grid point `t` reads and writes. -/
theorem idx_val : ∀ t : Fin cfg0.N, win0_0.index t = ![t.val, 0]
    ∧ win0_1.index t = ![t.val, 0]
    ∧ win0_2.index t = ![t.val / 32, 0, 2]
    ∧ win0_3.index t = ![0, 0]
    ∧ win0_4.index t = ![0, 0]
    ∧ win0_5.index t = ![t.val / 32, 0, 4]
    ∧ win0_6.index t = ![t.val / 32, 0, 3]
    ∧ win0_7.index t = ![t.val, 0]
    ∧ win0_8.index t = ![t.val, 0] :=
  (by decide +kernel : ∀ t : Fin grid0.N, _)

section Reference

open Cert.LnModRefIdeal.Read

/-- The residual of a row: the scaled input plus the stream's gate times the sub-layer's output; rows `4096 * g` to
    `4096 * g + 4095` are stream `g`. -/
def res (x f : Vec Ideal S12288x4096 .f32) (mod : Vec Ideal S8x1x24576 .f32) (t : Fin 12288) (e : Fin 4096) : EReal :=
  Ideal.ofBits .f32 0x3FB504F3#32 * x (ix2 t e) + mod (ix3 ⟨t.val / 4096, by omega⟩ 0 ⟨8192 + e.val, by omega⟩) * f (ix2 t e)

/-- The context rows' residual. -/
theorem res_context (x f mod) (t : Fin 4096) (e : Fin 4096) :
    val_main_v14 (F := Ideal) x f mod (ix2 t e) = res x f mod ⟨t.val, by omega⟩ e := by
  pointwise [Cert.LnModRefIdeal.Read.val_main_cst, Cert.LnModRefIdeal.Read.val_main_v2, Cert.LnModRefIdeal.Read.val_main_v6, Cert.LnModRefIdeal.Read.val_main_v7, Cert.LnModRefIdeal.Read.val_main_v8, Cert.LnModRefIdeal.Read.val_main_v9, Cert.LnModRefIdeal.Read.val_main_v10, Cert.LnModRefIdeal.Read.val_main_v11, Cert.LnModRefIdeal.Read.val_main_v12, Cert.LnModRefIdeal.Read.val_main_v13, Cert.LnModRefIdeal.Read.val_main_v14]
  have h0 : t.val / 4096 = 0 := by omega
  unfold res
  simp only [h0]
  rfl

/-- The context rows' mean. -/
theorem mean_context (x f mod) (t : Fin 4096) :
    val_main_v18 (F := Ideal) x f mod (ix2 t 0) = LnMath.mean (res x f mod ⟨t.val, by omega⟩) := by
  rw [val_main_v18_apply, val_main_v16_apply, val_main_v15_apply, val_main_v17_apply, val_main_cst_1_apply]
  have h : ∀ j, idx_main_v15 (idx_main_v16 (ix2 t 0)) j = ix2 t j := fun j => by funext a; fin_cases a <;> rfl
  simp only [h, val_main_cst_0_apply, res_context, Ideal.hostDivf_def, Ideal.ofBits_def, Ideal.ofBits_zero_f32, zero_add]
  rfl

/-- The context rows' distances from the mean. -/
theorem dist_context (x f mod) (t e : Fin 4096) :
    val_main_v20 (F := Ideal) x f mod (ix2 t e)
      = res x f mod ⟨t.val, by omega⟩ e - LnMath.mean (res x f mod ⟨t.val, by omega⟩) := by
  rw [val_main_v20_apply, val_main_v19_apply]
  have h : idx_main_v19 (ix2 t e) = ix2 t 0 := by funext a; fin_cases a <;> rfl
  rw [h, mean_context, res_context]
  rfl

/-- The context rows' variance. -/
theorem var_context (x f mod) (t : Fin 4096) :
    val_main_v25 (F := Ideal) x f mod (ix2 t 0) = LnMath.var (res x f mod ⟨t.val, by omega⟩) := by
  rw [val_main_v25_apply, val_main_v23_apply, val_main_v22_apply, val_main_v24_apply, val_main_cst_3_apply]
  have h : ∀ j, idx_main_v22 (idx_main_v23 (ix2 t 0)) j = ix2 t j := fun j => by funext a; fin_cases a <;> rfl
  simp only [h, val_main_cst_2_apply, val_main_v21_apply, dist_context, Ideal.hostDivf_def, Ideal.ofBits_def, Ideal.ofBits_zero_f32, zero_add]
  rfl

/-- The context rows' layer norm. -/
theorem norm_context (x f mod g b) (t e : Fin 4096) :
    val_main_v38 (F := Ideal) x f mod g b (ix2 t e)
      = LnMath.norm (res x f mod ⟨t.val, by omega⟩) (fun e => g (ix1 e)) (fun e => b (ix1 e)) e := by
  rw [val_main_v38_apply, val_main_v35_apply, val_main_v32_apply, val_main_v31_apply, val_main_v30_apply, val_main_v29_apply,
    val_main_v28_apply, val_main_cst_4_apply, val_main_v34_apply, val_main_v33_apply, val_main_v37_apply, val_main_v36_apply]
  have h : idx_main_v31 (ix2 t e) = ix2 t 0 := by funext a; fin_cases a <;> rfl
  have hg : idx_main_v33 (idx_main_v34 (ix2 t e)) = ix1 e := by funext a; fin_cases a; rfl
  have hb : idx_main_v36 (idx_main_v37 (ix2 t e)) = ix1 e := by funext a; fin_cases a; rfl
  rw [h, hg, hb, var_context, show val_main_v27 (F := Ideal) x f mod (ix2 t e) = _ from dist_context x f mod t e]
  rfl

/-- The sample rows' residual. -/
theorem res_sample (x f mod) (s : Fin 2) (t : Fin 4096) (e : Fin 4096) :
    val_main_v48 (F := Ideal) x f mod (ix3 s t e) = res x f mod ⟨4096 + (s.val * 4096 + t.val), by omega⟩ e := by
  pointwise [Cert.LnModRefIdeal.Read.val_main_cst_5, Cert.LnModRefIdeal.Read.val_main_v2, Cert.LnModRefIdeal.Read.val_main_v39, Cert.LnModRefIdeal.Read.val_main_v40, Cert.LnModRefIdeal.Read.val_main_v41, Cert.LnModRefIdeal.Read.val_main_v42, Cert.LnModRefIdeal.Read.val_main_v43, Cert.LnModRefIdeal.Read.val_main_v44, Cert.LnModRefIdeal.Read.val_main_v45, Cert.LnModRefIdeal.Read.val_main_v46, Cert.LnModRefIdeal.Read.val_main_v47, Cert.LnModRefIdeal.Read.val_main_v48]
  have h0 : (4096 + (s.val * 4096 + t.val)) / 4096 = 1 + s.val := by omega
  unfold res
  simp only [h0]

/-- The sample rows' mean. -/
theorem mean_sample (x f mod) (s : Fin 2) (t : Fin 4096) :
    val_main_v52 (F := Ideal) x f mod (ix3 s t 0) = LnMath.mean (res x f mod ⟨4096 + (s.val * 4096 + t.val), by omega⟩) := by
  rw [val_main_v52_apply, val_main_v50_apply, val_main_v49_apply, val_main_v51_apply, val_main_cst_7_apply]
  have h : ∀ j, idx_main_v49 (idx_main_v50 (ix3 s t 0)) j = ix3 s t j := fun j => by funext a; fin_cases a <;> rfl
  simp only [h, val_main_cst_6_apply, res_sample, Ideal.hostDivf_def, Ideal.ofBits_def, Ideal.ofBits_zero_f32, zero_add]
  rfl

/-- The sample rows' distances from the mean. -/
theorem dist_sample (x f mod) (s : Fin 2) (t e : Fin 4096) :
    val_main_v54 (F := Ideal) x f mod (ix3 s t e)
      = res x f mod ⟨4096 + (s.val * 4096 + t.val), by omega⟩ e
        - LnMath.mean (res x f mod ⟨4096 + (s.val * 4096 + t.val), by omega⟩) := by
  rw [val_main_v54_apply, val_main_v53_apply]
  have h : idx_main_v53 (ix3 s t e) = ix3 s t 0 := by funext a; fin_cases a <;> rfl
  rw [h, mean_sample, res_sample]
  rfl

/-- The sample rows' variance. -/
theorem var_sample (x f mod) (s : Fin 2) (t : Fin 4096) :
    val_main_v59 (F := Ideal) x f mod (ix3 s t 0) = LnMath.var (res x f mod ⟨4096 + (s.val * 4096 + t.val), by omega⟩) := by
  rw [val_main_v59_apply, val_main_v57_apply, val_main_v56_apply, val_main_v58_apply, val_main_cst_9_apply]
  have h : ∀ j, idx_main_v56 (idx_main_v57 (ix3 s t 0)) j = ix3 s t j := fun j => by funext a; fin_cases a <;> rfl
  simp only [h, val_main_cst_8_apply, val_main_v55_apply, dist_sample, Ideal.hostDivf_def, Ideal.ofBits_def, Ideal.ofBits_zero_f32, zero_add]
  rfl

/-- The sample rows' layer norm. -/
theorem norm_sample (x f mod g b) (s : Fin 2) (t e : Fin 4096) :
    val_main_v72 (F := Ideal) x f mod g b (ix3 s t e)
      = LnMath.norm (res x f mod ⟨4096 + (s.val * 4096 + t.val), by omega⟩) (fun e => g (ix1 e)) (fun e => b (ix1 e)) e := by
  rw [val_main_v72_apply, val_main_v69_apply, val_main_v66_apply, val_main_v65_apply, val_main_v64_apply, val_main_v63_apply,
    val_main_v62_apply, val_main_cst_10_apply, val_main_v68_apply, val_main_v67_apply, val_main_v71_apply, val_main_v70_apply]
  have h : idx_main_v65 (ix3 s t e) = ix3 s t 0 := by funext a; fin_cases a <;> rfl
  have hg : idx_main_v67 (idx_main_v68 (ix3 s t e)) = ix1 e := by funext a; fin_cases a; rfl
  have hb : idx_main_v70 (idx_main_v71 (ix3 s t e)) = ix1 e := by funext a; fin_cases a; rfl
  rw [h, hg, hb, var_sample, show val_main_v61 (F := Ideal) x f mod (ix3 s t e) = _ from dist_sample x f mod s t e]
  rfl

/-- The reference's first result: every row's layer norm. -/
theorem ref_norm (x f mod g b) : val_main_v92 (F := Ideal) x f mod g b = fun i => LnMath.norm (res x f mod (i 0)) (fun e => g (ix1 e)) (fun e => b (ix1 e)) (i 1) := by
  funext i
  idx_vars i
  show _ = LnMath.norm (res x f mod i0) (fun e => g (ix1 e)) (fun e => b (ix1 e)) i1
  by_cases h : i0.val < 4096
  · refine (concatenate_pair_apply_left (t := S12288x4096) (s₁ := Cert.LnModRefIdeal.S4096x4096) (s₂ := Cert.LnModRefIdeal.S8192x4096)
      0 _ _ _ (ix2 i0 i1) rfl (ix2 ⟨i0.val, h⟩ i1) fun q => by fin_cases q <;> rfl).trans ?_
    exact norm_context x f mod g b ⟨i0.val, h⟩ i1
  · refine (concatenate_pair_apply_right (t := S12288x4096) (s₁ := Cert.LnModRefIdeal.S4096x4096) (s₂ := Cert.LnModRefIdeal.S8192x4096)
      0 _ _ _ (ix2 i0 i1) rfl rfl (ix2 ⟨i0.val - 4096, by omega⟩ i1) (fun q hq => by fin_cases q <;> first | exact absurd rfl hq | rfl)
      (by show i0.val - 4096 + 4096 = i0.val; omega)).trans ?_
    have ht : i0 = ⟨4096 + ((i0.val - 4096) / 4096 * 4096 + (i0.val - 4096) % 4096), by omega⟩ := Fin.ext (by show i0.val = 4096 + ((i0.val - 4096) / 4096 * 4096 + (i0.val - 4096) % 4096); omega)
    refine Eq.trans ?_ ((norm_sample x f mod g b ⟨(i0.val - 4096) / 4096, by omega⟩ ⟨(i0.val - 4096) % 4096, by omega⟩ i1).trans ?_)
    · pointwise [val_main_v91]
    · rw [← ht]

/-- The layer norm of a row, scaled and shifted by its stream's section of the modulation vector. -/
def modulated (x f : Vec Ideal S12288x4096 .f32) (mod : Vec Ideal S8x1x24576 .f32) (g b : Vec Ideal S4096 .f32) (t : Fin 12288)
    (e : Fin 4096) : EReal :=
  LnMath.norm (res x f mod t) (fun e => g (ix1 e)) (fun e => b (ix1 e)) e
      * ((1 : EReal) + mod (ix3 ⟨t.val / 4096, by omega⟩ 0 ⟨16384 + e.val, by omega⟩))
    + mod (ix3 ⟨t.val / 4096, by omega⟩ 0 ⟨12288 + e.val, by omega⟩)

/-- The context rows' modulation. -/
theorem mod_context (x f mod g b) (t e : Fin 4096) :
    val_main_v82 (F := Ideal) x f mod g b (ix2 t e) = modulated x f mod g b ⟨t.val, by omega⟩ e := by
  have h0 : t.val / 4096 = 0 := by omega
  have h1 : val_main_v77 (F := Ideal) mod (ix2 t e) = (1 : EReal) + mod (ix3 0 0 ⟨16384 + e.val, by omega⟩) := by
    pointwise [Cert.LnModRefIdeal.Read.val_main_v4, Cert.LnModRefIdeal.Read.val_main_v73, Cert.LnModRefIdeal.Read.val_main_v74, Cert.LnModRefIdeal.Read.val_main_cst_11, Cert.LnModRefIdeal.Read.val_main_v75, Cert.LnModRefIdeal.Read.val_main_v76, Cert.LnModRefIdeal.Read.val_main_v77]
  have h2 : val_main_v81 (F := Ideal) mod (ix2 t e) = mod (ix3 0 0 ⟨12288 + e.val, by omega⟩) := by
    pointwise [Cert.LnModRefIdeal.Read.val_main_v3, Cert.LnModRefIdeal.Read.val_main_v79, Cert.LnModRefIdeal.Read.val_main_v80, Cert.LnModRefIdeal.Read.val_main_v81]
  rw [val_main_v82_apply, val_main_v78_apply, norm_context, h1, h2]
  unfold modulated
  simp only [h0]
  rfl

/-- The sample rows' modulation. -/
theorem mod_sample (x f mod g b) (s : Fin 2) (t e : Fin 4096) :
    val_main_v90 (F := Ideal) x f mod g b (ix3 s t e) = modulated x f mod g b ⟨4096 + (s.val * 4096 + t.val), by omega⟩ e := by
  have h0 : (4096 + (s.val * 4096 + t.val)) / 4096 = 1 + s.val := by omega
  have h1 : val_main_v86 (F := Ideal) mod (ix3 s t e) = (1 : EReal) + mod (ix3 ⟨1 + s.val, by omega⟩ 0 ⟨16384 + e.val, by omega⟩) := by
    pointwise [Cert.LnModRefIdeal.Read.val_main_v4, Cert.LnModRefIdeal.Read.val_main_v83, Cert.LnModRefIdeal.Read.val_main_cst_12, Cert.LnModRefIdeal.Read.val_main_v84, Cert.LnModRefIdeal.Read.val_main_v85, Cert.LnModRefIdeal.Read.val_main_v86]
  have h2 : val_main_v89 (F := Ideal) mod (ix3 s t e) = mod (ix3 ⟨1 + s.val, by omega⟩ 0 ⟨12288 + e.val, by omega⟩) := by
    pointwise [Cert.LnModRefIdeal.Read.val_main_v3, Cert.LnModRefIdeal.Read.val_main_v88, Cert.LnModRefIdeal.Read.val_main_v89]
  rw [val_main_v90_apply, val_main_v87_apply, norm_sample, h1, h2]
  unfold modulated
  simp only [h0]
  rfl

/-- The reference's second result: every row's layer norm, modulated. -/
theorem ref_mod (x f mod g b) : val_main_v95 (F := Ideal) x f mod g b = fun i => modulated x f mod g b (i 0) (i 1) := by
  funext i
  idx_vars i
  show val_main_v94 (F := Ideal) x f mod g b (ix2 i0 i1) = modulated x f mod g b i0 i1
  by_cases h : i0.val < 4096
  · refine (concatenate_pair_apply_left (t := S12288x4096) (s₁ := Cert.LnModRefIdeal.S4096x4096) (s₂ := Cert.LnModRefIdeal.S8192x4096)
      0 _ _ _ (ix2 i0 i1) rfl (ix2 ⟨i0.val, h⟩ i1) fun q => by fin_cases q <;> rfl).trans ?_
    exact mod_context x f mod g b ⟨i0.val, h⟩ i1
  · refine (concatenate_pair_apply_right (t := S12288x4096) (s₁ := Cert.LnModRefIdeal.S4096x4096) (s₂ := Cert.LnModRefIdeal.S8192x4096)
      0 _ _ _ (ix2 i0 i1) rfl rfl (ix2 ⟨i0.val - 4096, by omega⟩ i1) (fun q hq => by fin_cases q <;> first | exact absurd rfl hq | rfl)
      (by show i0.val - 4096 + 4096 = i0.val; omega)).trans ?_
    have ht : i0 = ⟨4096 + ((i0.val - 4096) / 4096 * 4096 + (i0.val - 4096) % 4096), by omega⟩ := Fin.ext (by show i0.val = 4096 + ((i0.val - 4096) / 4096 * 4096 + (i0.val - 4096) % 4096); omega)
    refine Eq.trans ?_ ((mod_sample x f mod g b ⟨(i0.val - 4096) / 4096, by omega⟩ ⟨(i0.val - 4096) % 4096, by omega⟩ i1).trans ?_)
    · pointwise [val_main_v93]
    · rw [← ht]

end Reference

/-- The kernel's arithmetic on a block of rows is the layer norm of their residuals. -/
theorem pay_at (x : Vec Ideal S128x4096 .f32) (gate : Vec Ideal S1x1x4096 .f32) (f : Vec Ideal S128x4096 .f32)
    (g b : Vec Ideal S1x4096 .f32) (a : Fin 128) (e : Fin 4096) :
    k0_pay2 (F := Ideal) x gate f g b (ix2 a e)
      = LnMath.norm (fun e => Ideal.ofBits .f32 0x3FB504F3#32 * x (ix2 a e) + gate (ix3 0 0 e) * f (ix2 a e))
          (fun e => g (ix2 0 e)) (fun e => b (ix2 0 e)) e := by
  pointwise [k0_pay2]
  rfl

/-- The kernel's modulation of a block of rows. -/
theorem mod_at (y : Vec Ideal S128x4096 .f32) (sc sh : Vec Ideal S1x1x4096 .f32) (a : Fin 128) (e : Fin 4096) :
    k0_pay1 (F := Ideal) y (k0_pay3 (F := Ideal) sc) sh (ix2 a e) = y (ix2 a e) * ((1 : EReal) + sc (ix3 0 0 e)) + sh (ix3 0 0 e) := by
  pointwise [k0_pay1, k0_pay3]

/-- The first result array after the run is the reference's first term. -/
theorem final_norm (c : Dev nD) : (dats m 0 c).arrAt 7 (cfgs 0).N
    = Cert.LnModRefIdeal.Read.val_main_v92 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t hf y => ?_
  have ht : t.val < 96 := lt_of_lt_of_eq t.isLt N_0
  blk_simp
  rw [after0_7, ref_norm]
  frame_out
  idx_vars y
  rw [pay_at]
  unfold res
  refine LnMath.norm_congr (fun e => congrArg₂ (· + ·) (congrArg (_ * ·) ?_) (Ideal.mul_congr ?_ ?_)) (fun e => ?_) (fun e => ?_)
    (Fin.ext (by blk_simp [idx_val t]))
    <;> blk_point [iblk, V, idx_val t]

/-- The second result array after the run is the reference's second term. -/
theorem final_mod (c : Dev nD) : (dats m 0 c).arrAt 8 (cfgs 0).N
    = Cert.LnModRefIdeal.Read.val_main_v95 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 8 _ (by decide +kernel) fun t hf y => ?_
  have ht : t.val < 96 := lt_of_lt_of_eq t.isLt N_0
  blk_simp
  rw [after0_8, ref_mod]
  frame_out
  idx_vars y
  rw [mod_at, pay_at]
  unfold modulated res
  refine congrArg₂ (· + ·) (Ideal.mul_congr (LnMath.norm_congr (fun e => congrArg₂ (· + ·) (congrArg (_ * ·) ?_) (Ideal.mul_congr ?_ ?_)) (fun e => ?_) (fun e => ?_)
    (Fin.ext (by blk_simp [idx_val t]))) (congrArg ((1 : EReal) + ·) ?_)) ?_
    <;> blk_point [iblk, V, idx_val t]

/-- On the same arguments the two programs leave the same result arrays. -/
theorem algebraic : Cert.algebraic_LnModIdeal_LnModRefIdeal := by
  pair_intro
  · run_from Cert.LnModIdeal.Gen.run_main m g
  · run_from Cert.LnModRefIdeal.Value.run m' g'
    all_goals obtain ⟨h0, h1, h2, h3, h4⟩ := hagree c
    · rw [Cert.LnModRefIdeal.Read.val_main_v92_eq, h0, h1, h2, h3, h4]
      exact (final_norm m c).symm
    · rw [Cert.LnModRefIdeal.Read.val_main_v95_eq, h0, h1, h2, h3, h4]
      exact (final_mod m c).symm

/-- The reference leaves its arguments as they were, and no semaphore raised: it declares none. -/
theorem ref_frame : Cert.quiescent_LnModRefIdeal := fun m ρ _ =>
  (θ_run Cert.LnModRefIdeal.defs _ _).mono
    (fun r h => ⟨fun c => (h c).2.2, sem_eq_zero_of_no_sems (by decide) r.2⟩)
    (Cert.LnModRefIdeal.Value.run (F := Ideal) m ρ)

end Cert.LnModPf

end
-- ==== Proof.ModulatePf.lean ====
module

public import proofs.«01_k».proof.Defs
public import proofs.«01_k».proof.Proof.Gen.ModulateIdeal.Frame
public import proofs.«01_k».proof.Proof.Gen.ModulateIdeal.Value
public import proofs.«01_k».proof.Proof.Gen.ModulateRefIdeal.Run
public import proofs.«01_k».proof.Proof.Gen.ModulateRefIdeal.Read
public import Idealize.ShloMosaic.Lib.Pipeline.ValueKit
public import Idealize.ShloMosaic.Lib.Pointwise
public import Idealize.ShloMosaic.Lib.Claim

/-! The first modulation: each row scaled and shifted by its stream's section of the modulation vector. -/

@[expose] public section

set_option maxRecDepth 16384

noncomputable section

namespace Cert.ModulatePf

open Idealize.ShloMosaic Idealize.ShloMosaic.TcCoe Idealize.SL.Sem
open Cert.ModulateIdeal Cert.ModulateIdeal.Gen

variable (m : (ℓ : Loc nD τ sig) → Buf (Elt Ideal) ℓ)

/-- Which blocks grid point `t` reads and writes. -/
theorem idx_val : ∀ t : Fin cfg0.N, win0_0.index t = ![t.val, 0]
    ∧ win0_1.index t = ![t.val / 16, 0, 1]
    ∧ win0_2.index t = ![t.val / 16, 0, 0]
    ∧ win0_3.index t = ![t.val, 0] :=
  (by decide +kernel : ∀ t : Fin grid0.N, _)

/-- A row times one plus its stream's scale, plus the stream's shift; rows `4096 * g` to `4096 * g + 4095` are stream `g`. -/
def row (x : Vec Ideal S12288x4096 .f32) (mod : Vec Ideal S8x1x24576 .f32) (t : Fin 12288) (e : Fin 4096) : EReal :=
  x (ix2 t e) * ((1 : EReal) + mod (ix3 ⟨t.val / 4096, by omega⟩ 0 ⟨4096 + e.val, by omega⟩))
    + mod (ix3 ⟨t.val / 4096, by omega⟩ 0 ⟨e.val, by omega⟩)

/-- The reference's term is that row. -/
theorem ref_at (x mod) (t : Fin 12288) (e : Fin 4096) :
    Cert.ModulateRefIdeal.Read.val_main_v29 (F := Ideal) x mod (ix2 t e) = row x mod t e := by
  refine Eq.trans (b := Cert.ModulateRefIdeal.Read.val_main_v28 (F := Ideal) x mod (ix2 t e)) rfl ?_
  by_cases h : t.val < 4096
  · refine (concatenate_pair_apply_left (t := S12288x4096) (s₁ := Cert.ModulateRefIdeal.S4096x4096) (s₂ := Cert.ModulateRefIdeal.S8192x4096) 0 _ _ _ (ix2 t e) rfl
      (ix2 ⟨t.val, h⟩ e) fun b => by fin_cases b <;> rfl).trans ?_
    pointwise [Cert.ModulateRefIdeal.Read.val_main_cst, Cert.ModulateRefIdeal.Read.val_main_v0, Cert.ModulateRefIdeal.Read.val_main_v1, Cert.ModulateRefIdeal.Read.val_main_v2, Cert.ModulateRefIdeal.Read.val_main_v3, Cert.ModulateRefIdeal.Read.val_main_v4, Cert.ModulateRefIdeal.Read.val_main_v5, Cert.ModulateRefIdeal.Read.val_main_v6, Cert.ModulateRefIdeal.Read.val_main_v7, Cert.ModulateRefIdeal.Read.val_main_v8, Cert.ModulateRefIdeal.Read.val_main_v9, Cert.ModulateRefIdeal.Read.val_main_v10, Cert.ModulateRefIdeal.Read.val_main_v11, Cert.ModulateRefIdeal.Read.val_main_v12, Cert.ModulateRefIdeal.Read.val_main_v13, Cert.ModulateRefIdeal.Read.val_main_v14, Cert.ModulateRefIdeal.Read.val_main_v15, Cert.ModulateRefIdeal.Read.val_main_v16]
    have h0 : t.val / 4096 = 0 := by omega
    unfold row
    simp only [h0]
    rfl
  · refine (concatenate_pair_apply_right (t := S12288x4096) (s₁ := Cert.ModulateRefIdeal.S4096x4096) (s₂ := Cert.ModulateRefIdeal.S8192x4096) 0 _ _ _ (ix2 t e) rfl rfl
      (ix2 ⟨t.val - 4096, by omega⟩ e) (fun b hb => by fin_cases b; · exact absurd rfl hb
                                                       · rfl) (by show t.val - 4096 + 4096 = t.val; omega)).trans ?_
    pointwise [Cert.ModulateRefIdeal.Read.val_main_v0, Cert.ModulateRefIdeal.Read.val_main_v1, Cert.ModulateRefIdeal.Read.val_main_v2, Cert.ModulateRefIdeal.Read.val_main_v3, Cert.ModulateRefIdeal.Read.val_main_v4, Cert.ModulateRefIdeal.Read.val_main_v5, Cert.ModulateRefIdeal.Read.val_main_cst_0, Cert.ModulateRefIdeal.Read.val_main_v17, Cert.ModulateRefIdeal.Read.val_main_v18, Cert.ModulateRefIdeal.Read.val_main_v19, Cert.ModulateRefIdeal.Read.val_main_v20, Cert.ModulateRefIdeal.Read.val_main_v21, Cert.ModulateRefIdeal.Read.val_main_v22, Cert.ModulateRefIdeal.Read.val_main_v23, Cert.ModulateRefIdeal.Read.val_main_v24, Cert.ModulateRefIdeal.Read.val_main_v25, Cert.ModulateRefIdeal.Read.val_main_v26, Cert.ModulateRefIdeal.Read.val_main_v27]
    have h1 : 4096 + ((t.val - 4096) / 4096 * 4096 + (t.val - 4096) % 4096) = t.val := by omega
    have h2 : 1 + (t.val - 4096) / 4096 = t.val / 4096 := by omega
    unfold row
    simp only [h1, h2]

/-- The reference's term as a whole. -/
theorem ref_eq (x mod) : Cert.ModulateRefIdeal.Read.val_main_v29 (F := Ideal) x mod = fun i => row x mod (i 0) (i 1) := by
  funext i
  idx_vars i
  exact ref_at x mod i0 i1

/-- The result array after the run is the reference's term. -/
theorem final (c : Dev nD) : (dats m 0 c).arrAt 3 (cfgs 0).N
    = Cert.ModulateRefIdeal.Read.val_main_v29 (F := Ideal) (m ((c : Thread nD τ).loc main_arg0)) (m ((c : Thread nD τ).loc main_arg1)) := by
  refine (dats m 0 c).arrAt_eq_of_covers 3 _ (by decide +kernel) fun t hf y => ?_
  have ht : t.val < 48 := lt_of_lt_of_eq t.isLt N_0
  blk_simp
  rw [after0_3]
  frame_out
  idx_vars y
  rw [ref_eq]
  pointwise [k0_pay1]
  unfold row
  refine congrArg₂ (· + ·) (Ideal.mul_congr ?_ (congrArg ((1 : EReal) + ·) ?_)) ?_
  all_goals blk_point [iblk, V, idx_val t]

/-- On the same arguments the two programs leave the same result array. -/
theorem algebraic : Cert.algebraic_ModulateIdeal_ModulateRefIdeal := by
  pair_intro
  · run_from Cert.ModulateIdeal.Gen.run_main m g
  · run_from Cert.ModulateRefIdeal.Value.run m' g'
    rw [Cert.ModulateRefIdeal.Read.val_main_v29_eq]
    exact (final m c).symm

/-- The reference leaves its arguments as they were, and no semaphore raised: it declares none. -/
theorem ref_frame : Cert.quiescent_ModulateRefIdeal := fun m ρ _ =>
  (θ_run Cert.ModulateRefIdeal.defs _ _).mono
    (fun r h => ⟨fun c => (h c).2, sem_eq_zero_of_no_sems (by decide) r.2⟩)
    (Cert.ModulateRefIdeal.Value.run (F := Ideal) m ρ)

end Cert.ModulatePf

end
-- ==== Proof.QkvMath.lean ====
module

public import Idealize.ShloMosaic.Lib.Pointwise
public import Idealize.ShloMosaic.Lib.Claim

/-! The norm and the rotary embedding of one head of 128 numbers, as formulas that kernel and reference are read against. -/

@[expose] public section

noncomputable section

namespace Cert.QkvMath

open Idealize.ShloMosaic

/-- The root-mean-square norm of a head: every number over the root of the mean square, times a gain. -/
def norm (x g : Fin 128 → EReal) (e : Fin 128) : EReal :=
  x e * Ideal.rsqrt (Ideal.div (∑ j, x j * x j) (Ideal.ofBits .f32 0x43000000#32) + Ideal.ofBits .f32 0x358637BD#32) * g e

/-- The other member of the pair that `e` turns with: 32 places up in the first half of each 64, down in the second. -/
def mate (e : Fin 128) : Fin 128 := ⟨if e.val % 64 < 32 then e.val + 32 else e.val - 32, by split <;> omega⟩

/-- The head turned by a table of cosines and a table of signed sines. -/
def turn (y c s : Fin 128 → EReal) (e : Fin 128) : EReal := y e * c e + y (mate e) * s e

/-- The head that output column `l` lies in, of the row `r` of the fused projection, the heads starting at column `base`. -/
def head (base : ℕ) (r : Fin 3072 → EReal) (l : ℕ) (j : Fin 128) : EReal :=
  r ⟨(base + l / 128 * 128 + j.val) % 3072, Nat.mod_lt _ (by omega)⟩

/-- A normed head at output column `l`. -/
def normed (base : ℕ) (r : Fin 3072 → EReal) (g : Fin 128 → EReal) (l : ℕ) : EReal :=
  norm (head base r l) g ⟨l % 128, Nat.mod_lt _ (by omega)⟩

/-- A normed and turned head at output column `l`. -/
def turned (base : ℕ) (r : Fin 3072 → EReal) (g c s : Fin 128 → EReal) (l : ℕ) : EReal :=
  turn (norm (head base r l) g) c s ⟨l % 128, Nat.mod_lt _ (by omega)⟩

/-- A head read from its own 128 columns is the head that the output column lies in. -/
theorem head_eq (base off : ℕ) (r : Fin 3072 → EReal) (x : Fin 128 → EReal) (e : Fin 128) (fits : base + off + 128 ≤ 3072) (d : off % 128 = 0)
    (x_eq : ∀ (j : Fin 128) (p : base + off + j.val < 3072), x j = r ⟨base + off + j.val, p⟩) : x = head base r (off + e.val) := by
  funext j
  rw [x_eq j (by omega)]
  exact congrArg r (Fin.ext (by
    show base + off + j.val = (base + (off + e.val) / 128 * 128 + j.val) % 3072
    rw [Nat.mod_eq_of_lt (by omega)]; omega))

/-- Equal rows, gains and tables give equal turned heads. -/
theorem turned_congr {base : ℕ} {r r' : Fin 3072 → EReal} {g g' c c' s s' : Fin 128 → EReal} {l : ℕ} (r_eq : ∀ q, r q = r' q) (g_eq : ∀ j, g j = g' j)
    (c_eq : ∀ j, c j = c' j) (s_eq : ∀ j, s j = s' j) : turned base r g c s l = turned base r' g' c' s' l := by
  rw [funext r_eq, funext g_eq, funext c_eq, funext s_eq]

/-- Equal rows and gains give equal normed heads. -/
theorem normed_congr {base : ℕ} {r r' : Fin 3072 → EReal} {g g' : Fin 128 → EReal} {l : ℕ} (r_eq : ∀ q, r q = r' q) (g_eq : ∀ j, g j = g' j) :
    normed base r g l = normed base r' g' l := by
  rw [funext r_eq, funext g_eq]

end Cert.QkvMath

end
-- ==== Proof.QkvKernel.lean ====
module

public import proofs.«01_k».proof.Proof.Gen.QkvIdeal.Frame
public import proofs.«01_k».proof.Proof.QkvMath
public import Idealize.ShloMosaic.Lib.Pipeline.ValueKit
public import Idealize.ShloMosaic.Lib.Pointwise

/-! What the kernel leaves in each output block, read at an element. -/

@[expose] public section

set_option maxRecDepth 16384

noncomputable section

namespace Cert.QkvKernel

open Idealize.ShloMosaic Idealize.ShloMosaic.TcCoe Idealize.SL.Sem
open Cert.QkvIdeal Cert.QkvIdeal.Gen

/-- The lanes that take their mate from 32 places up are the first half of each 64. -/
theorem mask_at (a : Fin 256) (e : Fin 128) : k0_pay4 (ix2 a e) = BitVec.ofBool (decide (e.val % 64 < 32)) := by
  pointwise [k0_pay4]
  revert e
  decide +kernel

/-- A choice on a true bit is its first member. -/
theorem pick_first (p q : EReal) : Scalar.select (BitVec.ofBool true) p q = p := by simp [Scalar.select]

/-- A choice on a false bit is its second member. -/
theorem pick_second (p q : EReal) : Scalar.select (BitVec.ofBool false) p q = q := by simp [Scalar.select]

/-- A normed head. -/
theorem norm_at (x : Vec Ideal S256x128 .f32) (g : Vec Ideal S1x128 .f32) (a : Fin 256) (e : Fin 128) :
    k0_pay43 (F := Ideal) x g (ix2 a e) = QkvMath.norm (fun j => x (ix2 a j)) (fun j => g (ix2 0 j)) e := by
  pointwise [k0_pay43]
  rfl

/-- A key head, normed and turned. -/
theorem key_at (c s : Vec Ideal S256x128 .f32) (x : Vec Ideal S256x128 .f32) (g : Vec Ideal S1x128 .f32) (a : Fin 256) (e : Fin 128) :
    k0_pay44 (F := Ideal) c s k0_pay4 x g (ix2 a e)
      = QkvMath.turn (QkvMath.norm (fun j => x (ix2 a j)) (fun j => g (ix2 0 j))) (fun j => c (ix2 a j)) (fun j => s (ix2 a j)) e := by
  pointwise [k0_pay44]
  rw [mask_at, norm_at, norm_at, norm_at]
  refine congrArg₂ (fun p q : EReal => p + q) rfl (congrArg (fun p : EReal => p * s (ix2 a e)) ?_)
  by_cases he : e.val % 64 < 32
  · rw [decide_eq_true he]
    refine (pick_first _ _).trans (congrArg (QkvMath.norm _ _) (Fin.ext ?_))
    show (e.val + 128 - 96) % 128 = if e.val % 64 < 32 then e.val + 32 else e.val - 32
    rw [if_pos he]; omega
  · rw [decide_eq_false he]
    refine (pick_second _ _).trans (congrArg (QkvMath.norm _ _) (Fin.ext ?_))
    show (e.val + 128 - 32) % 128 = if e.val % 64 < 32 then e.val + 32 else e.val - 32
    rw [if_neg he]; omega

/-- A query head: normed, turned and scaled. -/
theorem query_at (c s : Vec Ideal S256x128 .f32) (x : Vec Ideal S256x128 .f32) (g : Vec Ideal S1x128 .f32) (a : Fin 256) (e : Fin 128) :
    k0_pay8 (F := Ideal) c s k0_pay4 x g (ix2 a e)
      = QkvMath.turn (QkvMath.norm (fun j => x (ix2 a j)) (fun j => g (ix2 0 j))) (fun j => c (ix2 a j)) (fun j => s (ix2 a j)) e
          * Ideal.ofBits .f32 0x3DB504F3#32 := by
  have hk := key_at c s x g a e
  refine Eq.trans ?_ (congrArg (fun p : EReal => p * Ideal.ofBits .f32 0x3DB504F3#32) hk)
  rfl

/-- One piece of the query block, at its place in the block. -/
theorem query_piece (x0 : Vec Ideal S256x3072 .f32) (c s x : Vec Ideal S256x128 .f32) (g : Vec Ideal S1x128 .f32) (off : ℕ) (z : S256x128.Idx)
    (a : Fin 256) (l : Fin 2048) (y0 : a.val = (z 0).val) (y1 : l.val = off + (z 1).val) (fits : 0 + off + 128 ≤ 3072) (d : off % 128 = 0)
    (x_eq : ∀ (i : Fin 256) (j : Fin 128) (p : 0 + off + j.val < 3072), x (ix2 i j) = x0 (ix2 i ⟨0 + off + j.val, p⟩)) :
    k0_pay8 (F := Ideal) c s k0_pay4 x g z
      = QkvMath.turned 0 (fun q => x0 (ix2 a q)) (fun j => g (ix2 0 j)) (fun j => c (ix2 a j)) (fun j => s (ix2 a j)) l.val * Ideal.ofBits .f32 0x3DB504F3#32 := by
  idx_vars z
  obtain rfl : a = z0 := Fin.ext y0
  rw [query_at, QkvMath.head_eq 0 off (fun q => x0 (ix2 a q)) (fun j => x (ix2 a j)) z1 fits d fun j p => x_eq a j p]
  have y1 : l.val = off + z1.val := y1
  have z1_lt : z1.val < 128 := z1.isLt
  unfold QkvMath.turned
  rw [← y1]
  refine congrArg (fun e => QkvMath.turn _ _ _ e * Ideal.ofBits .f32 0x3DB504F3#32) (Fin.ext ?_)
  show z1.val = l.val % 128
  omega

/-- One piece of the key block, at its place in the block. -/
theorem key_piece (x0 : Vec Ideal S256x3072 .f32) (c s x : Vec Ideal S256x128 .f32) (g : Vec Ideal S1x128 .f32) (off : ℕ) (z : S256x128.Idx)
    (a : Fin 256) (l : Fin 512) (y0 : a.val = (z 0).val) (y1 : l.val = off + (z 1).val) (fits : 2048 + off + 128 ≤ 3072) (d : off % 128 = 0)
    (x_eq : ∀ (i : Fin 256) (j : Fin 128) (p : 2048 + off + j.val < 3072), x (ix2 i j) = x0 (ix2 i ⟨2048 + off + j.val, p⟩)) :
    k0_pay44 (F := Ideal) c s k0_pay4 x g z
      = QkvMath.turned 2048 (fun q => x0 (ix2 a q)) (fun j => g (ix2 0 j)) (fun j => c (ix2 a j)) (fun j => s (ix2 a j)) l.val := by
  idx_vars z
  obtain rfl : a = z0 := Fin.ext y0
  rw [key_at, QkvMath.head_eq 2048 off (fun q => x0 (ix2 a q)) (fun j => x (ix2 a j)) z1 fits d fun j p => x_eq a j p]
  have y1 : l.val = off + z1.val := y1
  have z1_lt : z1.val < 128 := z1.isLt
  unfold QkvMath.turned
  rw [← y1]
  refine congrArg (QkvMath.turn _ _ _) (Fin.ext ?_)
  show z1.val = l.val % 128
  omega

/-- One piece of the block of normed keys, at its place in the block. -/
theorem normed_piece (x0 : Vec Ideal S256x3072 .f32) (x : Vec Ideal S256x128 .f32) (g : Vec Ideal S1x128 .f32) (off : ℕ) (z : S256x128.Idx)
    (a : Fin 256) (l : Fin 512) (y0 : a.val = (z 0).val) (y1 : l.val = off + (z 1).val) (fits : 2048 + off + 128 ≤ 3072) (d : off % 128 = 0)
    (x_eq : ∀ (i : Fin 256) (j : Fin 128) (p : 2048 + off + j.val < 3072), x (ix2 i j) = x0 (ix2 i ⟨2048 + off + j.val, p⟩)) :
    k0_pay43 (F := Ideal) x g z = QkvMath.normed 2048 (fun q => x0 (ix2 a q)) (fun j => g (ix2 0 j)) l.val := by
  idx_vars z
  obtain rfl : a = z0 := Fin.ext y0
  rw [norm_at, QkvMath.head_eq 2048 off (fun q => x0 (ix2 a q)) (fun j => x (ix2 a j)) z1 fits d fun j p => x_eq a j p]
  have y1 : l.val = off + z1.val := y1
  have z1_lt : z1.val < 128 := z1.isLt
  unfold QkvMath.normed
  rw [← y1]
  refine congrArg (QkvMath.norm _ _) (Fin.ext ?_)
  show z1.val = l.val % 128
  omega

/-- The query block: a normed, turned and scaled head of the first 2048 columns. -/
theorem out5_at (x0 : Vec Ideal S256x3072 .f32) (x1 x2 : Vec Ideal S256x128 .f32) (x3 x4 : Vec Ideal S1x128 .f32) (a : Fin 256) (l : Fin 2048) :
    out0_5 (F := Ideal) x0 x1 x2 x3 x4 (ix2 a l)
      = QkvMath.turned 0 (fun q => x0 (ix2 a q)) (fun j => x3 (ix2 0 j)) (fun j => x1 (ix2 a j)) (fun j => x2 (ix2 a j)) l.val * Ideal.ofBits .f32 0x3DB504F3#32 := by
  unfold_out out0_5
  canon_tiles x h
  all_goals
    first
      | refine Eq.trans (query_piece x0 _ _ _ _ _ x a l h0 h1 (by decide) (by decide) ?_) ?_
      | refine Eq.trans (query_piece x0 _ _ _ _ 0 x a l h0 (h1.trans (Nat.zero_add _).symm) (by decide) (by decide) ?_) ?_
    · intro i j p
      pointwise
    · refine congrArg (fun p : EReal => p * _) ?_
      congr 1 <;> funext j <;> pointwise [k0_pay2, k0_pay3]
/-- The key block: a normed and turned head of the 512 columns from 2048 on. -/
theorem out6_at (x0 : Vec Ideal S256x3072 .f32) (x1 x2 : Vec Ideal S256x128 .f32) (x3 x4 : Vec Ideal S1x128 .f32) (a : Fin 256) (l : Fin 512) :
    out0_6 (F := Ideal) x0 x1 x2 x3 x4 (ix2 a l)
      = QkvMath.turned 2048 (fun q => x0 (ix2 a q)) (fun j => x4 (ix2 0 j)) (fun j => x1 (ix2 a j)) (fun j => x2 (ix2 a j)) l.val := by
  unfold_out out0_6
  canon_tiles x h
  all_goals
    first
      | refine Eq.trans (key_piece x0 _ _ _ _ _ x a l h0 h1 (by decide) (by decide) ?_) ?_
      | refine Eq.trans (key_piece x0 _ _ _ _ 0 x a l h0 (h1.trans (Nat.zero_add _).symm) (by decide) (by decide) ?_) ?_
    · intro i j p
      pointwise
    · congr 1 <;> funext j <;> pointwise [k0_pay2, k0_pay3]
/-- The block of normed keys. -/
theorem out8_at (x0 : Vec Ideal S256x3072 .f32) (x1 x2 : Vec Ideal S256x128 .f32) (x3 x4 : Vec Ideal S1x128 .f32) (a : Fin 256) (l : Fin 512) :
    out0_8 (F := Ideal) x0 x1 x2 x3 x4 (ix2 a l)
      = QkvMath.normed 2048 (fun q => x0 (ix2 a q)) (fun j => x4 (ix2 0 j)) l.val := by
  unfold_out out0_8
  canon_tiles x h
  all_goals
    first
      | refine Eq.trans (normed_piece x0 _ _ _ x a l h0 h1 (by decide) (by decide) ?_) ?_
      | refine Eq.trans (normed_piece x0 _ _ 0 x a l h0 (h1.trans (Nat.zero_add _).symm) (by decide) (by decide) ?_) ?_
    · intro i j p
      pointwise
    · congr 1 <;> funext j <;> pointwise [k0_pay2, k0_pay3]
/-- The block of rounded values: the last 512 columns. -/
theorem out7_at (x0 : Vec Ideal S256x3072 .f32) (x1 x2 : Vec Ideal S256x128 .f32) (x3 x4 : Vec Ideal S1x128 .f32) (a : Fin 256) (l : Fin 512) :
    out0_7 (F := Ideal) x0 x1 x2 x3 x4 (ix2 a l)
      = x0 (ix2 a ⟨2560 + l.val, by omega⟩) := by
  unfold_out out0_7
  canon_tiles x h
  all_goals
    open_payloads
    pointwise
    refine congrArg₂ (fun i j => x0 (ix2 i j)) (Fin.ext h0.symm) (Fin.ext ?_)
    have l_eq : l.val = _ := h1
    show _ = 2560 + l.val
    rw [l_eq]
    try (dsimp only; omega)
/-- The block of values: the last 512 columns. -/
theorem out9_at (x0 : Vec Ideal S256x3072 .f32) (x1 x2 : Vec Ideal S256x128 .f32) (x3 x4 : Vec Ideal S1x128 .f32) (a : Fin 256) (l : Fin 512) :
    out0_9 (F := Ideal) x0 x1 x2 x3 x4 (ix2 a l)
      = x0 (ix2 a ⟨2560 + l.val, by omega⟩) := by
  unfold_out out0_9
  canon_tiles x h
  all_goals
    open_payloads
    pointwise
    refine congrArg₂ (fun i j => x0 (ix2 i j)) (Fin.ext h0.symm) (Fin.ext ?_)
    have l_eq : l.val = _ := h1
    show _ = 2560 + l.val
    rw [l_eq]
    try (dsimp only; omega)
end Cert.QkvKernel

end
-- ==== Proof.QkvHost.lean ====
module

public import proofs.«01_k».proof.Proof.Gen.QkvIdeal.Frame
public import proofs.«01_k».proof.Proof.Gen.QkvRefIdeal.Read
public import Idealize.ShloMosaic.Lib.Pipeline.ValueKit
public import Idealize.ShloMosaic.Lib.Pointwise
public import Idealize.ShloMosaic.Lib.StableHlo.ReadAt

/-! The two tables that the host prepares: the cosines and the signed sines of the angles by which a head is turned. -/

@[expose] public section

set_option maxRecDepth 16384

noncomputable section

namespace Cert.QkvHost

open Idealize.ShloMosaic Idealize.ShloMosaic.TcCoe Idealize.SL.Sem
open Cert.QkvIdeal Cert.QkvIdeal.Gen

variable (m : (ℓ : Loc nD τ sig) → Buf (Elt Ideal) ℓ)

/-- The length of the period, as the host takes it: one if it were zero. -/
def period : IVec S_ 32 := select (cmpi .eq (constantI S_ 32 64#32) (constantI S_ 32 0#32)) (constantI S_ 32 1#32) (constantI S_ 32 64#32)

/-- The remainders of the 128 lanes, rounded towards zero. -/
def rest : IVec S128 32 := Host.remsi (iotaInDim S128 32 0) (broadcastInDim S128 ![] bcast_S_S128 period)

/-- The remainders of the 128 lanes with the sign of the period. -/
def lanes : IVec S128 32 :=
  select (andi (cmpi .ne (cmpi .slt rest (broadcastInDim S128 ![] bcast_S_S128 (constantI S_ 32 0#32)))
      (broadcastInDim S128 ![] bcast_S_S128 (cmpi .slt period (constantI S_ 32 0#32))))
    (cmpi .ne rest (broadcastInDim S128 ![] bcast_S_S128 (constantI S_ 32 0#32))))
    (addi rest (broadcastInDim S128 ![] bcast_S_S128 period)) rest

/-- The signs of the table of sines. -/
def signs : FVec Ideal S128 .f32 :=
  select (cmpi .slt lanes (broadcastInDim S128 ![] bcast_S_S128 (constantI S_ 32 32#32)))
    (broadcastInDim S128 ![] bcast_S_S128 (constant S_ .f32 3212836864#32))
    (broadcastInDim S128 ![] bcast_S_S128 (constant S_ .f32 1065353216#32))

/-- The first half of each 64 lanes is where the remainder is below 32. -/
theorem low_at (e : Fin 128) :
    cmpi .slt lanes (broadcastInDim S128 ![] bcast_S_S128 (constantI S_ 32 32#32)) (ix1 e) = BitVec.ofBool (decide (e.val % 64 < 32)) := by
  pointwise [lanes, rest, period, hlo_ix]
  revert e
  decide +kernel

/-- The literal of minus one is minus one. -/
theorem minus_one : Ideal.ofBits .f32 3212836864#32 = (-1 : EReal) := by
  rw [show (-1 : EReal) = ((-(1 : ℝ) : ℝ) : EReal) by norm_num]
  simp [Ideal.ofBits, Ideal.ieee, -EReal.coe_mul, -EReal.coe_neg]
  norm_num

/-- Minus one in the first half of each 64 lanes, one in the second. -/
theorem signs_at (e : Fin 128) : signs (ix1 e) = if e.val % 64 < 32 then (-1 : EReal) else 1 := by
  have low := low_at e
  unfold signs
  generalize cmpi .slt lanes _ = b at low ⊢
  pointwise [hlo_ix]
  rw [low]
  by_cases he : e.val % 64 < 32
  · rw [decide_eq_true he, if_pos he]
    refine Eq.trans (by simp [Scalar.select]) minus_one
  · rw [decide_eq_false he, if_neg he]
    simp [Scalar.select]

/-- The host leaves the signs in their buffer. -/
theorem entry_signs (c : Dev nD) : V m c main_v27 = signs := by
  unfold V
  after_reads_simp
  rfl

/-- The host leaves in the buffer of row angles what the reference computes. -/
theorem row_angle (c : Dev nD) : V m c main_v15 = Cert.QkvRefIdeal.Read.val_main_v46 (F := Ideal) := by
  unfold V
  after_reads_simp
  rfl

/-- The host leaves in the buffer of column angles what the reference computes. -/
theorem col_angle (c : Dev nD) : V m c main_v20 = Cert.QkvRefIdeal.Read.val_main_v51 (F := Ideal) := by
  unfold V
  after_reads_simp
  rfl

/-- The sines over the sample rows, from the sines of the angles and the signs. -/
theorem entry_sines (c : Dev nD) : @Eq (FVec Ideal S4096x128 .f32) (V m c main_v32)
    (mulf (F := Ideal) (φ := .f32) (V m c main_v29)
      (broadcastInDim S4096x128 ![0, 1] bcast_S1x128_S4096x128_0_1 (broadcastInDim S1x128 ![1] bcast_S128_S1x128_1 (V m c main_v27)))) := by
  unfold V
  after_reads_simp

/-- The sines are those of the angles. -/
theorem entry_sin (c : Dev nD) : @Eq (FVec Ideal S4096x128 .f32) (V m c main_v29) (Host.sin (F := Ideal) (φ := .f32) (V m c main_v21)) := by
  unfold V
  after_reads_simp

/-- The cosines are those of the angles. -/
theorem entry_cos (c : Dev nD) : @Eq (FVec Ideal S4096x128 .f32) (V m c main_v28) (Host.cos (F := Ideal) (φ := .f32) (V m c main_v21)) := by
  unfold V
  after_reads_simp

/-- What the first `k` host operations leave in a buffer. -/
def before (c : Dev nD) (k : ℕ) (b : Ref sig .tc) : Buf (Elt Ideal) ((c : Thread nD τ).loc b) :=
  StableHlo.upto [hostOps0, hostOps0_1, hostOps0_2, hostOps0_3, hostOps0_4, hostOps0_5, hostOps0_6, hostOps0_7, hostOps0_8].flatten
    (fun b => m (c, b)) k (Proc.tc.devRef b)

/-- The buffers that are joined have their last contents when they are joined. -/
theorem before_eq (c : Dev nD) : before m c 61 main_v15 = V m c main_v15 ∧ before m c 61 main_v20 = V m c main_v20
    ∧ before m c 101 main_v28 = V m c main_v28 ∧ before m c 104 main_v32 = V m c main_v32 := by
  unfold before V
  refine ⟨?_, ?_, ?_, ?_⟩ <;> after_reads_simp

/-- Equal parts join to equal wholes, along the lanes. -/
theorem join_lanes {p p' q q' r r' s s' : FVec Ideal S4096x32 .f32} (hp : p = p') (hq : q = q') (hr : r = r') (hs : s = s') :
    concatenate S4096x128 1 [⟨S4096x32, p⟩, ⟨S4096x32, q⟩, ⟨S4096x32, r⟩, ⟨S4096x32, s⟩] concatenates_S4096x32_S4096x32_S4096x32_S4096x32_S4096x128_d1
      = concatenate S4096x128 1 [⟨S4096x32, p'⟩, ⟨S4096x32, q'⟩, ⟨S4096x32, r'⟩, ⟨S4096x32, s'⟩] concatenates_S4096x32_S4096x32_S4096x32_S4096x32_S4096x128_d1 := by
  subst hp hq hr hs; rfl

/-- Equal parts join to equal wholes, along the rows. -/
theorem join_rows {p p' q q' r r' : FVec Ideal S4096x128 .f32} (hp : p = p') (hq : q = q') (hr : r = r') :
    concatenate S12288x128 0 [⟨S4096x128, p⟩, ⟨S4096x128, q⟩, ⟨S4096x128, r⟩] concatenates_S4096x128_S4096x128_S4096x128_S12288x128_d0
      = concatenate S12288x128 0 [⟨S4096x128, p'⟩, ⟨S4096x128, q'⟩, ⟨S4096x128, r'⟩] concatenates_S4096x128_S4096x128_S4096x128_S12288x128_d0 := by
  subst hp hq hr; rfl

/-- The angles: the row angle twice, the column angle twice. -/
theorem entry_angles (c : Dev nD) : (V m c main_v21 : FVec Ideal S4096x128 .f32)
    = concatenate S4096x128 1
        [⟨S4096x32, Cert.QkvRefIdeal.Read.val_main_v46 (F := Ideal)⟩, ⟨S4096x32, Cert.QkvRefIdeal.Read.val_main_v46 (F := Ideal)⟩,
          ⟨S4096x32, Cert.QkvRefIdeal.Read.val_main_v51 (F := Ideal)⟩, ⟨S4096x32, Cert.QkvRefIdeal.Read.val_main_v51 (F := Ideal)⟩]
        concatenates_S4096x32_S4096x32_S4096x32_S4096x32_S4096x128_d1 := by
  have row := (before_eq m c).1.trans (row_angle m c)
  have col := (before_eq m c).2.1.trans (col_angle m c)
  unfold V
  after_reads_simp
  exact join_lanes row row col col

/-- The buffer of ones. -/
theorem entry_ones (c : Dev nD) : before m c 101 main_v33 = broadcastInDim S4096x128 ![] bcast_S_S4096x128 (constant (F := Ideal) S_ .f32 1065353216#32) := by
  unfold before
  after_reads_simp

/-- The buffer of zeros. -/
theorem entry_zeros (c : Dev nD) : before m c 104 main_v35 = broadcastInDim S4096x128 ![] bcast_S_S4096x128 (constant (F := Ideal) S_ .f32 0#32) := by
  unfold before
  after_reads_simp

/-- The table of cosines: ones over the context rows, the cosines of the angles over each sample's rows. -/
theorem entry_cos_table (c : Dev nD) : (V m c main_v34 : FVec Ideal S12288x128 .f32)
    = concatenate S12288x128 0
        [⟨S4096x128, broadcastInDim S4096x128 ![] bcast_S_S4096x128 (constant (F := Ideal) S_ .f32 1065353216#32)⟩,
          ⟨S4096x128, V m c main_v28⟩, ⟨S4096x128, V m c main_v28⟩]
        concatenates_S4096x128_S4096x128_S4096x128_S12288x128_d0 := by
  have one := entry_ones m c
  have cos := (before_eq m c).2.2.1
  unfold before V at *
  after_reads_simp
  exact join_rows one cos cos

/-- The table of signed sines: zeros over the context rows, the sines of the angles with their signs over each sample's rows. -/
theorem entry_sin_table (c : Dev nD) : (V m c main_v36 : FVec Ideal S12288x128 .f32)
    = concatenate S12288x128 0
        [⟨S4096x128, broadcastInDim S4096x128 ![] bcast_S_S4096x128 (constant (F := Ideal) S_ .f32 0#32)⟩,
          ⟨S4096x128, V m c main_v32⟩, ⟨S4096x128, V m c main_v32⟩]
        concatenates_S4096x128_S4096x128_S4096x128_S12288x128_d0 := by
  have zero := entry_zeros m c
  have sin := (before_eq m c).2.2.2
  unfold V
  after_reads_simp
  exact join_rows zero sin sin

/-- The angle by which lane `e` of sample row `t` is turned: the row angle in the first 64 lanes, the column angle in the others. -/
def angle (t : Fin 4096) (e : Fin 128) : EReal :=
  if e.val < 64 then Cert.QkvRefIdeal.Read.val_main_v46 (F := Ideal) (ix2 t ⟨e.val % 32, Nat.mod_lt _ (by omega)⟩)
  else Cert.QkvRefIdeal.Read.val_main_v51 (F := Ideal) (ix2 t ⟨e.val % 32, Nat.mod_lt _ (by omega)⟩)

/-- The row of its sample that token `t` is. -/
def place (t : Fin 12288) : Fin 4096 := ⟨t.val % 4096, Nat.mod_lt _ (by omega)⟩

/-- The cosine that lane `e` of token `t` is multiplied with: one in the context rows. -/
def cosOf (t : Fin 12288) (e : Fin 128) : EReal := if t.val < 4096 then 1 else Ideal.cos (angle (place t) e)

/-- The signed sine that the mate of lane `e` of token `t` is multiplied with: zero in the context rows. -/
def sinOf (t : Fin 12288) (e : Fin 128) : EReal :=
  if t.val < 4096 then 0 else Ideal.sin (angle (place t) e) * (if e.val % 64 < 32 then -1 else 1)

/-- The angles read at an element. -/
theorem angles_at (c : Dev nD) (t : Fin 4096) (e : Fin 128) : (V m c main_v21 : FVec Ideal S4096x128 .f32) (ix2 t e) = angle t e := by
  rw [entry_angles]
  unfold angle
  pointwise
  have e_lt := e.isLt
  by_cases a1 : e.val < 32
  · refine (dif_pos a1).trans (Eq.trans ?_ (if_pos (by omega)).symm)
    exact congrArg _ (congrArg (ix2 t) (Fin.ext (by dsimp only; omega)))
  · refine (dif_neg a1).trans ?_
    by_cases a2 : e.val - 32 < 32
    · refine (dif_pos a2).trans (Eq.trans ?_ (if_pos (by omega)).symm)
      exact congrArg _ (congrArg (ix2 t) (Fin.ext (by dsimp only; omega)))
    · refine (dif_neg a2).trans (Eq.trans ?_ (if_neg (by omega)).symm)
      by_cases a3 : e.val - 32 - 32 < 32
      · refine (dif_pos a3).trans ?_
        exact congrArg _ (congrArg (ix2 t) (Fin.ext (by dsimp only; omega)))
      · refine (dif_neg a3).trans ?_
        exact congrArg _ (congrArg (ix2 t) (Fin.ext (by dsimp only; omega)))

/-- A table over the tokens read at an element: one block over the context rows, another over each sample's rows. -/
theorem table_at (p q : FVec Ideal S4096x128 .f32) (t : Fin 12288) (e : Fin 128) :
    concatenate S12288x128 0 [⟨S4096x128, p⟩, ⟨S4096x128, q⟩, ⟨S4096x128, q⟩] concatenates_S4096x128_S4096x128_S4096x128_S12288x128_d0 (ix2 t e)
      = if t.val < 4096 then p (ix2 (place t) e) else q (ix2 (place t) e) := by
  unfold place
  pointwise
  have t_lt := t.isLt
  by_cases a1 : t.val < 4096
  · refine (dif_pos a1).trans (Eq.trans ?_ (if_pos a1).symm)
    exact congrArg (fun i => p (ix2 i e)) (Fin.ext (by dsimp only; omega))
  · refine (dif_neg a1).trans (Eq.trans ?_ (if_neg a1).symm)
    by_cases a2 : t.val - 4096 < 4096
    · refine (dif_pos a2).trans ?_
      exact congrArg (fun i => q (ix2 i e)) (Fin.ext (by dsimp only; omega))
    · refine (dif_neg a2).trans ?_
      exact congrArg (fun i => q (ix2 i e)) (Fin.ext (by dsimp only; omega))

/-- The table of cosines read at an element. -/
theorem cos_at (c : Dev nD) (t : Fin 12288) (e : Fin 128) : (V m c main_v34 : FVec Ideal S12288x128 .f32) (ix2 t e) = cosOf t e := by
  have core : ∀ A B : FVec Ideal S4096x128 .f32, A = Host.cos B → A (ix2 (place t) e) = Ideal.cos (B (ix2 (place t) e)) := by
    rintro A B rfl
    rfl
  have q := core _ _ (entry_cos m c)
  rw [angles_at] at q
  rw [entry_cos_table, table_at, q]
  unfold cosOf
  exact congrArg (fun p : EReal => if t.val < 4096 then p else _) Ideal.ofBits_one_f32

/-- The table of signed sines read at an element. -/
theorem sin_at (c : Dev nD) (t : Fin 12288) (e : Fin 128) : (V m c main_v36 : FVec Ideal S12288x128 .f32) (ix2 t e) = sinOf t e := by
  rw [entry_sin_table, table_at]
  unfold sinOf
  by_cases lt : t.val < 4096
  · rw [if_pos lt, if_pos lt]
    pointwise
  · rw [if_neg lt, if_neg lt, ← angles_at m c, entry_sines, entry_sin, entry_signs, ← signs_at]
    pointwise

end Cert.QkvHost

end
-- ==== Proof.QkvRef.lean ====
module

public import proofs.«01_k».proof.Proof.Gen.QkvRefIdeal.Read
public import proofs.«01_k».proof.Proof.QkvMath
public import proofs.«01_k».proof.Proof.QkvHost
public import Idealize.ShloMosaic.Lib.Pipeline.ValueKit
public import Idealize.ShloMosaic.Lib.Pointwise

/-! The reference's results read at an element. -/

@[expose] public section

set_option maxRecDepth 16384

noncomputable section

namespace Cert.QkvRef

open Idealize.ShloMosaic Idealize.ShloMosaic.TcCoe
open Cert.QkvRefIdeal Cert.QkvRefIdeal.Gen Cert.QkvRefIdeal.Read

/-- A pair of lanes of a sample row, turned as the reference writes it: lower lane times cosine minus upper lane times sine, and upper lane
times cosine plus lower lane times sine. -/
theorem pair_turn (T : Fin 12288) (y : Fin 128 → EReal) (b f : Fin 2) (k : Fin 32) (e : Fin 128) (A lower upper : EReal) (ge : 4096 ≤ T.val)
    (e_val : e.val = b.val * 64 + f.val * 32 + k.val)
    (A_eq : A = if b.val < 1 then val_main_v46 (F := Ideal) (ix2 (QkvHost.place T) k) else val_main_v51 (F := Ideal) (ix2 (QkvHost.place T) k))
    (lower_eq : lower = y ⟨b.val * 64 + k.val, by omega⟩) (upper_eq : upper = y ⟨b.val * 64 + 32 + k.val, by omega⟩) :
    (if f.val < 1 then lower * Ideal.cos A - upper * Ideal.sin A else upper * Ideal.cos A + lower * Ideal.sin A)
      = QkvMath.turn y (QkvHost.cosOf T) (QkvHost.sinOf T) e := by
  have b_lt := b.isLt
  have f_lt := f.isLt
  have k_lt := k.isLt
  have ang : QkvHost.angle (QkvHost.place T) e = A := by
    have lane : (⟨e.val % 32, Nat.mod_lt _ (by omega)⟩ : Fin 32) = k := Fin.ext (by dsimp only; omega)
    rw [A_eq]
    unfold QkvHost.angle
    rw [lane]
    by_cases low : b.val < 1
    · rw [if_pos low, if_pos (by omega)]
    · rw [if_neg low, if_neg (by omega)]
  unfold QkvMath.turn QkvHost.cosOf QkvHost.sinOf
  have far : ¬ T.val < 4096 := by omega
  rw [if_neg far, if_neg far, ang, lower_eq, upper_eq]
  by_cases low : f.val < 1
  · have e_eq : e = ⟨b.val * 64 + k.val, by omega⟩ := Fin.ext (by dsimp only; omega)
    have mate_eq : QkvMath.mate e = ⟨b.val * 64 + 32 + k.val, by omega⟩ := by
      refine Fin.ext ?_
      show (if e.val % 64 < 32 then e.val + 32 else e.val - 32) = b.val * 64 + 32 + k.val
      rw [if_pos (by omega)]; omega
    rw [if_pos low, if_pos (by omega), ← mate_eq, ← e_eq, mul_neg, mul_one, mul_neg]
    rfl
  · have e_eq : e = ⟨b.val * 64 + 32 + k.val, by omega⟩ := Fin.ext (by dsimp only; omega)
    have mate_eq : QkvMath.mate e = ⟨b.val * 64 + k.val, by omega⟩ := by
      refine Fin.ext ?_
      show (if e.val % 64 < 32 then e.val + 32 else e.val - 32) = b.val * 64 + k.val
      rw [if_neg (by omega)]; omega
    rw [if_neg low, if_neg (by omega), ← mate_eq, ← e_eq, mul_one]

/-- A context row is not turned: its cosines are one and its sines zero. -/
theorem turn_context (T : Fin 12288) (y : Fin 128 → EReal) (e : Fin 128) (lt : T.val < 4096) :
    QkvMath.turn y (QkvHost.cosOf T) (QkvHost.sinOf T) e = y e := by
  unfold QkvMath.turn QkvHost.cosOf QkvHost.sinOf
  rw [if_pos lt, if_pos lt, mul_one, mul_zero, add_zero]

/-- The normed query of token `T`, head `h`. -/
theorem query_norm_at (x0 : FVec Ideal S12288x15360 .f32) (x1 : FVec Ideal S128 .f32) (T : Fin 12288) (h : Fin 16) (e : Fin 128) :
    val_main_v14 (F := Ideal) x0 x1 (ix3 T h e)
      = QkvMath.norm (fun j => x0 (ix2 T ⟨h.val * 128 + j.val, by omega⟩)) (fun j => x1 (ix1 j)) e := by
  pointwise [val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  rfl

/-- A query of a sample row, head `h`, turned. -/
theorem query_sample_at (x0 : FVec Ideal S12288x15360 .f32) (x1 : FVec Ideal S128 .f32) (s : Fin 2) (t : Fin 4096) (h : Fin 16) (b f : Fin 2) (k : Fin 32) :
    val_main_v78 (F := Ideal) x0 x1 (ix6 s t h b f k)
      = QkvMath.turn (fun j => val_main_v14 (F := Ideal) x0 x1 (ix3 ⟨4096 + (s.val * 4096 + t.val), by omega⟩ h j))
          (QkvHost.cosOf ⟨4096 + (s.val * 4096 + t.val), by omega⟩) (QkvHost.sinOf ⟨4096 + (s.val * 4096 + t.val), by omega⟩)
          ⟨b.val * 64 + f.val * 32 + k.val, by omega⟩ := by
  have row : QkvHost.place ⟨4096 + (s.val * 4096 + t.val), by omega⟩ = t := Fin.ext (by
    show (4096 + (s.val * 4096 + t.val)) % 4096 = t.val
    omega)
  rw [← pair_turn _ _ b f k _ (if b.val < 1 then val_main_v46 (F := Ideal) (ix2 t k) else val_main_v51 (F := Ideal) (ix2 t k)) _ _
    (by dsimp only; omega) rfl (by rw [row]) rfl rfl]
  pointwise [val_main_v78, val_main_v77, val_main_v76, val_main_v75, val_main_v74, val_main_v73, val_main_v72, val_main_v71, val_main_v70, val_main_v69, val_main_v68, val_main_v67, val_main_v66, val_main_v65, val_main_v64, val_main_v63, val_main_v62, val_main_v61, val_main_v60, val_main_v59, val_main_v58, val_main_v57, val_main_v56, val_main_v55, val_main_v54, val_main_v53, val_main_v52]
  rfl

/-- A query of any token, head `h`. -/
theorem query_turned_at (x0 : FVec Ideal S12288x15360 .f32) (x1 : FVec Ideal S128 .f32) (T : Fin 12288) (h : Fin 16) (e : Fin 128) :
    val_main_v106 (F := Ideal) x0 x1 (ix3 T h e)
      = QkvMath.turn (fun j => val_main_v14 (F := Ideal) x0 x1 (ix3 T h j)) (QkvHost.cosOf T) (QkvHost.sinOf T) e := by
  pointwise [val_main_v106, val_main_v105, val_main_v80, val_main_v79]
  have T_lt := T.isLt
  by_cases lt : T.val < 4096
  · refine (dif_pos lt).trans ?_
    rw [turn_context T _ e lt]
  · refine (dif_neg lt).trans ?_
    rw [query_sample_at]
    have T_eq : (⟨4096 + ((T.val - 4096) / 4096 * 4096 + (T.val - 4096) % 4096), by omega⟩ : Fin 12288) = T := Fin.ext (by dsimp only; omega)
    have e_eq : (⟨e.val / 64 * 64 + e.val / 32 % 2 * 32 + e.val % 32, by omega⟩ : Fin 128) = e := Fin.ext (by dsimp only; omega)
    dsimp only
    rw [T_eq, e_eq]

/-- The normed key of token `T`, head `h`. -/
theorem key_norm_at (x0 : FVec Ideal S12288x15360 .f32) (x2 : FVec Ideal S128 .f32) (T : Fin 12288) (h : Fin 4) (e : Fin 128) :
    val_main_v29 (F := Ideal) x0 x2 (ix3 T h e)
      = QkvMath.norm (fun j => x0 (ix2 T ⟨2048 + (h.val * 128 + j.val), by omega⟩)) (fun j => x2 (ix1 j)) e := by
  pointwise [val_main_v29, val_main_v28, val_main_v27, val_main_v26, val_main_v25, val_main_v24, val_main_v23, val_main_v22, val_main_v21, val_main_v20, val_main_v19, val_main_v18, val_main_v17, val_main_v16, val_main_v15, val_main_cst_2, val_main_cst_3, val_main_cst_4]
  rfl

/-- A key of a sample row, head `h`, turned. -/
theorem key_sample_at (x0 : FVec Ideal S12288x15360 .f32) (x2 : FVec Ideal S128 .f32) (s : Fin 2) (t : Fin 4096) (h : Fin 4) (b f : Fin 2) (k : Fin 32) :
    val_main_v102 (F := Ideal) x0 x2 (ix6 s t h b f k)
      = QkvMath.turn (fun j => val_main_v29 (F := Ideal) x0 x2 (ix3 ⟨4096 + (s.val * 4096 + t.val), by omega⟩ h j))
          (QkvHost.cosOf ⟨4096 + (s.val * 4096 + t.val), by omega⟩) (QkvHost.sinOf ⟨4096 + (s.val * 4096 + t.val), by omega⟩)
          ⟨b.val * 64 + f.val * 32 + k.val, by omega⟩ := by
  have row : QkvHost.place ⟨4096 + (s.val * 4096 + t.val), by omega⟩ = t := Fin.ext (by
    show (4096 + (s.val * 4096 + t.val)) % 4096 = t.val
    omega)
  rw [← pair_turn _ _ b f k _ (if b.val < 1 then val_main_v46 (F := Ideal) (ix2 t k) else val_main_v51 (F := Ideal) (ix2 t k)) _ _
    (by dsimp only; omega) rfl (by rw [row]) rfl rfl]
  pointwise [val_main_v102, val_main_v101, val_main_v100, val_main_v99, val_main_v98, val_main_v97, val_main_v96, val_main_v95, val_main_v94, val_main_v93, val_main_v92, val_main_v91, val_main_v90, val_main_v89, val_main_v88, val_main_v87, val_main_v86, val_main_v85, val_main_v84, val_main_v83, val_main_v82, val_main_v81, val_main_v56, val_main_v55, val_main_v54, val_main_v53, val_main_v52]
  rfl

/-- A key of any token, head `h`. -/
theorem key_turned_at (x0 : FVec Ideal S12288x15360 .f32) (x2 : FVec Ideal S128 .f32) (T : Fin 12288) (h : Fin 4) (e : Fin 128) :
    val_main_v110 (F := Ideal) x0 x2 (ix3 T h e)
      = QkvMath.turn (fun j => val_main_v29 (F := Ideal) x0 x2 (ix3 T h j)) (QkvHost.cosOf T) (QkvHost.sinOf T) e := by
  pointwise [val_main_v110, val_main_v109, val_main_v104, val_main_v103]
  have T_lt := T.isLt
  by_cases lt : T.val < 4096
  · refine (dif_pos lt).trans ?_
    rw [turn_context T _ e lt]
  · refine (dif_neg lt).trans ?_
    rw [key_sample_at]
    have T_eq : (⟨4096 + ((T.val - 4096) / 4096 * 4096 + (T.val - 4096) % 4096), by omega⟩ : Fin 12288) = T := Fin.ext (by dsimp only; omega)
    have e_eq : (⟨e.val / 64 * 64 + e.val / 32 % 2 * 32 + e.val % 32, by omega⟩ : Fin 128) = e := Fin.ext (by dsimp only; omega)
    dsimp only
    rw [T_eq, e_eq]

/-- The head of the reference's columns is the head of the fused projection's first 3072 columns. -/
theorem head_columns (x0 : FVec Ideal S12288x15360 .f32) (T : Fin 12288) (base l : ℕ) (fits : base + l < 3072) (j : Fin 128) (d : base % 128 = 0)
    (p : Fin 15360) (p_eq : p.val = base + (l / 128 * 128 + j.val)) :
    x0 (ix2 T p) = QkvMath.head base (fun q => x0 (ix2 T ⟨q.val, by omega⟩)) l j := by
  refine congrArg (fun i => x0 (ix2 T i)) (Fin.ext ?_)
  show p.val = (base + l / 128 * 128 + j.val) % 3072
  have j_lt := j.isLt
  rw [Nat.mod_eq_of_lt (by omega)]
  omega

/-- The queries. -/
theorem queries_at (x0 : FVec Ideal S12288x15360 .f32) (x1 : FVec Ideal S128 .f32) (T : Fin 12288) (l : Fin 2048) :
    val_main_v112 (F := Ideal) x0 x1 (ix2 T l)
      = QkvMath.turned 0 (fun q => x0 (ix2 T ⟨q.val, by omega⟩)) (fun j => x1 (ix1 j)) (QkvHost.cosOf T) (QkvHost.sinOf T) l.val
          * Ideal.ofBits .f32 0x3DB504F3#32 := by
  pointwise [val_main_v112, val_main_v111, val_main_v108, val_main_v107, val_main_cst_8]
  rw [query_turned_at]
  refine congrArg (fun p : EReal => p * Ideal.ofBits .f32 0x3DB504F3#32) ?_
  unfold QkvMath.turned
  refine congrArg (fun y => QkvMath.turn y _ _ _) (funext fun e => ?_)
  rw [query_norm_at]
  refine congrArg (fun x => QkvMath.norm x _ _) (funext fun j => ?_)
  exact head_columns x0 T 0 l.val (by omega) j (by decide) _ (by dsimp only; omega)

/-- The keys. -/
theorem keys_at (x0 : FVec Ideal S12288x15360 .f32) (x2 : FVec Ideal S128 .f32) (T : Fin 12288) (l : Fin 512) :
    val_main_v114 (F := Ideal) x0 x2 (ix2 T l)
      = QkvMath.turned 2048 (fun q => x0 (ix2 T ⟨q.val, by omega⟩)) (fun j => x2 (ix1 j)) (QkvHost.cosOf T) (QkvHost.sinOf T) l.val := by
  pointwise [val_main_v114, val_main_v113]
  rw [key_turned_at]
  unfold QkvMath.turned
  refine congrArg (fun y => QkvMath.turn y _ _ _) (funext fun e => ?_)
  rw [key_norm_at]
  refine congrArg (fun x => QkvMath.norm x _ _) (funext fun j => ?_)
  exact head_columns x0 T 2048 l.val (by omega) j (by decide) _ (by dsimp only)

/-- The keys before they are turned. -/
theorem cache_keys_at (x0 : FVec Ideal S12288x15360 .f32) (x2 : FVec Ideal S128 .f32) (T : Fin 12288) (l : Fin 512) :
    val_main_v116 (F := Ideal) x0 x2 (ix2 T l) = QkvMath.normed 2048 (fun q => x0 (ix2 T ⟨q.val, by omega⟩)) (fun j => x2 (ix1 j)) l.val := by
  pointwise [val_main_v116]
  rw [key_norm_at]
  unfold QkvMath.normed
  refine congrArg (fun x => QkvMath.norm x _ _) (funext fun j => ?_)
  exact head_columns x0 T 2048 l.val (by omega) j (by decide) _ (by dsimp only)

/-- The values. -/
theorem values_at (x0 : FVec Ideal S12288x15360 .f32) (T : Fin 12288) (l : Fin 512) :
    val_main_v30 (F := Ideal) x0 (ix2 T l) = x0 (ix2 T ⟨2560 + l.val, by omega⟩) := by
  pointwise [val_main_v30]

/-- The rounded values. -/
theorem rounded_values_at (x0 : FVec Ideal S12288x15360 .f32) (T : Fin 12288) (l : Fin 512) :
    val_main_v115 (F := Ideal) x0 (ix2 T l) = x0 (ix2 T ⟨2560 + l.val, by omega⟩) := by
  pointwise [val_main_v115, val_main_v30]

end Cert.QkvRef

end
-- ==== Proof.QkvPf.lean ====
module

public import proofs.«01_k».proof.Defs
public import proofs.«01_k».proof.Proof.Gen.QkvIdeal.Frame
public import proofs.«01_k».proof.Proof.Gen.QkvIdeal.Value
public import proofs.«01_k».proof.Proof.Gen.QkvRefIdeal.Run
public import proofs.«01_k».proof.Proof.Gen.QkvRefIdeal.Read
public import Idealize.ShloMosaic.Lib.Pipeline.ValueKit
public import Idealize.ShloMosaic.Lib.Pointwise
public import Idealize.ShloMosaic.Lib.Claim
public import Idealize.ShloMosaic.Lib.StableHlo.ReadAt
public import proofs.«01_k».proof.Proof.QkvKernel
public import proofs.«01_k».proof.Proof.QkvRef

/-! The projections of the attention branch: heads normed, turned by their place in the image, and laid out for the attention. -/

@[expose] public section

set_option maxRecDepth 16384

noncomputable section

namespace Cert.QkvPf

open Idealize.ShloMosaic Idealize.ShloMosaic.TcCoe Idealize.SL.Sem
open Cert.QkvIdeal Cert.QkvIdeal.Gen

variable (m : (ℓ : Loc nD τ sig) → Buf (Elt Ideal) ℓ)

/-- Which blocks grid point `t` reads and writes. -/
theorem idx_val : ∀ t : Fin cfg0.N, win0_0.index t = ![t.val, 0]
    ∧ win0_1.index t = ![t.val, 0]
    ∧ win0_2.index t = ![t.val, 0]
    ∧ win0_3.index t = ![0, 0]
    ∧ win0_4.index t = ![0, 0]
    ∧ win0_5.index t = ![t.val, 0]
    ∧ win0_6.index t = ![t.val, 0]
    ∧ win0_7.index t = ![t.val, 0]
    ∧ win0_8.index t = ![t.val, 0]
    ∧ win0_9.index t = ![t.val, 0] :=
  (by decide +kernel : ∀ t : Fin grid0.N, _)

/-- The first 3072 columns of the projection, token `T`. -/
def row (c : Dev nD) (T : Fin 12288) (q : Fin 3072) : EReal :=
  (m ((c : Thread nD τ).loc main_arg0) : FVec Ideal S12288x15360 .f32) (ix2 T ⟨q.val, by omega⟩)

/-- A gain vector. -/
def gain (x : FVec Ideal S128 .f32) (j : Fin 128) : EReal := x (ix1 j)

/-- The token that row `a` of block `t` is. -/
def token (t : Fin cfg0.N) (a : Fin 256) : Fin 12288 :=
  ⟨t.val * 256 + a.val, by have ht : t.val < 48 := lt_of_lt_of_eq t.isLt N_0; omega⟩

/-- The block of the projection. -/
theorem block0 (c : Dev nD) (t : Fin cfg0.N) (a : Fin 256) (q : Fin 3072) :
    (iblk m c 0 t : Vec Ideal S256x3072 .f32) (ix2 a q) = row m c (token t a) q := by
  unfold row token
  blk_point [iblk, V, idx_val t]

/-- The block of cosines. -/
theorem block1 (c : Dev nD) (t : Fin cfg0.N) (a : Fin 256) (j : Fin 128) :
    (iblk m c 1 t : Vec Ideal S256x128 .f32) (ix2 a j) = QkvHost.cosOf (token t a) j := by
  rw [← QkvHost.cos_at m c]
  unfold token
  blk_point [iblk, idx_val t]

/-- The block of signed sines. -/
theorem block2 (c : Dev nD) (t : Fin cfg0.N) (a : Fin 256) (j : Fin 128) :
    (iblk m c 2 t : Vec Ideal S256x128 .f32) (ix2 a j) = QkvHost.sinOf (token t a) j := by
  rw [← QkvHost.sin_at m c]
  unfold token
  blk_point [iblk, idx_val t]

/-- The gains of the queries, as the host lays them out. -/
theorem entry_gain1 (c : Dev nD) (j : Fin 128) : (V m c main_v37 : FVec Ideal S1x128 .f32) (ix2 0 j) = gain (m ((c : Thread nD τ).loc main_arg1)) j := by
  unfold V gain
  after_reads_simp
  pointwise

/-- The gains of the keys, as the host lays them out. -/
theorem entry_gain2 (c : Dev nD) (j : Fin 128) : (V m c main_v38 : FVec Ideal S1x128 .f32) (ix2 0 j) = gain (m ((c : Thread nD τ).loc main_arg2)) j := by
  unfold V gain
  after_reads_simp
  pointwise

/-- The block of the queries' gains. -/
theorem block3 (c : Dev nD) (t : Fin cfg0.N) (j : Fin 128) :
    (iblk m c 3 t : Vec Ideal S1x128 .f32) (ix2 0 j) = gain (m ((c : Thread nD τ).loc main_arg1)) j := by
  rw [← entry_gain1]
  blk_point [iblk, idx_val t]

/-- The block of the keys' gains. -/
theorem block4 (c : Dev nD) (t : Fin cfg0.N) (j : Fin 128) :
    (iblk m c 4 t : Vec Ideal S1x128 .f32) (ix2 0 j) = gain (m ((c : Thread nD τ).loc main_arg2)) j := by
  rw [← entry_gain2]
  blk_point [iblk, idx_val t]

/-- The query array after the run is the reference's term. -/
theorem final5 (c : Dev nD) : (dats m 0 c).arrAt 5 (cfgs 0).N
    = Cert.QkvRefIdeal.Read.val_main_v112 (F := Ideal) (m ((c : Thread nD τ).loc main_arg0)) (m ((c : Thread nD τ).loc main_arg1)) := by
  refine (dats m 0 c).arrAt_eq_of_covers 5 _ (by decide +kernel) fun t hf y => ?_
  have ht : t.val < 48 := lt_of_lt_of_eq t.isLt N_0
  blk_simp
  rw [after0_5]
  idx_vars y
  have place_eq : ((View.whole main_v39_0).slice (win0_5.rect t)).emb (ix2 y0 y1) = ix2 (token t y0) y1 := by
    funext a
    fin_cases a
    · exact Fin.ext (by unfold token; blk_simp [idx_val t]; rfl)
    · exact Fin.ext (by blk_simp [idx_val t]; rfl)
  refine (QkvKernel.out5_at _ _ _ _ _ y0 y1).trans (Eq.trans ?_ ((QkvRef.queries_at _ _ (token t y0) y1).symm.trans (congrArg _ place_eq.symm)))
  exact congrArg (fun p : EReal => p * Ideal.ofBits .f32 0x3DB504F3#32) (QkvMath.turned_congr (block0 m c t y0) (block3 m c t) (block1 m c t y0) (block2 m c t y0))

/-- The key array after the run is the reference's term. -/
theorem final6 (c : Dev nD) : (dats m 0 c).arrAt 6 (cfgs 0).N
    = Cert.QkvRefIdeal.Read.val_main_v114 (F := Ideal) (m ((c : Thread nD τ).loc main_arg0)) (m ((c : Thread nD τ).loc main_arg2)) := by
  refine (dats m 0 c).arrAt_eq_of_covers 6 _ (by decide +kernel) fun t hf y => ?_
  have ht : t.val < 48 := lt_of_lt_of_eq t.isLt N_0
  blk_simp
  rw [after0_6]
  idx_vars y
  have place_eq : ((View.whole main_v39_1).slice (win0_6.rect t)).emb (ix2 y0 y1) = ix2 (token t y0) y1 := by
    funext a
    fin_cases a
    · exact Fin.ext (by unfold token; blk_simp [idx_val t]; rfl)
    · exact Fin.ext (by blk_simp [idx_val t]; rfl)
  refine (QkvKernel.out6_at _ _ _ _ _ y0 y1).trans (Eq.trans ?_ ((QkvRef.keys_at _ _ (token t y0) y1).symm.trans (congrArg _ place_eq.symm)))
  exact QkvMath.turned_congr (block0 m c t y0) (block4 m c t) (block1 m c t y0) (block2 m c t y0)

/-- The array of keys before they are turned after the run is the reference's term. -/
theorem final8 (c : Dev nD) : (dats m 0 c).arrAt 8 (cfgs 0).N
    = Cert.QkvRefIdeal.Read.val_main_v116 (F := Ideal) (m ((c : Thread nD τ).loc main_arg0)) (m ((c : Thread nD τ).loc main_arg2)) := by
  refine (dats m 0 c).arrAt_eq_of_covers 8 _ (by decide +kernel) fun t hf y => ?_
  have ht : t.val < 48 := lt_of_lt_of_eq t.isLt N_0
  blk_simp
  rw [after0_8]
  idx_vars y
  have place_eq : ((View.whole main_v39_3).slice (win0_8.rect t)).emb (ix2 y0 y1) = ix2 (token t y0) y1 := by
    funext a
    fin_cases a
    · exact Fin.ext (by unfold token; blk_simp [idx_val t]; rfl)
    · exact Fin.ext (by blk_simp [idx_val t]; rfl)
  refine (QkvKernel.out8_at _ _ _ _ _ y0 y1).trans (Eq.trans ?_ ((QkvRef.cache_keys_at _ _ (token t y0) y1).symm.trans (congrArg _ place_eq.symm)))
  exact QkvMath.normed_congr (block0 m c t y0) (block4 m c t)

/-- The array of rounded values after the run is the reference's term. -/
theorem final7 (c : Dev nD) : (dats m 0 c).arrAt 7 (cfgs 0).N
    = Cert.QkvRefIdeal.Read.val_main_v115 (F := Ideal) (m ((c : Thread nD τ).loc main_arg0)) := by
  refine (dats m 0 c).arrAt_eq_of_covers 7 _ (by decide +kernel) fun t hf y => ?_
  have ht : t.val < 48 := lt_of_lt_of_eq t.isLt N_0
  blk_simp
  rw [after0_7]
  idx_vars y
  have place_eq : ((View.whole main_v39_2).slice (win0_7.rect t)).emb (ix2 y0 y1) = ix2 (token t y0) y1 := by
    funext a
    fin_cases a
    · exact Fin.ext (by unfold token; blk_simp [idx_val t]; rfl)
    · exact Fin.ext (by blk_simp [idx_val t]; rfl)
  refine (QkvKernel.out7_at _ _ _ _ _ y0 y1).trans (Eq.trans ?_ ((QkvRef.rounded_values_at _ (token t y0) y1).symm.trans (congrArg _ place_eq.symm)))
  exact block0 m c t y0 _

/-- The array of values after the run is the reference's term. -/
theorem final9 (c : Dev nD) : (dats m 0 c).arrAt 9 (cfgs 0).N
    = Cert.QkvRefIdeal.Read.val_main_v30 (F := Ideal) (m ((c : Thread nD τ).loc main_arg0)) := by
  refine (dats m 0 c).arrAt_eq_of_covers 9 _ (by decide +kernel) fun t hf y => ?_
  have ht : t.val < 48 := lt_of_lt_of_eq t.isLt N_0
  blk_simp
  rw [after0_9]
  idx_vars y
  have place_eq : ((View.whole main_v39_4).slice (win0_9.rect t)).emb (ix2 y0 y1) = ix2 (token t y0) y1 := by
    funext a
    fin_cases a
    · exact Fin.ext (by unfold token; blk_simp [idx_val t]; rfl)
    · exact Fin.ext (by blk_simp [idx_val t]; rfl)
  refine (QkvKernel.out9_at _ _ _ _ _ y0 y1).trans (Eq.trans ?_ ((QkvRef.values_at _ (token t y0) y1).symm.trans (congrArg _ place_eq.symm)))
  exact block0 m c t y0 _

set_option maxHeartbeats 4000000 in
/-- On the same arguments the two programs leave the same result arrays. -/
theorem algebraic : Cert.algebraic_QkvIdeal_QkvRefIdeal := by
  intro m g m' g' _ hagree
  refine ⟨fun c => (dats m 0 c).arrAt 5 (cfgs 0).N, fun c => (dats m 0 c).arrAt 6 (cfgs 0).N, fun c => (dats m 0 c).arrAt 7 (cfgs 0).N,
    fun c => (dats m 0 c).arrAt 8 (cfgs 0).N, fun c => (dats m 0 c).arrAt 9 (cfgs 0).N, Cert.QkvIdeal.Value.run_blocks m g,
    Idealize.ShloMosaic.θ_run_mono (Cert.QkvRefIdeal.Value.run (F := Ideal) m' g') fun r h c => ?_⟩
  obtain ⟨h0, h1, h2⟩ := hagree c
  obtain ⟨r0, r1, r2, r3, r4, rest⟩ := h c
  refine ⟨r0.trans ?_, r1.trans ?_, r2.trans ?_, r3.trans ?_, r4.trans ?_, rest⟩
  · exact (Cert.QkvRefIdeal.Read.val_main_v112_eq m' c).trans ((congrArg₂ (Cert.QkvRefIdeal.Read.val_main_v112 (F := Ideal)) h0 h1).trans (final5 m c).symm)
  · exact (Cert.QkvRefIdeal.Read.val_main_v114_eq m' c).trans ((congrArg₂ (Cert.QkvRefIdeal.Read.val_main_v114 (F := Ideal)) h0 h2).trans (final6 m c).symm)
  · refine (Cert.QkvRefIdeal.Read.val_main_v115_eq _).trans ?_
    exact (congrArg (Cert.QkvRefIdeal.Read.val_main_v115 (F := Ideal)) h0).trans (final7 m c).symm
  · refine (Cert.QkvRefIdeal.Read.val_main_v116_eq _ _).trans ?_
    exact (congrArg₂ (Cert.QkvRefIdeal.Read.val_main_v116 (F := Ideal)) h0 h2).trans (final8 m c).symm
  · refine (Cert.QkvRefIdeal.Read.val_main_v30_eq _).trans ?_
    exact (congrArg (Cert.QkvRefIdeal.Read.val_main_v30 (F := Ideal)) h0).trans (final9 m c).symm

/-- The reference leaves its arguments as they were, and no semaphore raised: it declares none. -/
theorem ref_frame : Cert.quiescent_QkvRefIdeal := fun m ρ _ =>
  (θ_run Cert.QkvRefIdeal.defs _ _).mono
    (fun r h => ⟨fun c => (h c).2.2.2.2.2, sem_eq_zero_of_no_sems (by decide) r.2⟩)
    (Cert.QkvRefIdeal.Value.run (F := Ideal) m ρ)

end Cert.QkvPf

end
-- ==== Proof.StateMath.lean ====
/- The mathematics of the recurrence over one chunk of 128 tokens: prefix sums by doubling, what is left after a token,
   and the state after the chunk. -/
module

public import Idealize.ShloMosaic.Lib.Pipeline.ValueKit
public import proofs.«01_k».proof.Proof.AttnMath

@[expose] public section

noncomputable section

namespace Cert.StateMath

open Idealize.ShloMosaic
open Cert.AttnMath

/-- The sum of the entries up to and with `j`. -/
def upto (f : Fin 128 → EReal) (j : Fin 128) : EReal := ∑ s : Fin 128, if s.val ≤ j.val then f s else 0

/-- The sum of the entries from `j` on. -/
def since (f : Fin 128 → EReal) (j : Fin 128) : EReal := ∑ s : Fin 128, if j.val ≤ s.val then f s else 0

/-- The sum of the last `d` entries up to and with `j`. -/
def win (d : ℕ) (f : Fin 128 → EReal) (j : Fin 128) : EReal := ∑ s : Fin 128, if s.val ≤ j.val ∧ j.val < s.val + d then f s else 0

/-- A window of one entry is the entry. -/
theorem win_one (f : Fin 128 → EReal) (j : Fin 128) : win 1 f j = f j := by
  unfold win
  rw [Finset.sum_eq_single j]
  · rw [if_pos ⟨le_refl _, by omega⟩]
  · intro s _ ne
    have away : ¬(s.val ≤ j.val ∧ j.val < s.val + 1) := fun h => ne (Fin.ext (by omega))
    rw [if_neg away]
  · intro h; exact absurd (Finset.mem_univ j) h

/-- A window of all 128 entries is the prefix sum. -/
theorem win_all (f : Fin 128 → EReal) (j : Fin 128) : win 128 f j = upto f j := by
  unfold win upto
  refine Finset.sum_congr rfl fun s _ => ?_
  have same : (s.val ≤ j.val ∧ j.val < s.val + 128) ↔ s.val ≤ j.val := ⟨fun h => h.1, fun h => ⟨h, by omega⟩⟩
  simp only [same]

/-- A window and the window before it make one of twice the width. -/
theorem win_double (d : ℕ) (f : Fin 128 → EReal) (j : Fin 128) :
    (win d f j + if h : d ≤ j.val then win d f ⟨j.val - d, by omega⟩ else 0) = win (2 * d) f j := by
  unfold win
  by_cases h : d ≤ j.val
  · rw [dif_pos h, ← Finset.sum_add_distrib]
    refine Finset.sum_congr rfl fun s _ => ?_
    show (_ + if s.val ≤ j.val - d ∧ j.val - d < s.val + d then f s else 0) = _
    by_cases a : s.val ≤ j.val ∧ j.val < s.val + d
    · rw [if_pos a, if_neg (by omega), if_pos (by omega), add_zero]
    · rw [if_neg a, zero_add]
      by_cases b : s.val ≤ j.val - d ∧ j.val - d < s.val + d
      · rw [if_pos b, if_pos (by omega)]
      · rw [if_neg b, if_neg (by omega)]
  · rw [dif_neg h, add_zero]
    refine Finset.sum_congr rfl fun s _ => ?_
    by_cases a : s.val ≤ j.val ∧ j.val < s.val + d
    · rw [if_pos a, if_pos (by omega)]
    · rw [if_neg a, if_neg (by omega)]

/-- The prefix sum at the last entry is the whole sum. -/
theorem upto_last (f : Fin 128 → EReal) (j : Fin 128) (last : j.val = 127) : upto f j = ∑ s, f s :=
  Finset.sum_congr rfl fun s _ => if_pos (by omega)

/-- The suffix sum at the first entry is the whole sum. -/
theorem since_first (f : Fin 128 → EReal) (j : Fin 128) (first : j.val = 0) : since f j = ∑ s, f s :=
  Finset.sum_congr rfl fun s _ => if_pos (by omega)

/-- The prefix sum of the entries in reverse order is the suffix sum. -/
theorem upto_rev (f : Fin 128 → EReal) (j : Fin 128) : upto (fun s => f (Fin.rev s)) j = since f (Fin.rev j) := by
  unfold upto since
  refine Eq.trans ?_ (Equiv.sum_comp Fin.revPerm (fun s : Fin 128 => if (Fin.rev j).val ≤ s.val then f s else 0))
  refine Finset.sum_congr rfl fun s _ => ?_
  have same : (Fin.rev j).val ≤ (Fin.rev s).val ↔ s.val ≤ j.val := by simp only [Fin.val_rev]; omega
  show _ = (if (Fin.rev j).val ≤ (Fin.rev s).val then f (Fin.rev s) else 0)
  simp only [same]

/-- A sum of real numbers, some left out, is taken among the real numbers. -/
theorem sum_coe (p : Fin 128 → Prop) [DecidablePred p] (r : Fin 128 → ℝ) :
    (∑ s, if p s then (r s : EReal) else 0) = ((∑ s, if p s then r s else 0 : ℝ) : EReal) := by
  have lift : ∀ t : Finset (Fin 128), (∑ s ∈ t, if p s then (r s : EReal) else 0) = ((∑ s ∈ t, if p s then r s else 0 : ℝ) : EReal) := by
    intro t
    induction t using Finset.induction_on with
    | empty => simp
    | insert a t fresh ih =>
      rw [Finset.sum_insert fresh, Finset.sum_insert fresh, ih, EReal.coe_add]
      congr 1
      by_cases h : p a
      · rw [if_pos h, if_pos h]
      · rw [if_neg h, if_neg h]; rfl
  exact lift _

/-- For real entries the whole sum less a prefix sum, with the entry itself again, is the suffix sum. -/
theorem since_of_upto (f : Fin 128 → EReal) (real : ∀ s, IsReal (f s)) (j : Fin 128) : (∑ s, f s) - upto f j + f j = since f j := by
  choose r f_eq using real
  have whole : (∑ s, f s) = ((∑ s, r s : ℝ) : EReal) := by
    have h := sum_coe (fun _ => True) r
    simp only [if_true] at h
    rw [← h]; exact Finset.sum_congr rfl fun s _ => f_eq s
  have first : upto f j = ((∑ s : Fin 128, if s.val ≤ j.val then r s else 0 : ℝ) : EReal) := by
    rw [← sum_coe (fun s : Fin 128 => s.val ≤ j.val) r]
    unfold upto
    exact Finset.sum_congr rfl fun s _ => by rw [f_eq s]
  have rest : since f j = ((∑ s : Fin 128, if j.val ≤ s.val then r s else 0 : ℝ) : EReal) := by
    rw [← sum_coe (fun s : Fin 128 => j.val ≤ s.val) r]
    unfold since
    exact Finset.sum_congr rfl fun s _ => by rw [f_eq s]
  rw [whole, first, rest, f_eq j, ← EReal.coe_sub, ← EReal.coe_add]
  refine congrArg _ ?_
  have own : r j = ∑ s : Fin 128, if s = j then r s else 0 := by simp
  rw [own, ← Finset.sum_sub_distrib, ← Finset.sum_add_distrib]
  refine Finset.sum_congr rfl fun s _ => ?_
  by_cases e : s = j
  · subst e; simp
  · rw [if_neg e]
    have ne : s.val ≠ j.val := fun h => e (Fin.ext h)
    by_cases a : s.val ≤ j.val
    · rw [if_pos a, if_neg (by omega)]; simp
    · rw [if_neg a, if_pos (by omega)]; simp

/-- The state after a chunk: the state before it decayed by the whole chunk, and every token's input weighed by its step and
    by the decay from it to the chunk's end, times the token's row of `B`. The sums that the decays come from: `A` of the
    whole chunk, `P` up to a token. -/
def chunk (st : EReal) (x dt P B : Fin 128 → EReal) (A : EReal) : EReal :=
  st * Ideal.exp A + ∑ s, x s * (dt s * Ideal.exp (A - P s)) * B s

/-- The same with the step multiplied into the input first. -/
theorem chunk_eq (st : EReal) (x dt P B : Fin 128 → EReal) (A : EReal) :
    chunk st x dt P B A = st * Ideal.exp A + ∑ s, B s * (x s * dt s * Ideal.exp (A - P s)) :=
  congrArg (st * Ideal.exp A + ·) (Finset.sum_congr rfl fun s _ => by rw [mul_comm (B s), ← mul_assoc (x s)])

/-- The state after a chunk whose tokens are taken in reverse order. -/
theorem chunk_rev (st : EReal) (x dt P B : Fin 128 → EReal) (A : EReal) :
    chunk st (fun s => x (Fin.rev s)) (fun s => dt (Fin.rev s)) (fun s => P (Fin.rev s)) (fun s => B (Fin.rev s)) A
      = chunk st x dt P B A :=
  congrArg (st * Ideal.exp A + ·) (Equiv.sum_comp Fin.revPerm (fun s => x s * (dt s * Ideal.exp (A - P s)) * B s))

end Cert.StateMath

end
-- ==== Proof.StateKernel.lean ====
module

public import proofs.«01_k».proof.Proof.Gen.StateIdeal.Frame
public import proofs.«01_k».proof.Proof.StateMath
public import Idealize.ShloMosaic.Lib.Pipeline.ValueKit
public import Idealize.ShloMosaic.Lib.Pointwise
public import Idealize.ShloMosaic.Lib.KernelVsHost

/-! What one head's store leaves in the state, read at an element: the payloads of the scan kernel that the states come from. -/

@[expose] public section

set_option maxRecDepth 16384

noncomputable section

namespace Cert.StateKernel

open Idealize.ShloMosaic Idealize.ShloMosaic.TcCoe Idealize.SL.Sem
open Cert.StateIdeal Cert.StateIdeal.Gen

variable [hF : Cert.StateIdeal.Facts]
open Cert.StateIdeal.Facts

/-- A choice on a true bit is its first member. -/
theorem pick_first {α : Type} (p q : α) : Scalar.select 1#1 p q = p := by simp [Scalar.select]

/-- A choice on a false bit is its second member. -/
theorem pick_second {α : Type} (p q : α) : Scalar.select 0#1 p q = q := by simp [Scalar.select]

/-- The comparison of two token numbers. -/
theorem sge_bit (a b : Fin 128) : IntOp.cmpi .sge (BitVec.ofNat 32 a.val) (BitVec.ofNat 32 b.val) = BitVec.ofBool (decide (b.val ≤ a.val)) := by
  revert a b
  decide +kernel

/-- One doubling: the row, and where a token has `d` tokens before it the row `d` tokens earlier. -/
def doubled (b : BitVec 32) (x : FVec Ideal S32x128 .f32) : FVec Ideal S32x128 .f32 :=
  addf x (select (cmpi .sge (iota .tc S32x128 32 [1] iota_S32x128_d1_w32) (broadcast S32x128 b))
    (dynamicRotate 1 b none x rotates_S32x128_d1) (broadcast S32x128 (Scalar.ofBits (F := Ideal) .f32 0x00000000#32)))

/-- A doubling of windows of `d` tokens gives windows of `2 d` tokens. -/
theorem doubled_at (d : ℕ) (b : BitVec 32) (d_lt : d < 128) (b_eq : b = BitVec.ofNat 32 d) (x : FVec Ideal S32x128 .f32) (h : Fin 32)
    (f : Fin 128 → EReal) (x_eq : ∀ s : Fin 128, x (ix2 h s) = StateMath.win d f s) (s : Fin 128) :
    doubled b x (ix2 h s) = StateMath.win (2 * d) f s := by
  rw [← StateMath.win_double, ← x_eq]
  subst b_eq
  have d_nat : (BitVec.ofNat 32 d).toNat = d := by rw [BitVec.toNat_ofNat]; exact Nat.mod_eq_of_lt (by omega)
  have turn : dynamicRotate 1 (BitVec.ofNat 32 d) none x rotates_S32x128_d1 (ix2 h s) = x (ix2 h ⟨(s.val + 128 - d) % 128, Nat.mod_lt _ (by omega)⟩) := by
    refine dynamicRotate_apply (s := S32x128) (1 : Fin 2) _ _ _ _ _ fun b => ?_
    match b with
    | ⟨0, _⟩ => rfl
    | ⟨1, _⟩ =>
      show (s.val + 128 - d) % 128 = (s.val + 128 - (BitVec.ofNat 32 d).toNat % 128) % 128
      rw [d_nat, Nat.mod_eq_of_lt d_lt]
  have bit : cmpi .sge (iota .tc S32x128 32 [1] iota_S32x128_d1_w32) (broadcast S32x128 (BitVec.ofNat 32 d)) (ix2 h s)
      = BitVec.ofBool (decide (d ≤ s.val)) := by
    pointwise
    exact sge_bit s ⟨d, d_lt⟩
  unfold doubled
  show x (ix2 h s) + Scalar.select (cmpi .sge (iota .tc S32x128 32 [1] iota_S32x128_d1_w32) (broadcast S32x128 (BitVec.ofNat 32 d)) (ix2 h s))
    (dynamicRotate 1 (BitVec.ofNat 32 d) none x rotates_S32x128_d1 (ix2 h s)) (Ideal.ofBits .f32 0x00000000#32) = _
  rw [bit, turn]
  refine congrArg (x (ix2 h s) + ·) ?_
  by_cases le : d ≤ s.val
  · rw [dif_pos le, decide_eq_true le]
    refine (pick_first _ _).trans ?_
    rw [x_eq]
    refine congrArg (StateMath.win d f) (Fin.ext ?_)
    show (s.val + 128 - d) % 128 = s.val - d
    omega
  · rw [dif_neg le, decide_eq_false le]
    refine (pick_second _ _).trans ?_
    simp [Ideal.ofBits, Ideal.ieee]

/-- Seven doublings are the prefix sums of every row. -/
theorem prefix_at (x : FVec Ideal S32x128 .f32) (h : Fin 32) (s : Fin 128) :
    k0_pay14 (F := Ideal) (iota .tc S32x128 32 [1] iota_S32x128_d1_w32) (k0_pay13 (F := Ideal) x) 8#32 (ix2 h s)
      = StateMath.upto (fun s => x (ix2 h s)) s := by
  rw [← StateMath.win_all]
  exact doubled_at 64 64#32 (by omega) rfl _ h _ (doubled_at 32 32#32 (by omega) rfl _ h _ (doubled_at 16 16#32 (by omega) rfl _ h _
    (doubled_at 8 8#32 (by omega) rfl _ h _ (doubled_at 4 4#32 (by omega) rfl _ h _ (doubled_at 2 2#32 (by omega) rfl _ h _
    (doubled_at 1 1#32 (by omega) rfl x h (fun s => x (ix2 h s)) fun s => (StateMath.win_one (fun s => x (ix2 h s)) s).symm)))))) s

/-- What every token's step is weighed by: the sums up to it, or for the second direction the sums from it on. -/
def sums (d : ℕ) (f : Fin 128 → EReal) (s : Fin 128) : EReal :=
  if d = 0 then StateMath.upto f s else (∑ j, f j) - StateMath.upto f s + f s

/-- The sum of a row. -/
theorem total_at (x : FVec Ideal S32x128 .f32) (h : Fin 32) :
    k0_pay15 (F := Ideal) (iota .tc S32x128 32 [1] iota_S32x128_d1_w32) (k0_pay13 (F := Ideal) x) 8#32 (ix2 h 0)
      = ∑ j, x (ix2 h j) := by
  refine Eq.trans ?_ ((prefix_at x h ⟨127, by omega⟩).trans (StateMath.upto_last _ _ rfl))
  pointwise [k0_pay15]

/-- The bit that tells the first direction. -/
theorem dir_bit (d : Fin 2) : Scalar.cmpi .eq (BitVec.ofNat 32 d.val) 0#32 = BitVec.ofBool (decide (d.val = 0)) := by
  revert d; decide

/-- The weight of a token's step: the step times the decay from the token to the chunk's end. -/
theorem weight_at (d : Fin 2) (dt da : FVec Ideal S32x128 .f32) (h : Fin 32) (s : Fin 128) :
    k0_pay19 (F := Ideal) (Scalar.cmpi .eq (BitVec.ofNat 32 d.val) 0#32) dt da (iota .tc S32x128 32 [1] iota_S32x128_d1_w32) (k0_pay13 (F := Ideal) da) 8#32
        (ix2 h s)
      = dt (ix2 h s) * Ideal.exp ((∑ j, da (ix2 h j)) - sums d.val (fun j => da (ix2 h j)) s) := by
  have total := total_at da h
  have sum_at : k0_pay17 (F := Ideal) (Scalar.cmpi .eq (BitVec.ofNat 32 d.val) 0#32) da (iota .tc S32x128 32 [1] iota_S32x128_d1_w32) (k0_pay13 (F := Ideal) da) 8#32
      (ix2 h s) = sums d.val (fun j => da (ix2 h j)) s := by
    unfold k0_pay17 sums
    rw [dir_bit]
    by_cases first : d.val = 0
    · rw [if_pos first, decide_eq_true first]
      exact (congrFun (pick_first _ _) _).trans (prefix_at da h s)
    · rw [if_neg first, decide_eq_false first]
      refine (congrFun (pick_second _ _) _).trans ?_
      rw [← total, ← prefix_at da h s]
      pointwise
  rw [← sum_at, ← total]
  pointwise [k0_pay19]

/-- The decay of the whole chunk. -/
theorem decay_at (da : FVec Ideal S32x128 .f32) (h : Fin 32) :
    k0_pay20 (F := Ideal) (iota .tc S32x128 32 [1] iota_S32x128_d1_w32) (k0_pay13 (F := Ideal) da) 8#32 (ix2 h 0)
      = Ideal.exp (∑ j, da (ix2 h j)) := by
  rw [← total_at da h]
  rfl

/-- The steps' rows of the direction's heads. -/
theorem step_at (i : grid0.Coords) (x : Vec Ideal S128x128 .f32) (h : Fin 32) (s : Fin 128) :
    k0_pay7 (F := Ideal) i x (ix2 h s) = x (ix2 ⟨(i 1).val * 32 + h.val, by have := (i 1).isLt; change (i 1).val < 2 at this; omega⟩ s) := by
  have lt : (i 1).val < 2 := (i 1).isLt
  unfold k0_pay7
  dsimp only
  rw [dir_bit ⟨(i 1).val, lt⟩]
  by_cases first : (i 1).val = 0
  · rw [decide_eq_true first]
    refine (congrFun (pick_first _ _) _).trans ?_
    pointwise [k0_pay5]
    exact congrArg x (congrArg (ix2 · s) (Fin.ext (by show h.val = (i 1).val * 32 + h.val; omega)))
  · rw [decide_eq_false first]
    refine (congrFun (pick_second _ _) _).trans ?_
    pointwise [k0_pay5]
    exact congrArg x (congrArg (ix2 · s) (Fin.ext (by show 32 + h.val = (i 1).val * 32 + h.val; omega)))

/-- The rows of step times decay rate of the direction's heads. -/
theorem rate_at (i : grid0.Coords) (x : Vec Ideal S128x128 .f32) (h : Fin 32) (s : Fin 128) :
    k0_pay8 (F := Ideal) i x (ix2 h s) = x (ix2 ⟨64 + (i 1).val * 32 + h.val, by have := (i 1).isLt; change (i 1).val < 2 at this; omega⟩ s) := by
  have lt : (i 1).val < 2 := (i 1).isLt
  unfold k0_pay8
  dsimp only
  rw [dir_bit ⟨(i 1).val, lt⟩]
  by_cases first : (i 1).val = 0
  · rw [decide_eq_true first]
    refine (congrFun (pick_first _ _) _).trans ?_
    pointwise [k0_pay5]
    exact congrArg x (congrArg (ix2 · s) (Fin.ext (by show 64 + h.val = 64 + (i 1).val * 32 + h.val; omega)))
  · rw [decide_eq_false first]
    refine (congrFun (pick_second _ _) _).trans ?_
    pointwise [k0_pay5]
    exact congrArg x (congrArg (ix2 · s) (Fin.ext (by show 96 + h.val = 64 + (i 1).val * 32 + h.val; omega)))

/-- The store of head `h`: the state decayed, and the weighed inputs times the rows of `B`. -/
def headPiece (h : ℕ) (h1 : S32x1.Slices ![h, 0] S1x1) (h2 : S32x128.Slices ![h, 0] S1x128) (bg : FVec Ideal S128x128 .bf16) (w : FVec Ideal S32x128 .f32)
    (cd : FVec Ideal S32x1 .f32) (st : Vec Ideal S1x64x128 .f32) (x : Vec Ideal S64x128 .f32) : FVec Ideal S1x64x128 .f32 :=
  shapeCast S1x64x128
    (addf
      (mulf (shapeCast S64x128 st shapeCasts_S1x64x128_S64x128) (broadcastTo S64x128 (extractStridedSlice S1x1 ![h, 0] cd h1) broadcasts_S1x1_S64x128))
      (matmul dot_S64x128_S128x128_S64x128_1_0_0_1_n_n none
        (truncf .bf16
          (mulf (shapeCast S64x128 x shapeCasts_S64x128_S64x128)
            (broadcastTo S64x128 (extractStridedSlice S1x128 ![h, 0] w h2) broadcasts_S1x128_S64x128)) bitsLt_bf16_f32)
        bg (constant S64x128 .f32 0x00000000#32)))
    shapeCasts_S64x128_S1x64x128

/-- The store of head `h`, read at an element. -/
theorem headPiece_at (h : ℕ) (h_lt : h < 32) (h1 : S32x1.Slices ![h, 0] S1x1) (h2 : S32x128.Slices ![h, 0] S1x128) (bg : FVec Ideal S128x128 .bf16)
    (w : FVec Ideal S32x128 .f32) (cd : FVec Ideal S32x1 .f32) (st : Vec Ideal S1x64x128 .f32) (x : Vec Ideal S64x128 .f32) (p : Fin 64) (n : Fin 128) :
    headPiece h h1 h2 bg w cd st x (ix3 0 p n)
      = st (ix3 0 p n) * cd (ix2 ⟨h, h_lt⟩ 0) + ∑ s, x (ix2 p s) * w (ix2 ⟨h, h_lt⟩ s) * bg (ix2 s n) := by
  pointwise [headPiece]

/-- The states after a chunk: `x1` the inputs with the tokens last, `x2` the rows of `B`, `x5` the steps and rates with the tokens last, `S` the
    states before. -/
def after (i : grid0.Coords) (x1 : Vec Ideal S2048x128 .f32) (x2 : Vec Ideal S128x1024 .f32) (x5 : Vec Ideal S128x128 .f32) (S : S32x64x128.Idx → EReal)
    (y : S32x64x128.Idx) : EReal :=
  have lt : (i 1).val < 2 := (i 1).isLt
  have y0 : (y 0).val < 32 := (y 0).isLt
  have y1 : (y 1).val < 64 := (y 1).isLt
  have y2 : (y 2).val < 128 := (y 2).isLt
  StateMath.chunk (S y) (fun s => x1 (ix2 ⟨64 * (y 0).val + (y 1).val, by omega⟩ s)) (fun s => x5 (ix2 ⟨(i 1).val * 32 + (y 0).val, by omega⟩ s))
    (sums (i 1).val fun s => x5 (ix2 ⟨64 + (i 1).val * 32 + (y 0).val, by omega⟩ s))
    (fun s => x2 (ix2 s ⟨(y 0).val / 4 * 128 + (y 2).val, by omega⟩))
    (∑ s, x5 (ix2 ⟨64 + (i 1).val * 32 + (y 0).val, by omega⟩ s))

/-- The store of head `h` is the head's part of the states after the chunk. -/
theorem piece_at (i : grid0.Coords) (x1 : Vec Ideal S2048x128 .f32) (x2 : Vec Ideal S128x1024 .f32) (x5 : Vec Ideal S128x128 .f32) (S : S32x64x128.Idx → EReal)
    (h : ℕ) (h_lt : h < 32) (h1 : S32x1.Slices ![h, 0] S1x1) (h2 : S32x128.Slices ![h, 0] S1x128) (bg : FVec Ideal S128x128 .bf16)
    (st : Vec Ideal S1x64x128 .f32) (x : Vec Ideal S64x128 .f32) (z : S1x64x128.Idx) (y : S32x64x128.Idx) (e0 : (y 0).val = h + (z 0).val)
    (e1 : (y 1).val = (z 1).val) (e2 : (y 2).val = (z 2).val)
    (st_eq : ∀ (p : Fin 64) (n : Fin 128), st (ix3 0 p n) = S (ix3 ⟨h, h_lt⟩ p n))
    (x_eq : ∀ (p : Fin 64) (s : Fin 128), x (ix2 p s) = x1 (ix2 ⟨64 * h + p.val, by omega⟩ s))
    (b_eq : ∀ s n : Fin 128, bg (ix2 s n) = x2 (ix2 s ⟨h / 4 * 128 + n.val, by omega⟩)) :
    headPiece h h1 h2 bg
        (k0_pay19 (F := Ideal) (Scalar.cmpi .eq (BitVec.ofNat 32 (i 1).val) 0#32) (k0_pay7 (F := Ideal) i x5) (k0_pay8 (F := Ideal) i x5)
          (iota .tc S32x128 32 [1] iota_S32x128_d1_w32) (k0_pay13 (F := Ideal) (k0_pay8 (F := Ideal) i x5)) 8#32)
        (k0_pay20 (F := Ideal) (iota .tc S32x128 32 [1] iota_S32x128_d1_w32) (k0_pay13 (F := Ideal) (k0_pay8 (F := Ideal) i x5)) 8#32) st x z
      = after i x1 x2 x5 S y := by
  idx_vars y
  idx_vars z
  have z0_eq : z0 = 0 := Subsingleton.elim _ _
  subst z0_eq
  obtain rfl : y0 = ⟨h, h_lt⟩ := Fin.ext e0
  obtain rfl : y1 = z1 := Fin.ext e1
  obtain rfl : y2 = z2 := Fin.ext e2
  rw [headPiece_at h h_lt, st_eq, decay_at]
  have lt : (i 1).val < 2 := (i 1).isLt
  have rates : (fun j => k0_pay8 (F := Ideal) i x5 (ix2 ⟨h, h_lt⟩ j)) = fun j => x5 (ix2 ⟨64 + (i 1).val * 32 + h, by omega⟩ j) :=
    funext fun j => rate_at i x5 ⟨h, h_lt⟩ j
  unfold after StateMath.chunk
  refine congrArg₂ (· + ·) (congrArg (fun a => S _ * Ideal.exp a) (congrArg (fun f : Fin 128 → EReal => ∑ j, f j) rates)) ?_
  refine Finset.sum_congr rfl fun s _ => ?_
  rw [x_eq, b_eq]
  refine congrArg (fun a => x1 _ * a * x2 _) ?_
  refine (weight_at ⟨(i 1).val, lt⟩ (k0_pay7 (F := Ideal) i x5) (k0_pay8 (F := Ideal) i x5) ⟨h, h_lt⟩ s).trans ?_
  rw [rates, step_at]
  rfl

end Cert.StateKernel

end
-- ==== Proof.StateScan.lean ====
module

public import proofs.«01_k».proof.Proof.Gen.StateIdeal.Value
public import proofs.«01_k».proof.Proof.StateKernel
public import Idealize.ShloMosaic.Lib.Pipeline.ValueKit
public import Idealize.ShloMosaic.Lib.Pipeline.ReadBack
public import Idealize.ShloMosaic.Lib.Pointwise

/-! What the scan kernel leaves at its two kinds of grid points: at the first chunk the states kept for the next point, at the last chunk the block of
    final states. -/

@[expose] public section

set_option maxRecDepth 16384

noncomputable section

namespace Cert.StateScan

open Idealize.ShloMosaic Idealize.ShloMosaic.TcCoe Idealize.SL.Sem
open Cert.StateIdeal Cert.StateIdeal.Gen Cert.StateIdeal.Facts

variable (m : (ℓ : Loc nD τ sig) → Buf (Elt Ideal) ℓ)

/-- A list of stores of which the newest `n` are parts of `G` and cover an index leaves `G` there. -/
theorem canon_take {s : Shape} (n : ℕ) (G : s.Idx → EReal) (L : List (View.Piece (Elt Ideal) s .f32)) (y : s.Idx)
    (parts : View.PiecesOf (Val := Elt Ideal) (e := .f32) G (L.take n)) (cover : ∃ p ∈ L.take n, y ∈ p.1.set) : (View.canon L y : EReal) = G y := by
  have h := View.canon_append_of_piecesOf (Val := Elt Ideal) (e := .f32) G (L.drop n) (L.take n) parts y cover
  rw [List.take_append_drop] at h
  exact h

set_option maxHeartbeats 1000000 in
/-- The first chunk starts from the initial states and leaves the states after it for the next point. -/
theorem first_at (c : Dev nD) (t : Fin cfg0.N) (h0 : t.val % 2 = 0) (h1 : ¬t.val % 2 = 1) (y : S32x64x128.Idx) :
    ((outsAt0 m c t.val t.isLt).2.2 y : EReal)
      = StateKernel.after (grid0.coords t) (iblk m c 1 t) (iblk m c 2 t) (iblk m c 5 t) (k0_pay4 (F := Ideal) (iblk m c 6 t)) y := by
  rw [outsAt0_A m c t h0 h1]
  frame_out
  simp (disch := decide) only [↓ View.readCov_skip, ↓ View.readCov_fill]
  refine canon_take 32 _ _ y ?_ (View.cover_of_tiledL (s := S32x64x128) _ ![1, 64, 128] (by sl_kernel_rfl) y)
  simp only [List.take_succ_cons, List.take_zero, View.PiecesOf, and_true]
  repeat' apply And.intro
  all_goals intro z
  all_goals try unfold k0_pay128 k0_pay127 k0_pay126
  all_goals try unfold k0_pay42 k0_pay41 k0_pay40
  all_goals try unfold k0_pay27 k0_pay26 k0_pay25
  all_goals try unfold k0_pay32 k0_pay31 k0_pay30
  all_goals
    refine StateKernel.piece_at _ _ _ _ _ _ (by decide) (by decide) (by decide) _ _ _ z _ (by simp [Rect.emb_apply]) (by simp [Rect.emb_apply]) (by simp [Rect.emb_apply]) ?_ ?_ ?_
    · intro p n; pointwise
    · intro p n; pointwise
    · intro p n; pointwise [k0_pay21, k0_pay43, k0_pay61, k0_pay87, k0_pay110, k0_pay129, k0_pay143, k0_pay171]

/-- The last chunk's block of states is the states held. -/
theorem block_at (x : Vec Ideal S32x64x128 .f32) (h : Fin 32) (p : Fin 64) (n : Fin 128) : k0_pay3 (F := Ideal) x (ix5 0 0 h p n) = x (ix3 h p n) := by
  pointwise [k0_pay3]

set_option maxHeartbeats 1000000 in
/-- The last chunk starts from the states that the point before left, and its block of final states is the states after it. -/
theorem second_at (c : Dev nD) (t : Fin cfg0.N) (h0 : ¬t.val % 2 = 0) (h1 : t.val % 2 = 1) (h : Fin 32) (p : Fin 64) (n : Fin 128) :
    ((outsAt0 m c t.val t.isLt).2.1 (ix5 0 0 h p n) : EReal)
      = StateKernel.after (grid0.coords t) (iblk m c 1 t) (iblk m c 2 t) (iblk m c 5 t)
          ((outsAt0 m c (t.val - 1) (Nat.lt_of_le_of_lt (Nat.sub_le _ _) t.isLt)).2.2) (ix3 h p n) := by
  rw [outsAt0_B m c t h0 h1]
  generalize (outsAt0 m c (t.val - 1) (Nat.lt_of_le_of_lt (Nat.sub_le _ _) t.isLt)).2.2 = S
  frame_out
  simp only [read_unread_whole]
  rw [block_at, View.readCov_eq_canon']
  refine Eq.trans (congrArg (View.canon _) (?_ : _ = (ix3 h p n : S32x64x128.Idx))) ?_
  · funext a
    fin_cases a <;> exact Fin.ext (by simp [LoadRect.idx_apply])
  refine canon_take 32 _ _ _ ?_ (View.cover_of_tiledL (s := S32x64x128) _ ![1, 64, 128] (by sl_kernel_rfl) _)
  simp only [List.take_succ_cons, List.take_zero, View.PiecesOf, and_true]
  repeat' apply And.intro
  all_goals intro z
  all_goals try unfold k0_pay128 k0_pay127 k0_pay126
  all_goals try unfold k0_pay42 k0_pay41 k0_pay40
  all_goals try unfold k0_pay27 k0_pay26 k0_pay25
  all_goals try unfold k0_pay32 k0_pay31 k0_pay30
  all_goals
    refine StateKernel.piece_at _ _ _ _ _ _ (by decide) (by decide) (by decide) _ _ _ z _ (by simp [Rect.emb_apply]) (by simp [Rect.emb_apply]) (by simp [Rect.emb_apply]) ?_ ?_ ?_
    · intro p n; pointwise
    · intro p n; pointwise
    · intro p n; pointwise [k0_pay21, k0_pay43, k0_pay61, k0_pay87, k0_pay110, k0_pay129, k0_pay143, k0_pay171]
end Cert.StateScan

end
-- ==== Proof.StateWindow.lean ====
module

public import Idealize.ShloMosaic.Lib.Pipeline.ValueKit
public import Idealize.ShloMosaic.PureOps.Ideal.Laws
public import proofs.«01_k».proof.Proof.StateMath

/-! The running sum that the reference takes along the 128 tokens of a chunk, read at an element: a window of 128 tokens that ends at the token, the
    places before the chunk's first token holding nothing. -/

@[expose] public section

set_option maxRecDepth 16384

noncomputable section

namespace Cert.StateWindow

open Idealize.ShloMosaic

/-- Adding up a list of all numbers below `n` is the sum over them. -/
theorem foldl_sum {n : ℕ} (f : Fin n → EReal) (v : EReal) : (List.finRange n).foldl (fun r i => r + f i) v = v + ∑ i, f i := by
  rw [Fin.sum_univ_def]
  generalize List.finRange n = l
  induction l generalizing v with
  | nil => simp
  | cons a l ih => rw [List.foldl_cons, ih, List.map_cons, List.sum_cons, add_assoc]

/-- A chunked array: sequence, chunk, token, group, head in the group. -/
abbrev Chunked : Shape := ⟨5, ![16, 2, 128, 8, 4]⟩

/-- The window's shape. -/
abbrev Win : Shape := ⟨5, ![1, 1, 128, 1, 1]⟩

/-- A sum over the places of the window is a sum over 128 numbers. -/
theorem win_sum (f : Win.Idx → EReal) : ∑ w, f w = ∑ k : Fin 128, f (ix5 0 0 k 0 0) := by
  refine (Fintype.sum_equiv ⟨fun k : Fin 128 => (ix5 0 0 k 0 0 : Win.Idx), fun w => (w 2 : Fin 128), fun _ => rfl, fun w => ?_⟩ _ _ fun k => rfl).symm
  idx_vars w
  have e : ∀ a : Fin 1, a = 0 := fun a => Subsingleton.elim _ _
  rw [e w0, e w1, e w3, e w4]

/-- The window's places that lie in the chunk are the tokens up to the one it ends at. -/
theorem slide (f : Fin 128 → EReal) (j : Fin 128) :
    (∑ k : Fin 128, if h : 127 ≤ j.val + k.val then f ⟨j.val + k.val - 127, by omega⟩ else 0) = StateMath.upto f j := by
  unfold StateMath.upto
  refine Fintype.sum_equiv (Equiv.addRight (j + 1)) _ _ fun k => ?_
  have place : (k + (j + 1)).val = (k.val + (j.val + 1)) % 128 := by simp [Fin.val_add]
  show _ = if (k + (j + 1)).val ≤ j.val then f (k + (j + 1)) else 0
  by_cases h : 127 ≤ j.val + k.val
  · rw [dif_pos h, if_pos (by rw [place]; omega)]
    exact congrArg f (Fin.ext (by rw [place]; show j.val + k.val - 127 = _; omega))
  · rw [dif_neg h, if_neg (by rw [place]; omega)]

/-- The running sum at a token is the prefix sum of its chunk. -/
theorem running_at {u : Shape} (x : FVec Ideal Chunked .f32) (v : FVec Ideal u .f32)
    (h : Chunked.ReduceWindows ![1, 1, 128, 1, 1] ![1, 1, 1, 1, 1] ![0, 0, 127, 0, 0] ![0, 0, 0, 0, 0] Chunked) (hu : 0 < u.numel)
    (v_eq : ∀ i, v i = (0 : EReal)) (b : Fin 16) (k : Fin 2) (j : Fin 128) (g : Fin 8) (r : Fin 4) :
    Host.reduceWindowAdd (F := Ideal) (φ := .f32) ![1, 1, 128, 1, 1] ![1, 1, 1, 1, 1] ![0, 0, 127, 0, 0] ![0, 0, 0, 0, 0] x v h hu (ix5 b k j g r)
      = StateMath.upto (fun s => x (ix5 b k s g r)) j := by
  have unfolded : Host.reduceWindowAdd (F := Ideal) (φ := .f32) ![1, 1, 128, 1, 1] ![1, 1, 1, 1, 1] ![0, 0, 127, 0, 0] ![0, 0, 0, 0, 0] x v h hu (ix5 b k j g r)
      = Host.reduceWindow (fun p q : EReal => p + q) ![1, 1, 128, 1, 1] ![1, 1, 1, 1, 1] ![0, 0, 127, 0, 0] ![0, 0, 0, 0, 0] x
          (fun _ : u.Idx => v (Shape.Idx.first hu)) h hu (ix5 b k j g r) := rfl
  rw [unfolded]
  unfold Host.reduceWindow
  dsimp only
  rw [v_eq]
  refine (foldl_sum _ _).trans ?_
  rw [zero_add]
  refine ((Finset.sum_congr rfl fun i _ => dite_congr rfl (fun _ => rfl) fun _ => rfl).trans (Equiv.sum_comp Win.rowMajor.symm (fun w : Win.Idx =>
    if hin : ∀ a : Fin 5, ![0, 0, 127, 0, 0] a ≤ ((ix5 b k j g r : Chunked.Idx) a).val * ![1, 1, 1, 1, 1] a + (w a).val
        ∧ ((ix5 b k j g r : Chunked.Idx) a).val * ![1, 1, 1, 1, 1] a + (w a).val - ![0, 0, 127, 0, 0] a < Chunked.size a
      then x (fun a => ⟨((ix5 b k j g r : Chunked.Idx) a).val * ![1, 1, 1, 1, 1] a + (w a).val - ![0, 0, 127, 0, 0] a, (hin a).2⟩) else 0))).trans ?_
  rw [win_sum, ← slide]
  refine Finset.sum_congr rfl fun w _ => ?_
  by_cases in_chunk : 127 ≤ j.val + w.val
  · rw [dif_pos in_chunk, dif_pos]
    · refine congrArg x (funext fun a => ?_)
      fin_cases a <;> exact Fin.ext (by simp)
    · intro a
      fin_cases a <;> simp <;> omega
  · rw [dif_neg in_chunk, dif_neg]
    intro all
    have two := (all 2).1
    simp at two
    omega

end Cert.StateWindow

end
-- ==== Proof.StateRef.lean ====
/- The reference's scan read at an element: the state after two chunks of 128 tokens, each chunk decaying what it starts from and adding its tokens. -/
module

public import proofs.«01_k».proof.Proof.Gen.StateRefIdeal.Read
public import Idealize.ShloMosaic.Lib.Pipeline.ValueKit
public import Idealize.ShloMosaic.Lib.Pointwise
public import proofs.«01_k».proof.Proof.StateMath
public import proofs.«01_k».proof.Proof.StateWindow

@[expose] public section

set_option maxRecDepth 16384

noncomputable section

namespace Cert.StateRef

open Idealize.ShloMosaic Idealize.ShloMosaic.TcCoe Idealize.SL.Sem
open Cert.StateMath Cert.StateRefIdeal Cert.StateRefIdeal.Gen Cert.StateRefIdeal.Read

/-- The running sums of the logarithmic decays in their chunks. -/
def running (da : FVec Ideal S16x256x32 .f32) : FVec Ideal S16x2x128x8x4 .f32 :=
  Host.reduceWindowAdd ![1, 1, 128, 1, 1] ![1, 1, 1, 1, 1] ![0, 0, 127, 0, 0] ![0, 0, 0, 0, 0]
    (shapeCast S16x2x128x8x4 da shapeCasts_S16x256x32_S16x2x128x8x4) (val_main_call0_call0_v0 (F := Ideal))
    reduceWindows_S16x2x128x8x4_S16x2x128x8x4_w1s1p0_0_w1s1p0_0_w128s1p127_0_w1s1p0_0_w1s1p0_0 h_S_

/-- The decay from each token to the end of its chunk. -/
def toEnd (da : FVec Ideal S16x256x32 .f32) : FVec Ideal S16x2x128x8x4 .f32 :=
  Host.exp (subf (broadcastInDim S16x2x128x8x4 ![0, 1, 2, 3, 4] bcast_S16x2x1x8x4_S16x2x128x8x4_0_1_2_3_4
    (extractStridedSlice S16x2x1x8x4 ![0, 0, 127, 0, 0] (running da) slices_S16x2x128x8x4_S16x2x1x8x4_0_0_127_0_0)) (running da))

/-- The tokens' inputs, scaled by their steps. -/
def scaled (x : FVec Ideal S16x256x32x64 .f32) (dt : FVec Ideal S16x256x32 .f32) : FVec Ideal S16x2x128x8x4x64 .f32 :=
  shapeCast S16x2x128x8x4x64 (mulf x (broadcastInDim S16x256x32x64 ![0, 1, 2, 3] bcast_S16x256x32x1_S16x256x32x64_0_1_2_3
    (broadcastInDim S16x256x32x1 ![0, 1, 2] bcast_S16x256x32_S16x256x32x1_0_1_2 dt))) shapeCasts_S16x256x32x64_S16x2x128x8x4x64

/-- What the tokens of each chunk add to the state. -/
def added (x : FVec Ideal S16x256x32x64 .f32) (dt da : FVec Ideal S16x256x32 .f32) (b : FVec Ideal S16x256x8x128 .f32) :
    FVec Ideal S16x2x8x4x64x128 .f32 :=
  Host.dotGeneral dot_S16x2x128x8x4x64_S16x2x128x8x128_S16x2x8x4x64x128_2_2_45_4_013_013 none
    (mulf (scaled x dt) (broadcastInDim S16x2x128x8x4x64 ![0, 1, 2, 3, 4, 5] bcast_S16x2x128x8x4x1_S16x2x128x8x4x64_0_1_2_3_4_5
      (broadcastInDim S16x2x128x8x4x1 ![0, 1, 2, 3, 4] bcast_S16x2x128x8x4_S16x2x128x8x4x1_0_1_2_3_4 (toEnd da))))
    (shapeCast S16x2x128x8x128 b shapeCasts_S16x256x8x128_S16x2x128x8x128)

/-- The decay across each chunk. -/
def across (da : FVec Ideal S16x256x32 .f32) : FVec Ideal S16x2x8x4 .f32 :=
  Host.exp (shapeCast S16x2x8x4 (extractStridedSlice S16x2x1x8x4 ![0, 0, 127, 0, 0] (running da) slices_S16x2x128x8x4_S16x2x1x8x4_0_0_127_0_0)
    shapeCasts_S16x2x1x8x4_S16x2x8x4)

/-- The state after the first chunk. -/
def one (x : FVec Ideal S16x256x32x64 .f32) (dt da : FVec Ideal S16x256x32 .f32) (b : FVec Ideal S16x256x8x128 .f32) :
    FVec Ideal S16x8x4x64x128 .f32 :=
  addf (mulf (val_main_v31 (F := Ideal)) (broadcastInDim S16x8x4x64x128 ![0, 1, 2, 3, 4] bcast_S16x8x4x1x1_S16x8x4x64x128_0_1_2_3_4
      (broadcastInDim S16x8x4x1x1 ![0, 1, 2] bcast_S16x8x4_S16x8x4x1x1_0_1_2
        (shapeCast S16x8x4 (extractStridedSlice S16x1x8x4 ![0, 0, 0, 0] (across da) slices_S16x2x8x4_S16x1x8x4_0_0_0_0) shapeCasts_S16x1x8x4_S16x8x4))))
    (shapeCast S16x8x4x64x128 (extractStridedSlice S16x1x8x4x64x128 ![0, 0, 0, 0, 0, 0] (added x dt da b)
      slices_S16x2x8x4x64x128_S16x1x8x4x64x128_0_0_0_0_0_0) shapeCasts_S16x1x8x4x64x128_S16x8x4x64x128)

/-- The state after the second chunk. -/
def two (x : FVec Ideal S16x256x32x64 .f32) (dt da : FVec Ideal S16x256x32 .f32) (b : FVec Ideal S16x256x8x128 .f32) :
    FVec Ideal S16x8x4x64x128 .f32 :=
  addf (mulf (one x dt da b) (broadcastInDim S16x8x4x64x128 ![0, 1, 2, 3, 4] bcast_S16x8x4x1x1_S16x8x4x64x128_0_1_2_3_4
      (broadcastInDim S16x8x4x1x1 ![0, 1, 2] bcast_S16x8x4_S16x8x4x1x1_0_1_2
        (shapeCast S16x8x4 (extractStridedSlice S16x1x8x4 ![0, 1, 0, 0] (across da) slices_S16x2x8x4_S16x1x8x4_0_1_0_0) shapeCasts_S16x1x8x4_S16x8x4))))
    (shapeCast S16x8x4x64x128 (extractStridedSlice S16x1x8x4x64x128 ![0, 1, 0, 0, 0, 0] (added x dt da b)
      slices_S16x2x8x4x64x128_S16x1x8x4x64x128_0_1_0_0_0_0) shapeCasts_S16x1x8x4x64x128_S16x8x4x64x128)

/-- The state a scan leaves. -/
def scan (x : FVec Ideal S16x256x32x64 .f32) (dt da : FVec Ideal S16x256x32 .f32) (b : FVec Ideal S16x256x8x128 .f32) :
    FVec Ideal S16x32x64x128 .f32 :=
  shapeCast S16x32x64x128 (two x dt da b) shapeCasts_S16x8x4x64x128_S16x32x64x128

/-- The forward scan is the scan of the arrays as they are. -/
theorem forward_eq (x0 x1) : val_main_v48 (F := Ideal) x0 x1
    = scan (val_main_v1 (F := Ideal) x0) (val_main_v10 (F := Ideal) x1) (val_main_v12 (F := Ideal) x1) (val_main_v3 (F := Ideal) x0) := rfl

/-- The backward scan is the scan of the arrays with their tokens reversed. -/
theorem backward_eq (x0 x1) : val_main_v92 (F := Ideal) x0 x1
    = scan (val_main_v49 (F := Ideal) x0) (val_main_v52 (F := Ideal) x1) (val_main_v55 (F := Ideal) x1) (val_main_v56 (F := Ideal) x0) := rfl

/-- Token `s` of chunk `k`. -/
def tok (k : Fin 2) (s : Fin 128) : Fin 256 := ⟨k.val * 128 + s.val, by omega⟩

/-- Group `g`'s head number `r`. -/
def head (g : Fin 8) (r : Fin 4) : Fin 32 := ⟨g.val * 4 + r.val, by omega⟩

/-- A running sum is a prefix sum. -/
theorem running_at (da) (b : Fin 16) (k : Fin 2) (s : Fin 128) (g : Fin 8) (r : Fin 4) :
    running da (ix5 b k s g r) = upto (fun s => da (ix3 b (tok k s) (head g r))) s := by
  unfold running
  refine (StateWindow.running_at _ _ _ _ (fun i => ?_) b k s g r).trans ?_
  · pointwise [val_main_call0_call0_v0, val_main_call0_call0_cst]
  · refine congrArg (fun f => upto f s) (funext fun s => ?_)
    pointwise [tok, head]

/-- The decay from a token to the end of its chunk is that of the sum left after the token. -/
theorem toEnd_at (da) (b : Fin 16) (k : Fin 2) (s : Fin 128) (g : Fin 8) (r : Fin 4) :
    toEnd da (ix5 b k s g r) = Ideal.exp ((∑ s, da (ix3 b (tok k s) (head g r)) : EReal) - upto (fun s => da (ix3 b (tok k s) (head g r))) s) := by
  pointwise [toEnd]
  rw [← upto_last _ (127 : Fin 128) rfl, ← running_at, ← running_at]

theorem across_at (da) (b : Fin 16) (k : Fin 2) (g : Fin 8) (r : Fin 4) :
    across da (ix4 b k g r) = Ideal.exp (∑ s, da (ix3 b (tok k s) (head g r)) : EReal) := by
  pointwise [across]
  rw [← upto_last _ (127 : Fin 128) rfl]
  exact congrArg Ideal.exp (running_at da b k 127 g r)

theorem scaled_at (x dt) (b : Fin 16) (k : Fin 2) (s : Fin 128) (g : Fin 8) (r : Fin 4) (p : Fin 64) :
    scaled x dt (ix6 b k s g r p) = (x (ix4 b (tok k s) (head g r) p) * dt (ix3 b (tok k s) (head g r)) : EReal) := by
  pointwise [scaled, tok, head]

theorem added_at (x dt da bm) (b : Fin 16) (k : Fin 2) (g : Fin 8) (r : Fin 4) (p : Fin 64) (n : Fin 128) :
    added x dt da bm (ix6 b k g r p n)
      = ∑ s : Fin 128, ((x (ix4 b (tok k s) (head g r) p) * dt (ix3 b (tok k s) (head g r))
          * Ideal.exp ((∑ s, da (ix3 b (tok k s) (head g r)) : EReal) - upto (fun s => da (ix3 b (tok k s) (head g r))) s))
          * bm (ix4 b (tok k s) g n) : EReal) := by
  pointwise [added]
  refine Finset.sum_congr rfl fun s _ => ?_
  rw [scaled_at, toEnd_at]
  rfl

/-- One chunk of a scan over reference arrays, from the state `st`. -/
def part (x : FVec Ideal S16x256x32x64 .f32) (dt da : FVec Ideal S16x256x32 .f32) (bm : FVec Ideal S16x256x8x128 .f32)
    (b : Fin 16) (h : Fin 32) (p : Fin 64) (n : Fin 128) (st : EReal) (k : Fin 2) : EReal :=
  chunk st (fun s => x (ix4 b (tok k s) h p)) (fun s => dt (ix3 b (tok k s) h)) (upto fun s => da (ix3 b (tok k s) h))
    (fun s => bm (ix4 b (tok k s) ⟨h.val / 4, by omega⟩ n)) (∑ s, da (ix3 b (tok k s) h))

theorem part_eq (x dt da bm) (b : Fin 16) (k : Fin 2) (h : Fin 32) (p : Fin 64) (n : Fin 128) (st : EReal) :
    st * across da (ix4 b k ⟨h.val / 4, by omega⟩ ⟨h.val % 4, by omega⟩)
        + added x dt da bm (ix6 b k ⟨h.val / 4, by omega⟩ ⟨h.val % 4, by omega⟩ p n)
      = part x dt da bm b h p n st k := by
  have h_eq : head ⟨h.val / 4, by omega⟩ ⟨h.val % 4, by omega⟩ = h := Fin.ext (by show h.val / 4 * 4 + h.val % 4 = h.val; omega)
  rw [across_at, added_at, h_eq]
  unfold part chunk
  refine congrArg (_ + ·) (Finset.sum_congr rfl fun s _ => ?_)
  rw [← mul_assoc (x (ix4 b (tok k s) h p) : EReal)]

theorem scan_at (x dt da bm) (b : Fin 16) (h : Fin 32) (p : Fin 64) (n : Fin 128) :
    scan x dt da bm (ix4 b h p n) = part x dt da bm b h p n (part x dt da bm b h p n 0 0) 1 := by
  rw [← part_eq, ← part_eq]
  pointwise [scan, two, one, val_main_v31, val_main_v8, val_main_cst]

/-- Token `s` of chunk `k` of sequence `b`, as a row of the flattened tokens. -/
def row (b : Fin 16) (k : Fin 2) (s : Fin 128) : Fin 12288 := ⟨b.val * 256 + (k.val * 128 + s.val), by omega⟩

/-- The logarithmic decay of head `h` in direction `d` at the tokens of a chunk. -/
def rate (x1 : FVec Ideal S12288x128 .f32) (b : Fin 16) (d : Fin 2) (h : Fin 32) (k : Fin 2) (s : Fin 128) : EReal :=
  x1 (ix2 (row b k s) ⟨64 + (d.val * 32 + h.val), by omega⟩)

/-- One chunk of direction `d` from the state `st`: `P` holds the decays' sums from the chunk's start, in the direction of the scan. -/
def stage (x0 : FVec Ideal S12288x4096 .f32) (x1 : FVec Ideal S12288x128 .f32)
    (P : (Fin 128 → EReal) → Fin 128 → EReal) (b : Fin 16) (d : Fin 2) (h : Fin 32) (p : Fin 64) (n : Fin 128) (st : EReal) (k : Fin 2) : EReal :=
  chunk st (fun s => x0 (ix2 (row b k s) ⟨h.val * 64 + p.val, by omega⟩)) (fun s => x1 (ix2 (row b k s) ⟨d.val * 32 + h.val, by omega⟩))
    (P (rate x1 b d h k)) (fun s => x0 (ix2 (row b k s) ⟨2048 + (h.val / 4 * 128 + n.val), by omega⟩)) (∑ s, rate x1 b d h k s)

theorem forward_at (x0 x1) (b : Fin 16) (h : Fin 32) (p : Fin 64) (n : Fin 128) :
    val_main_v48 (F := Ideal) x0 x1 (ix4 b h p n) = stage x0 x1 upto b 0 h p n (stage x0 x1 upto b 0 h p n 0 0) 1 := by
  rw [forward_eq, scan_at]
  have same : ∀ st k, part (val_main_v1 (F := Ideal) x0) (val_main_v10 (F := Ideal) x1) (val_main_v12 (F := Ideal) x1) (val_main_v3 (F := Ideal) x0)
      b h p n st k = stage x0 x1 upto b 0 h p n st k := by
    intro st k
    have x_eq : ∀ s, val_main_v1 (F := Ideal) x0 (ix4 b (tok k s) h p) = x0 (ix2 (row b k s) ⟨h.val * 64 + p.val, by omega⟩) := by
      intro s
      pointwise [val_main_v1, val_main_v0, tok, row]
    have dt_eq : ∀ s, val_main_v10 (F := Ideal) x1 (ix3 b (tok k s) h) = x1 (ix2 (row b k s) ⟨(0 : Fin 2).val * 32 + h.val, by omega⟩) := by
      intro s
      pointwise [val_main_v10, val_main_v9, val_main_v5, val_main_v4, tok, row]
    have da_eq : ∀ s, val_main_v12 (F := Ideal) x1 (ix3 b (tok k s) h) = rate x1 b 0 h k s := by
      intro s
      pointwise [val_main_v12, val_main_v11, val_main_v7, val_main_v6, tok, row, rate]
    have b_eq : ∀ s, val_main_v3 (F := Ideal) x0 (ix4 b (tok k s) ⟨h.val / 4, by omega⟩ n)
        = x0 (ix2 (row b k s) ⟨2048 + (h.val / 4 * 128 + n.val), by omega⟩) := by
      intro s
      pointwise [val_main_v3, val_main_v2, tok, row]
    unfold part stage
    simp only [x_eq, dt_eq, da_eq, b_eq]
  rw [same, same]

theorem backward_at (x0 x1) (b : Fin 16) (h : Fin 32) (p : Fin 64) (n : Fin 128) :
    val_main_v92 (F := Ideal) x0 x1 (ix4 b h p n) = stage x0 x1 since b 1 h p n (stage x0 x1 since b 1 h p n 0 1) 0 := by
  rw [backward_eq, scan_at]
  have same : ∀ st k, part (val_main_v49 (F := Ideal) x0) (val_main_v52 (F := Ideal) x1) (val_main_v55 (F := Ideal) x1) (val_main_v56 (F := Ideal) x0)
      b h p n st k = stage x0 x1 since b 1 h p n st (Fin.rev k) := by
    intro st k
    have place : ∀ s, (Fin.rev (tok k s)).val = (Fin.rev k).val * 128 + (Fin.rev s).val := by
      intro s
      simp only [tok, Fin.val_rev]
      omega
    have x_eq : ∀ s, val_main_v49 (F := Ideal) x0 (ix4 b (tok k s) h p) = x0 (ix2 (row b (Fin.rev k) (Fin.rev s)) ⟨h.val * 64 + p.val, by omega⟩) := by
      intro s
      pointwise [val_main_v49, val_main_v1, val_main_v0, row]
      exact congrArg _ (congrArg₂ ix2 (Fin.ext (congrArg (b.val * 256 + ·) (place s))) rfl)
    have dt_eq : ∀ s, val_main_v52 (F := Ideal) x1 (ix3 b (tok k s) h)
        = x1 (ix2 (row b (Fin.rev k) (Fin.rev s)) ⟨(1 : Fin 2).val * 32 + h.val, by omega⟩) := by
      intro s
      pointwise [val_main_v52, val_main_v51, val_main_v50, val_main_v5, val_main_v4, row]
      exact congrArg _ (congrArg₂ ix2 (Fin.ext (congrArg (b.val * 256 + ·) (place s))) rfl)
    have da_eq : ∀ s, val_main_v55 (F := Ideal) x1 (ix3 b (tok k s) h) = rate x1 b 1 h (Fin.rev k) (Fin.rev s) := by
      intro s
      pointwise [val_main_v55, val_main_v54, val_main_v53, val_main_v7, val_main_v6, row, rate]
      exact congrArg _ (congrArg₂ ix2 (Fin.ext (congrArg (b.val * 256 + ·) (place s))) rfl)
    have b_eq : ∀ s, val_main_v56 (F := Ideal) x0 (ix4 b (tok k s) ⟨h.val / 4, by omega⟩ n)
        = x0 (ix2 (row b (Fin.rev k) (Fin.rev s)) ⟨2048 + (h.val / 4 * 128 + n.val), by omega⟩) := by
      intro s
      pointwise [val_main_v56, val_main_v3, val_main_v2, row]
      exact congrArg _ (congrArg₂ ix2 (Fin.ext (congrArg (b.val * 256 + ·) (place s))) rfl)
    unfold part stage
    simp only [x_eq, dt_eq, da_eq, b_eq]
    rw [← chunk_rev (P := since _)]
    have sums : (upto fun s => rate x1 b 1 h (Fin.rev k) (Fin.rev s)) = fun s => since (rate x1 b 1 h (Fin.rev k)) (Fin.rev s) :=
      funext fun s => upto_rev _ s
    have total : (∑ s : Fin 128, rate x1 b 1 h (Fin.rev k) (Fin.rev s)) = ∑ s, rate x1 b 1 h (Fin.rev k) s :=
      Equiv.sum_comp Fin.revPerm _
    rw [sums, total]
  rw [same, same]
  rfl

/-- The state of sequence `b`, direction `d` and head `h` after both chunks of the sequence, taken in the direction's order. -/
def state (x0 : FVec Ideal S12288x4096 .f32) (x1 : FVec Ideal S12288x128 .f32) (b : Fin 16) (d : Fin 2) (h : Fin 32) (p : Fin 64) (n : Fin 128) : EReal :=
  if d = 0 then stage x0 x1 upto b 0 h p n (stage x0 x1 upto b 0 h p n 0 0) 1
  else stage x0 x1 since b 1 h p n (stage x0 x1 since b 1 h p n 0 1) 0

/-- The reference's result, element by element. -/
theorem result_at (x0 x1) (b : Fin 16) (d : Fin 2) (h : Fin 32) (p : Fin 64) (n : Fin 128) :
    val_main_v95 (F := Ideal) x0 x1 (ix5 b d h p n) = state x0 x1 b d h p n := by
  unfold state
  rcases Fin.exists_fin_two.1 ⟨d, rfl⟩ with d_eq | d_eq
  · subst d_eq
    rw [if_pos rfl, ← forward_at]
    unfold val_main_v95
    refine (concatenate_pair_apply_left (t := S16x2x32x64x128) (s₁ := S16x1x32x64x128) (s₂ := S16x1x32x64x128) 1 _ _ _ (ix5 b 0 h p n) rfl (ix5 b 0 h p n)
      fun a => by fin_cases a <;> rfl).trans ?_
    pointwise [val_main_v93]
  · subst d_eq
    rw [if_neg (by decide), ← backward_at]
    unfold val_main_v95
    refine (concatenate_pair_apply_right (t := S16x2x32x64x128) (s₁ := S16x1x32x64x128) (s₂ := S16x1x32x64x128) 1 _ _ _ (ix5 b 1 h p n) rfl rfl (ix5 b 0 h p n)
      (fun a ha => by fin_cases a <;> first | rfl | exact absurd rfl ha) rfl).trans ?_
    pointwise [val_main_v94]

end Cert.StateRef

end
-- ==== Proof.StatePre.lean ====
/- What the precondition says: the logarithmic decays of the backward scan are real numbers at every token of the prompts. -/
module

public import proofs.«01_k».proof.Defs
public import Idealize.ShloMosaic.Lib.Pipeline.ValueKit
public import Idealize.ShloMosaic.Lib.Pointwise
public import proofs.«01_k».proof.Proof.AttnPre

@[expose] public section

set_option maxRecDepth 16384

noncomputable section

namespace Cert.StatePre

open Idealize.ShloMosaic Idealize.ShloMosaic.TcCoe Idealize.SL.Sem
open Cert.AttnMath Cert.Pre_finite_steps

variable [hF : Cert.Pre_finite_steps.Facts]

/-- Every logarithmic decay of the backward scan is a real number. -/
theorem rate_real {x0 x1} (h : fn (F := Ideal) x0 x1 = fun _ => 1#1) (r : Fin 4096) (e : Fin 32) :
    IsReal (x1 (ix2 ⟨r.val, by omega⟩ ⟨96 + e.val, by omega⟩)) := by
  have h1 := congrFun h (ix2 r e)
  pointwise [fn] at h1
  exact AttnPre.real_of_lt32 h1

end Cert.StatePre

end
-- ==== Proof.StatePf.lean ====
module

public import proofs.«01_k».proof.Defs
public import proofs.«01_k».proof.Proof.Gen.StateIdeal.Frame
public import proofs.«01_k».proof.Proof.Gen.StateIdeal.Value
public import proofs.«01_k».proof.Proof.Gen.StateRefIdeal.Run
public import proofs.«01_k».proof.Proof.Gen.StateRefIdeal.Read
public import Idealize.ShloMosaic.Lib.StableHlo.ReadAt
public import Idealize.ShloMosaic.Lib.Pipeline.ValueKit
public import Idealize.ShloMosaic.Lib.Pointwise
public import Idealize.ShloMosaic.Lib.Claim
public import proofs.«01_k».proof.Proof.StateScan
public import proofs.«01_k».proof.Proof.StateRef
public import proofs.«01_k».proof.Proof.StatePre

/-! The state space recurrence: the final states of the prompts, in both directions. A grid point handles one chunk of 128 tokens for all heads of one
    sequence and direction; the two points of a sequence and direction run one after the other and carry the states. -/

@[expose] public section

set_option maxRecDepth 16384

noncomputable section

namespace Cert.StatePf

open Idealize.ShloMosaic Idealize.ShloMosaic.TcCoe Idealize.SL.Sem
open Cert.StateIdeal Cert.StateIdeal.Gen Cert.StateMath Cert.StateRef

variable (m : (ℓ : Loc nD τ sig) → Buf (Elt Ideal) ℓ)

/-- The sequence, the direction and the chunk of a grid point: the forward scan starts with chunk 0, the backward scan with chunk 1. -/
def seqOf (t : Fin cfg0.N) : Fin 16 := ⟨t.val / 4, by have : t.val < 64 := lt_of_lt_of_eq t.isLt N_0; omega⟩
def dirOf (t : Fin cfg0.N) : Fin 2 := ⟨t.val / 2 % 2, by omega⟩
def chunkOf (t : Fin cfg0.N) : Fin 2 := if t.val % 2 = 0 then dirOf t else Fin.rev (dirOf t)

/-- Which blocks grid point `t` reads and writes. -/
theorem idx_val : ∀ t : Fin cfg0.N, win0_1.index t = ![0, (seqOf t).val * 2 + (chunkOf t).val]
    ∧ win0_2.index t = ![(seqOf t).val * 2 + (chunkOf t).val, 2]
    ∧ win0_5.index t = ![0, (seqOf t).val * 2 + (chunkOf t).val]
    ∧ win0_6.index t = ![(seqOf t).val, (dirOf t).val, 0, 0, 0]
    ∧ win0_8.index t = ![(seqOf t).val, (dirOf t).val, 0, 0, 0]
    ∧ (grid0.coords t 1).val = (dirOf t).val :=
  (by decide +kernel : ∀ t : Fin grid0.N, _)

/-- The inputs, laid out by channel and token. -/
theorem entry_x (c : Dev nD) (r : Fin 2048) (q : Fin 12288) :
    (V m c main_v2 : FVec Ideal S2048x12288 .f32) (ix2 r q) = m ((c : Thread nD τ).loc main_arg0) (ix2 q ⟨r.val, by omega⟩) := by
  unfold V
  after_reads_simp
  pointwise

/-- The steps and the decays, laid out by column and token. -/
theorem entry_dt (c : Dev nD) (r : Fin 128) (q : Fin 12288) :
    (V m c main_v3 : FVec Ideal S128x12288 .f32) (ix2 r q) = m ((c : Thread nD τ).loc main_arg1) (ix2 q r) := by
  unfold V
  after_reads_simp
  pointwise

/-- The initial states are zero. -/
theorem entry_init (c : Dev nD) (i : S16x2x32x64x128.Idx) : (V m c main_v0 : FVec Ideal S16x2x32x64x128 .f32) i = (0 : EReal) := by
  unfold V
  after_reads_simp
  idx_vars i
  pointwise

theorem x_at (c : Dev nD) (t : Fin cfg0.N) (r : Fin 2048) (s : Fin 128) :
    ((iblk m c 1 t : Vec Ideal S2048x128 .f32) (ix2 r s) : EReal)
      = m ((c : Thread nD τ).loc main_arg0) (ix2 (row (seqOf t) (chunkOf t) s) ⟨r.val, by omega⟩) := by
  refine Eq.trans ?_ (entry_x m c r _)
  unfold row
  blk_point [iblk, idx_val t]

theorem b_at (c : Dev nD) (t : Fin cfg0.N) (s : Fin 128) (j : Fin 1024) :
    ((iblk m c 2 t : Vec Ideal S128x1024 .f32) (ix2 s j) : EReal)
      = m ((c : Thread nD τ).loc main_arg0) (ix2 (row (seqOf t) (chunkOf t) s) ⟨2048 + j.val, by omega⟩) := by
  unfold row
  blk_point [iblk, V, idx_val t]

theorem dt_at (c : Dev nD) (t : Fin cfg0.N) (r : Fin 128) (s : Fin 128) :
    ((iblk m c 5 t : Vec Ideal S128x128 .f32) (ix2 r s) : EReal)
      = m ((c : Thread nD τ).loc main_arg1) (ix2 (row (seqOf t) (chunkOf t) s) r) := by
  refine Eq.trans ?_ (entry_dt m c r _)
  unfold row
  blk_point [iblk, idx_val t]

theorem init_at (c : Dev nD) (t : Fin cfg0.N) (h : Fin 32) (p : Fin 64) (n : Fin 128) :
    (k0_pay4 (F := Ideal) (iblk m c 6 t) (ix3 h p n) : EReal) = 0 := by
  pointwise [k0_pay4]
  exact entry_init m c _

/-- The decays' sums from where the scan of direction `d` enters a chunk. -/
def sumsOf (d : Fin 2) : (Fin 128 → EReal) → Fin 128 → EReal := if d = 0 then upto else since

/-- The states after both chunks, for either direction. -/
theorem state_eq (x0 x1) (b : Fin 16) (d : Fin 2) (h : Fin 32) (p : Fin 64) (n : Fin 128) :
    state x0 x1 b d h p n
      = stage x0 x1 (sumsOf d) b d h p n (stage x0 x1 (sumsOf d) b d h p n 0 d) (Fin.rev d) := by
  unfold state sumsOf
  rcases Fin.exists_fin_two.1 ⟨d, rfl⟩ with d_eq | d_eq <;> subst d_eq <;> rfl

variable [Cert.Pre_finite_steps.Facts]

/-- The kernel's sums are the scan's. -/
theorem sums_eq (c : Dev nD)
    (real : Cert.Pre_finite_steps.fn (F := Ideal) (m ((c : Thread nD τ).loc main_arg0)) (m ((c : Thread nD τ).loc main_arg1)) = fun _ => 1#1)
    (b : Fin 16) (d : Fin 2) (h : Fin 32) (k : Fin 2) :
    StateKernel.sums d.val (rate (m ((c : Thread nD τ).loc main_arg1)) b d h k) = sumsOf d (rate (m ((c : Thread nD τ).loc main_arg1)) b d h k) := by
  funext s
  unfold StateKernel.sums sumsOf
  rcases Fin.exists_fin_two.1 ⟨d, rfl⟩ with d_eq | d_eq <;> subst d_eq
  · rfl
  · refine since_of_upto _ (fun s => ?_) s
    have is_real := StatePre.rate_real real ⟨(row b k s).val, by unfold row; show b.val * 256 + (k.val * 128 + s.val) < 4096; omega⟩ h
    have place : (⟨96 + h.val, by omega⟩ : Fin 128) = ⟨64 + ((1 : Fin 2).val * 32 + h.val), by show 64 + (1 * 32 + h.val) < 128; omega⟩ :=
      Fin.ext (by show 96 + h.val = 64 + (1 * 32 + h.val); omega)
    rw [place] at is_real
    exact is_real

/-- What a grid point makes of the states it starts from. -/
theorem after_at (c : Dev nD)
    (real : Cert.Pre_finite_steps.fn (F := Ideal) (m ((c : Thread nD τ).loc main_arg0)) (m ((c : Thread nD τ).loc main_arg1)) = fun _ => 1#1)
    (t : Fin cfg0.N) (S : S32x64x128.Idx → EReal) (h : Fin 32) (p : Fin 64) (n : Fin 128) :
    StateKernel.after (grid0.coords t) (iblk m c 1 t) (iblk m c 2 t) (iblk m c 5 t) S (ix3 h p n)
      = stage (m ((c : Thread nD τ).loc main_arg0)) (m ((c : Thread nD τ).loc main_arg1)) (sumsOf (dirOf t)) (seqOf t) (dirOf t) h p n
          (S (ix3 h p n)) (chunkOf t) := by
  unfold stage
  rw [← sums_eq m c real]
  unfold StateKernel.after
  dsimp only
  simp only [x_at, b_at, dt_at]
  have d_eq : (grid0.coords t 1).val = (dirOf t).val := (idx_val t).2.2.2.2.2
  have rate_eq : (fun s => (m ((c : Thread nD τ).loc main_arg1) (ix2 (row (seqOf t) (chunkOf t) s)
      ⟨64 + (grid0.coords t 1).val * 32 + h.val, by omega⟩) : EReal)) = rate (m ((c : Thread nD τ).loc main_arg1)) (seqOf t) (dirOf t) h (chunkOf t) := by
    funext s
    unfold rate
    exact congrArg _ (congrArg _ (Fin.ext (by show 64 + (grid0.coords t 1).val * 32 + h.val = 64 + ((dirOf t).val * 32 + h.val); omega)))
  have dt_eq : (fun s => (m ((c : Thread nD τ).loc main_arg1) (ix2 (row (seqOf t) (chunkOf t) s)
      ⟨(grid0.coords t 1).val * 32 + h.val, by omega⟩) : EReal))
      = fun s => m ((c : Thread nD τ).loc main_arg1) (ix2 (row (seqOf t) (chunkOf t) s) ⟨(dirOf t).val * 32 + h.val, by omega⟩) := by
    funext s
    exact congrArg _ (congrArg _ (Fin.ext (by show (grid0.coords t 1).val * 32 + h.val = (dirOf t).val * 32 + h.val; omega)))
  have x_eq : (fun s => (m ((c : Thread nD τ).loc main_arg0) (ix2 (row (seqOf t) (chunkOf t) s) ⟨64 * h.val + p.val, by omega⟩) : EReal))
      = fun s => m ((c : Thread nD τ).loc main_arg0) (ix2 (row (seqOf t) (chunkOf t) s) ⟨h.val * 64 + p.val, by omega⟩) := by
    funext s
    exact congrArg _ (congrArg _ (Fin.ext (by show 64 * h.val + p.val = h.val * 64 + p.val; omega)))
  rw [← rate_eq, ← dt_eq, ← x_eq, ← d_eq]
  rfl

/-- The result array after the run is the reference's term. -/
theorem final (c : Dev nD)
    (real : Cert.Pre_finite_steps.fn (F := Ideal) (m ((c : Thread nD τ).loc main_arg0)) (m ((c : Thread nD τ).loc main_arg1)) = fun _ => 1#1) :
    (dats m 0 c).arrAt 8 (cfgs 0).N
      = Cert.StateRefIdeal.Read.val_main_v95 (F := Ideal) (m ((c : Thread nD τ).loc main_arg0)) (m ((c : Thread nD τ).loc main_arg1)) := by
  refine (dats m 0 c).arrAt_eq_of_covers 8 _ (by decide +kernel) fun t hf y => ?_
  have ht : t.val < 64 := lt_of_lt_of_eq t.isLt N_0
  have odd : t.val % 2 = 1 := (flush0_8 t).1 hf
  have even : ¬t.val % 2 = 0 := by omega
  blk_simp
  rw [after0_8]
  idx_vars y
  have y0_eq : y0 = 0 := Subsingleton.elim _ _
  have y1_eq : y1 = 0 := Subsingleton.elim _ _
  rw [y0_eq, y1_eq]
  have before : ∀ h p n, ((outsAt0 m c (t.val - 1) (Nat.lt_of_le_of_lt (Nat.sub_le _ _) t.isLt)).2.2 (ix3 h p n) : EReal)
      = stage (m ((c : Thread nD τ).loc main_arg0)) (m ((c : Thread nD τ).loc main_arg1)) (sumsOf (dirOf t)) (seqOf t) (dirOf t) h p n 0 (dirOf t) := by
    intro h p n
    have seq_eq : seqOf ⟨t.val - 1, Nat.lt_of_le_of_lt (Nat.sub_le _ _) t.isLt⟩ = seqOf t := Fin.ext (by show (t.val - 1) / 4 = t.val / 4; omega)
    have dir_eq : dirOf ⟨t.val - 1, Nat.lt_of_le_of_lt (Nat.sub_le _ _) t.isLt⟩ = dirOf t :=
      Fin.ext (by show (t.val - 1) / 2 % 2 = t.val / 2 % 2; omega)
    have chunk_eq : chunkOf ⟨t.val - 1, Nat.lt_of_le_of_lt (Nat.sub_le _ _) t.isLt⟩ = dirOf t :=
      (if_pos (show (t.val - 1) % 2 = 0 by omega)).trans dir_eq
    refine (StateScan.first_at m c ⟨t.val - 1, Nat.lt_of_le_of_lt (Nat.sub_le _ _) t.isLt⟩ (by show (t.val - 1) % 2 = 0; omega)
      (by show ¬(t.val - 1) % 2 = 1; omega) (ix3 h p n)).trans ?_
    rw [after_at m c real, init_at, seq_eq, dir_eq, chunk_eq]
  refine (StateScan.second_at m c t even odd y2 y3 y4).trans ?_
  rw [after_at m c real, before]
  have chunk_eq : chunkOf t = Fin.rev (dirOf t) := if_neg even
  rw [chunk_eq, ← state_eq, ← result_at]
  refine congrArg _ (funext fun a => ?_)
  fin_cases a <;> exact Fin.ext (by blk_simp [idx_val t]; rfl)

set_option maxHeartbeats 4000000 in
/-- On the same arguments, with real decays of the backward scan, the two programs leave the same result array. -/
theorem algebraic : Cert.algebraic_StateIdeal_StateRefIdeal_pre_finite_steps := by
  pair_intro
  · run_from Cert.StateIdeal.Gen.run_main m g
  · run_from Cert.StateRefIdeal.Value.run m' g'
    obtain ⟨h0, h1⟩ := hagree c
    rw [Cert.StateRefIdeal.Read.val_main_v95_eq, h0, h1]
    exact (final m c (hpre c)).symm

/-- The reference leaves its arguments as they were, and no semaphore raised: it declares none. -/
theorem ref_frame : Cert.quiescent_StateRefIdeal := fun m ρ _ =>
  (θ_run Cert.StateRefIdeal.defs _ _).mono
    (fun r h => ⟨fun c => (h c).2, sem_eq_zero_of_no_sems (by decide) r.2⟩)
    (Cert.StateRefIdeal.Value.run (F := Ideal) m ρ)

end Cert.StatePf

end
-- ==== Proof.lean ====
module

public import proofs.«01_k».proof.Defs
public import proofs.«01_k».proof.Proof.Gen.Attn
public import proofs.«01_k».proof.Proof.Gen.Attn.Frame
public import proofs.«01_k».proof.Proof.Gen.AttnIdeal
public import proofs.«01_k».proof.Proof.Gen.AttnIdeal.Frame
public import proofs.«01_k».proof.Proof.Gen.AttnIdeal.Value
public import proofs.«01_k».proof.Proof.Gen.AttnRefIdeal
public import proofs.«01_k».proof.Proof.Gen.AttnRefIdeal.Run
public import proofs.«01_k».proof.Proof.Gen.AttnRefIdeal.Read
public import proofs.«01_k».proof.Proof.Gen.Proj
public import proofs.«01_k».proof.Proof.Gen.Proj.Frame
public import proofs.«01_k».proof.Proof.Gen.ProjIdeal
public import proofs.«01_k».proof.Proof.Gen.ProjIdeal.Frame
public import proofs.«01_k».proof.Proof.Gen.ProjIdeal.Value
public import proofs.«01_k».proof.Proof.Gen.ProjRefIdeal
public import proofs.«01_k».proof.Proof.Gen.ProjRefIdeal.Run
public import proofs.«01_k».proof.Proof.Gen.ProjRefIdeal.Read
public import proofs.«01_k».proof.Proof.Gen.Gate
public import proofs.«01_k».proof.Proof.Gen.Gate.Frame
public import proofs.«01_k».proof.Proof.Gen.GateIdeal
public import proofs.«01_k».proof.Proof.Gen.GateIdeal.Frame
public import proofs.«01_k».proof.Proof.Gen.GateIdeal.Value
public import proofs.«01_k».proof.Proof.Gen.GateRefIdeal
public import proofs.«01_k».proof.Proof.Gen.GateRefIdeal.Run
public import proofs.«01_k».proof.Proof.Gen.GateRefIdeal.Read
public import proofs.«01_k».proof.Proof.Gen.Dt
public import proofs.«01_k».proof.Proof.Gen.Dt.Frame
public import proofs.«01_k».proof.Proof.Gen.DtIdeal
public import proofs.«01_k».proof.Proof.Gen.DtIdeal.Frame
public import proofs.«01_k».proof.Proof.Gen.DtIdeal.Value
public import proofs.«01_k».proof.Proof.Gen.DtRefIdeal
public import proofs.«01_k».proof.Proof.Gen.DtRefIdeal.Run
public import proofs.«01_k».proof.Proof.Gen.DtRefIdeal.Read
public import proofs.«01_k».proof.Proof.Gen.Merge
public import proofs.«01_k».proof.Proof.Gen.Merge.Frame
public import proofs.«01_k».proof.Proof.Gen.MergeIdeal
public import proofs.«01_k».proof.Proof.Gen.MergeIdeal.Frame
public import proofs.«01_k».proof.Proof.Gen.MergeIdeal.Value
public import proofs.«01_k».proof.Proof.Gen.MergeRefIdeal
public import proofs.«01_k».proof.Proof.Gen.MergeRefIdeal.Run
public import proofs.«01_k».proof.Proof.Gen.MergeRefIdeal.Read
public import proofs.«01_k».proof.Proof.Gen.OutProj
public import proofs.«01_k».proof.Proof.Gen.OutProj.Frame
public import proofs.«01_k».proof.Proof.Gen.OutProjIdeal
public import proofs.«01_k».proof.Proof.Gen.OutProjIdeal.Frame
public import proofs.«01_k».proof.Proof.Gen.OutProjIdeal.Value
public import proofs.«01_k».proof.Proof.Gen.OutProjRefIdeal
public import proofs.«01_k».proof.Proof.Gen.OutProjRefIdeal.Run
public import proofs.«01_k».proof.Proof.Gen.OutProjRefIdeal.Read
public import proofs.«01_k».proof.Proof.Gen.Swiglu
public import proofs.«01_k».proof.Proof.Gen.Swiglu.Frame
public import proofs.«01_k».proof.Proof.Gen.SwigluIdeal
public import proofs.«01_k».proof.Proof.Gen.SwigluIdeal.Frame
public import proofs.«01_k».proof.Proof.Gen.SwigluIdeal.Value
public import proofs.«01_k».proof.Proof.Gen.SwigluRefIdeal
public import proofs.«01_k».proof.Proof.Gen.SwigluRefIdeal.Run
public import proofs.«01_k».proof.Proof.Gen.SwigluRefIdeal.Read
public import proofs.«01_k».proof.Proof.Gen.Down
public import proofs.«01_k».proof.Proof.Gen.Down.Frame
public import proofs.«01_k».proof.Proof.Gen.DownIdeal
public import proofs.«01_k».proof.Proof.Gen.DownIdeal.Frame
public import proofs.«01_k».proof.Proof.Gen.DownIdeal.Value
public import proofs.«01_k».proof.Proof.Gen.DownRefIdeal
public import proofs.«01_k».proof.Proof.Gen.DownRefIdeal.Run
public import proofs.«01_k».proof.Proof.Gen.DownRefIdeal.Read
public import proofs.«01_k».proof.Proof.Gen.LnOut
public import proofs.«01_k».proof.Proof.Gen.LnOut.Frame
public import proofs.«01_k».proof.Proof.Gen.LnOutIdeal
public import proofs.«01_k».proof.Proof.Gen.LnOutIdeal.Frame
public import proofs.«01_k».proof.Proof.Gen.LnOutIdeal.Value
public import proofs.«01_k».proof.Proof.Gen.LnOutRefIdeal
public import proofs.«01_k».proof.Proof.Gen.LnOutRefIdeal.Run
public import proofs.«01_k».proof.Proof.Gen.LnOutRefIdeal.Read
public import proofs.«01_k».proof.Proof.Gen.LnMod
public import proofs.«01_k».proof.Proof.Gen.LnMod.Frame
public import proofs.«01_k».proof.Proof.Gen.LnModIdeal
public import proofs.«01_k».proof.Proof.Gen.LnModIdeal.Frame
public import proofs.«01_k».proof.Proof.Gen.LnModIdeal.Value
public import proofs.«01_k».proof.Proof.Gen.LnModRefIdeal
public import proofs.«01_k».proof.Proof.Gen.LnModRefIdeal.Run
public import proofs.«01_k».proof.Proof.Gen.LnModRefIdeal.Read
public import proofs.«01_k».proof.Proof.Gen.Modulate
public import proofs.«01_k».proof.Proof.Gen.Modulate.Frame
public import proofs.«01_k».proof.Proof.Gen.ModulateIdeal
public import proofs.«01_k».proof.Proof.Gen.ModulateIdeal.Frame
public import proofs.«01_k».proof.Proof.Gen.ModulateIdeal.Value
public import proofs.«01_k».proof.Proof.Gen.ModulateRefIdeal
public import proofs.«01_k».proof.Proof.Gen.ModulateRefIdeal.Run
public import proofs.«01_k».proof.Proof.Gen.ModulateRefIdeal.Read
public import proofs.«01_k».proof.Proof.Gen.Qkv
public import proofs.«01_k».proof.Proof.Gen.Qkv.Frame
public import proofs.«01_k».proof.Proof.Gen.QkvIdeal
public import proofs.«01_k».proof.Proof.Gen.QkvIdeal.Frame
public import proofs.«01_k».proof.Proof.Gen.QkvIdeal.Value
public import proofs.«01_k».proof.Proof.Gen.QkvRefIdeal
public import proofs.«01_k».proof.Proof.Gen.QkvRefIdeal.Run
public import proofs.«01_k».proof.Proof.Gen.QkvRefIdeal.Read
public import proofs.«01_k».proof.Proof.Gen.State
public import proofs.«01_k».proof.Proof.Gen.State.Frame
public import proofs.«01_k».proof.Proof.Gen.StateIdeal
public import proofs.«01_k».proof.Proof.Gen.StateIdeal.Frame
public import proofs.«01_k».proof.Proof.Gen.StateIdeal.Value
public import proofs.«01_k».proof.Proof.Gen.StateRefIdeal
public import proofs.«01_k».proof.Proof.Gen.StateRefIdeal.Run
public import proofs.«01_k».proof.Proof.Gen.StateRefIdeal.Read
public import proofs.«01_k».proof.Proof.Gen.Pre_finite_scores
public import proofs.«01_k».proof.Proof.Gen.Pre_finite_steps
public import proofs.«01_k».proof.Proof.AttnClaim
public import proofs.«01_k».proof.Proof.ProjPf
public import proofs.«01_k».proof.Proof.GatePf
public import proofs.«01_k».proof.Proof.DtPf
public import proofs.«01_k».proof.Proof.MergePf
public import proofs.«01_k».proof.Proof.OutProjPf
public import proofs.«01_k».proof.Proof.SwigluPf
public import proofs.«01_k».proof.Proof.DownPf
public import proofs.«01_k».proof.Proof.LnOutPf
public import proofs.«01_k».proof.Proof.LnModPf
public import proofs.«01_k».proof.Proof.ModulatePf
public import proofs.«01_k».proof.Proof.QkvPf
public import proofs.«01_k».proof.Proof.StatePf
public import Idealize.ShloMosaic.Lib.Claim
public import Idealize.ShloMosaic.Adequacy
public import Idealize.ShloMosaic.Init

@[expose] public section

noncomputable section

namespace Cert.Proof

open Idealize.ShloMosaic Idealize.SL.Sem

/-- The reference leaves its arguments as they were, and no semaphore raised: it declares none. -/
theorem ref_frame [Cert.AttnRefIdeal.Facts] : Cert.quiescent_AttnRefIdeal := fun m ρ _ =>
  (θ_run Cert.AttnRefIdeal.defs _ _).mono
    (fun r h => ⟨fun c => (h c).2, sem_eq_zero_of_no_sems (by decide) r.2⟩)
    (Cert.AttnRefIdeal.Value.run (F := Ideal) m ρ)

/-- Every claim: the frames of the programs, the idealizations' preservation, and the algebraic claims. -/
theorem claim : Cert.Claim :=
  ⟨Cert.Attn.Gen.facts,
    Cert.AttnIdeal.Gen.facts,
    Cert.AttnRefIdeal.Gen.facts,
    Cert.Proj.Gen.facts,
    Cert.ProjIdeal.Gen.facts,
    Cert.ProjRefIdeal.Gen.facts,
    Cert.Gate.Gen.facts,
    Cert.GateIdeal.Gen.facts,
    Cert.GateRefIdeal.Gen.facts,
    Cert.Dt.Gen.facts,
    Cert.DtIdeal.Gen.facts,
    Cert.DtRefIdeal.Gen.facts,
    Cert.Merge.Gen.facts,
    Cert.MergeIdeal.Gen.facts,
    Cert.MergeRefIdeal.Gen.facts,
    Cert.OutProj.Gen.facts,
    Cert.OutProjIdeal.Gen.facts,
    Cert.OutProjRefIdeal.Gen.facts,
    Cert.Swiglu.Gen.facts,
    Cert.SwigluIdeal.Gen.facts,
    Cert.SwigluRefIdeal.Gen.facts,
    Cert.Down.Gen.facts,
    Cert.DownIdeal.Gen.facts,
    Cert.DownRefIdeal.Gen.facts,
    Cert.LnOut.Gen.facts,
    Cert.LnOutIdeal.Gen.facts,
    Cert.LnOutRefIdeal.Gen.facts,
    Cert.LnMod.Gen.facts,
    Cert.LnModIdeal.Gen.facts,
    Cert.LnModRefIdeal.Gen.facts,
    Cert.Modulate.Gen.facts,
    Cert.ModulateIdeal.Gen.facts,
    Cert.ModulateRefIdeal.Gen.facts,
    Cert.Qkv.Gen.facts,
    Cert.QkvIdeal.Gen.facts,
    Cert.QkvRefIdeal.Gen.facts,
    Cert.State.Gen.facts,
    Cert.StateIdeal.Gen.facts,
    Cert.StateRefIdeal.Gen.facts,
    Cert.Pre_finite_scores.Gen.facts,
    Cert.Pre_finite_steps.Gen.facts,
    fun m ρ _ => Cert.Attn.Gen.frame m ρ,
    fun m ρ _ => Cert.AttnIdeal.Gen.frame m ρ,
    fun m ρ _ => Cert.AttnIdeal.Gen.frame m ρ,
    ref_frame,
    fun m ρ _ => ref_frame m ρ trivial,
    fun m ρ _ => Cert.Proj.Gen.frame m ρ,
    fun m ρ _ => Cert.ProjIdeal.Gen.frame m ρ,
    Cert.ProjPf.ref_frame,
    fun m ρ _ => Cert.Gate.Gen.frame m ρ,
    fun m ρ _ => Cert.GateIdeal.Gen.frame m ρ,
    Cert.GatePf.ref_frame,
    fun m ρ _ => Cert.Dt.Gen.frame m ρ,
    fun m ρ _ => Cert.DtIdeal.Gen.frame m ρ,
    Cert.DtPf.ref_frame,
    fun m ρ _ => Cert.Merge.Gen.frame m ρ,
    fun m ρ _ => Cert.MergeIdeal.Gen.frame m ρ,
    Cert.MergePf.ref_frame,
    fun m ρ _ => Cert.OutProj.Gen.frame m ρ,
    fun m ρ _ => Cert.OutProjIdeal.Gen.frame m ρ,
    Cert.OutProjPf.ref_frame,
    fun m ρ _ => Cert.Swiglu.Gen.frame m ρ,
    fun m ρ _ => Cert.SwigluIdeal.Gen.frame m ρ,
    Cert.SwigluPf.ref_frame,
    fun m ρ _ => Cert.Down.Gen.frame m ρ,
    fun m ρ _ => Cert.DownIdeal.Gen.frame m ρ,
    Cert.DownPf.ref_frame,
    fun m ρ _ => Cert.LnOut.Gen.frame m ρ,
    fun m ρ _ => Cert.LnOutIdeal.Gen.frame m ρ,
    Cert.LnOutPf.ref_frame,
    fun m ρ _ => Cert.LnMod.Gen.frame m ρ,
    fun m ρ _ => Cert.LnModIdeal.Gen.frame m ρ,
    Cert.LnModPf.ref_frame,
    fun m ρ _ => Cert.Modulate.Gen.frame m ρ,
    fun m ρ _ => Cert.ModulateIdeal.Gen.frame m ρ,
    Cert.ModulatePf.ref_frame,
    fun m ρ _ => Cert.Qkv.Gen.frame m ρ,
    fun m ρ _ => Cert.QkvIdeal.Gen.frame m ρ,
    Cert.QkvPf.ref_frame,
    fun m ρ _ => Cert.State.Gen.frame m ρ,
    fun m ρ _ => Cert.StateIdeal.Gen.frame m ρ,
    fun m ρ _ => Cert.StateIdeal.Gen.frame m ρ,
    Cert.StatePf.ref_frame,
    fun m ρ _ => Cert.StatePf.ref_frame m ρ trivial,
    trivial,
    Cert.AttnClaim.algebraic,
    trivial,
    Cert.ProjPf.algebraic,
    trivial,
    Cert.GatePf.algebraic,
    trivial,
    Cert.DtPf.algebraic,
    trivial,
    Cert.MergePf.algebraic,
    trivial,
    Cert.OutProjPf.algebraic,
    trivial,
    Cert.SwigluPf.algebraic,
    trivial,
    Cert.DownPf.algebraic,
    trivial,
    Cert.LnOutPf.algebraic,
    trivial,
    Cert.LnModPf.algebraic,
    trivial,
    Cert.ModulatePf.algebraic,
    trivial,
    Cert.QkvPf.algebraic,
    trivial,
    Cert.StatePf.algebraic⟩

end Cert.Proof

end
